-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_nonneg [hPre_scales_nonneg : Cert.Pre_scales_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_scales_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_scales_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_nonneg [hPre_scales_nonneg : Cert.Pre_scales_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_scales_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_nonneg [hKernelIdeal : Cert.KernelIdeal.Facts] [hPre_scales_nonneg : Cert.Pre_scales_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_nonneg [hReferenceIdeal : Cert.ReferenceIdeal.Facts] [hPre_scales_nonneg : Cert.Pre_scales_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_scales_nonneg [hKernelIdeal : Cert.KernelIdeal.Facts] [hReferenceIdeal : Cert.ReferenceIdeal.Facts] [hPre_scales_nonneg : Cert.Pre_scales_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scales_nonneg : Cert.Pre_scales_nonneg.Facts),
    quiescent_Kernel (hKernel := hKernel)
    ∧ quiescent_KernelIdeal (hKernelIdeal := hKernelIdeal)
    ∧ quiescent_KernelIdeal_pre_scales_nonneg (hKernelIdeal := hKernelIdeal) (hPre_scales_nonneg := hPre_scales_nonneg)
    ∧ quiescent_ReferenceIdeal (hReferenceIdeal := hReferenceIdeal)
    ∧ quiescent_ReferenceIdeal_pre_scales_nonneg (hReferenceIdeal := hReferenceIdeal) (hPre_scales_nonneg := hPre_scales_nonneg)
    ∧ preserves_Kernel_KernelIdeal
    ∧ algebraic_KernelIdeal_ReferenceIdeal_pre_scales_nonneg (hKernelIdeal := hKernelIdeal) (hReferenceIdeal := hReferenceIdeal) (hPre_scales_nonneg := hPre_scales_nonneg)
-- ==== Pre_scales_nonneg.lean ====
abbrev S6x4096x24x128 : Shape := ⟨4, ![6, 4096, 24, 128]⟩
abbrev S6x32x24 : Shape := ⟨3, ![6, 32, 24]⟩
abbrev S6x4096x8x128 : Shape := ⟨4, ![6, 4096, 8, 128]⟩
abbrev S6x32x8 : Shape := ⟨3, ![6, 32, 8]⟩
abbrev S6x8 : Shape := ⟨2, ![6, 8]⟩
abbrev S_ : Shape := ⟨0, ![]⟩

class Facts : Prop where
  bcast_S_S6x32x24 : S_.BroadcastsInDim S6x32x24 (![] : Fin 0 → Fin S6x32x24.rank)
  bcast_S_S6x32x8 : S_.BroadcastsInDim S6x32x8 (![] : Fin 0 → Fin S6x32x8.rank)

variable [Facts]

def fn {F : FTy → Type} [FloatOps F] (main_arg0 : FVec F S6x4096x24x128 .fp8e4m3) (main_arg1 : FVec F S6x32x24 .f32) (main_arg2 : FVec F S6x4096x8x128 .fp8e4m3) (main_arg3 : FVec F S6x32x8 .f32) (main_arg4 : FVec F S6x4096x8x128 .fp8e4m3) (main_arg5 : FVec F S6x8 .f32) : IVec S6x32x24 1 × IVec S6x32x8 1 :=
  let main_cst : FVec F S_ .f32 := constant S_ .f32 0x00000000#32
  let main_v0 : FVec F S6x32x24 .f32 := broadcastInDim S6x32x24 ![] bcast_S_S6x32x24 main_cst
  let main_v1 : IVec S6x32x24 1 := cmpf .oge main_arg1 main_v0
  let main_cst_0 : FVec F S_ .f32 := constant S_ .f32 0x00000000#32
  let main_v2 : FVec F S6x32x8 .f32 := broadcastInDim S6x32x8 ![] bcast_S_S6x32x8 main_cst_0
  let main_v3 : IVec S6x32x8 1 := cmpf .oge main_arg3 main_v2
  (main_v1, main_v3)
-- ==== Kernel.lean ====
abbrev S6x4096x24x128 : Shape := ⟨4, ![6, 4096, 24, 128]⟩
abbrev S6x32x24 : Shape := ⟨3, ![6, 32, 24]⟩
abbrev S6x4096x8x128 : Shape := ⟨4, ![6, 4096, 8, 128]⟩
abbrev S6x32x8 : Shape := ⟨3, ![6, 32, 8]⟩
abbrev S6x8 : Shape := ⟨2, ![6, 8]⟩
abbrev S4608 : Shape := ⟨1, ![4608]⟩
abbrev S1536 : Shape := ⟨1, ![1536]⟩
abbrev S48 : Shape := ⟨1, ![48]⟩
abbrev S6x4096x3072 : Shape := ⟨3, ![6, 4096, 3072]⟩
abbrev S6x4096x1024 : Shape := ⟨3, ![6, 4096, 1024]⟩
abbrev S48x3x4096 : Shape := ⟨3, ![48, 3, 4096]⟩
abbrev S1x4096x384 : Shape := ⟨3, ![1, 4096, 384]⟩
abbrev S1x4096x128 : Shape := ⟨3, ![1, 4096, 128]⟩
abbrev S1x3x4096 : Shape := ⟨3, ![1, 3, 4096]⟩
abbrev S128x4096 : Shape := ⟨2, ![128, 4096]⟩
abbrev S4096x256 : Shape := ⟨2, ![4096, 256]⟩
abbrev S128x128 : Shape := ⟨2, ![128, 128]⟩
abbrev S1x256x128 : Shape := ⟨3, ![1, 256, 128]⟩
abbrev S256x128 : Shape := ⟨2, ![256, 128]⟩
abbrev S128x256 : Shape := ⟨2, ![128, 256]⟩
abbrev S1 : Shape := ⟨1, ![1]⟩
abbrev S8x128 : Shape := ⟨2, ![8, 128]⟩
abbrev S256x256 : Shape := ⟨2, ![256, 256]⟩
abbrev S128 : Shape := ⟨1, ![128]⟩
abbrev S1x128 : Shape := ⟨2, ![1, 128]⟩
abbrev S16x8x128 : Shape := ⟨3, ![16, 8, 128]⟩
abbrev S1x8x128 : Shape := ⟨3, ![1, 8, 128]⟩
abbrev S1x256 : Shape := ⟨2, ![1, 256]⟩
abbrev S1x1x256 : Shape := ⟨3, ![1, 1, 256]⟩
abbrev S6x24x4096 : Shape := ⟨3, ![6, 24, 4096]⟩
abbrev S6x4096x24 : Shape := ⟨3, ![6, 4096, 24]⟩

abbrev nBuf : Space → Nat
  | .hbm => 17
  | .vmem => 12
  | .smem => 3
  | _ => 0

abbrev bufTy : (tb : Table) → Fin (tcTables nBuf tb) → BufTy
  | .hbm, ⟨0, _⟩ => ⟨S6x4096x24x128, .fp8e4m3⟩
  | .hbm, ⟨1, _⟩ => ⟨S6x32x24, .f32⟩
  | .hbm, ⟨2, _⟩ => ⟨S6x4096x8x128, .fp8e4m3⟩
  | .hbm, ⟨3, _⟩ => ⟨S6x32x8, .f32⟩
  | .hbm, ⟨4, _⟩ => ⟨S6x4096x8x128, .fp8e4m3⟩
  | .hbm, ⟨5, _⟩ => ⟨S6x8, .f32⟩
  | .hbm, ⟨6, _⟩ => ⟨S4608, .f32⟩
  | .hbm, ⟨7, _⟩ => ⟨S1536, .f32⟩
  | .hbm, ⟨8, _⟩ => ⟨S48, .f32⟩
  | .hbm, ⟨9, _⟩ => ⟨S6x4096x3072, .fp8e4m3⟩
  | .hbm, ⟨10, _⟩ => ⟨S6x4096x1024, .fp8e4m3⟩
  | .hbm, ⟨11, _⟩ => ⟨S6x4096x1024, .fp8e4m3⟩
  | .hbm, ⟨12, _⟩ => ⟨S6x4096x3072, .bf16⟩
  | .hbm, ⟨13, _⟩ => ⟨S48x3x4096, .f32⟩
  | .hbm, ⟨14, _⟩ => ⟨S6x4096x24x128, .bf16⟩
  | .hbm, ⟨15, _⟩ => ⟨S6x24x4096, .f32⟩
  | .hbm, ⟨16, _⟩ => ⟨S6x4096x24, .f32⟩
  | .local _ .vmem, ⟨0, _⟩ => ⟨S1x4096x384, .fp8e4m3⟩
  | .local _ .vmem, ⟨1, _⟩ => ⟨S1x4096x384, .fp8e4m3⟩
  | .local _ .vmem, ⟨2, _⟩ => ⟨S1x4096x128, .fp8e4m3⟩
  | .local _ .vmem, ⟨3, _⟩ => ⟨S1x4096x128, .fp8e4m3⟩
  | .local _ .vmem, ⟨4, _⟩ => ⟨S1x4096x128, .fp8e4m3⟩
  | .local _ .vmem, ⟨5, _⟩ => ⟨S1x4096x128, .fp8e4m3⟩
  | .local _ .vmem, ⟨6, _⟩ => ⟨S1x4096x384, .bf16⟩
  | .local _ .vmem, ⟨7, _⟩ => ⟨S1x4096x384, .bf16⟩
  | .local _ .vmem, ⟨8, _⟩ => ⟨S1x3x4096, .f32⟩
  | .local _ .vmem, ⟨9, _⟩ => ⟨S1x3x4096, .f32⟩
  | .local _ .vmem, ⟨10, _⟩ => ⟨S128x4096, .fp8e4m3⟩
  | .local _ .vmem, ⟨11, _⟩ => ⟨S4096x256, .f32⟩
  | .local _ .smem, ⟨0, _⟩ => ⟨S4608, .f32⟩
  | .local _ .smem, ⟨1, _⟩ => ⟨S1536, .f32⟩
  | .local _ .smem, ⟨2, _⟩ => ⟨S48, .f32⟩
  | _, _ => ⟨S6x4096x24x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![48], ![false]⟩

@[reducible] def k0_t1_loop : Scf.Loop 32 :=
  let c0_i32_10 : BitVec 32 := 0#32
  let c16_i32 : BitVec 32 := 16#32
  let v33 : BitVec 32 := Scalar.addi c0_i32_10 c16_i32
  let c1_i32_11 : BitVec 32 := 1#32
  ⟨c0_i32_10, v33, c1_i32_11⟩
def k0_mult1 (k0_t1 : Fin k0_t1_loop.trips) : BitVec 32 :=
  let c0_i32_10 : BitVec 32 := 0#32
  let c1_i32_11 : BitVec 32 := 1#32
  let arg11 : BitVec 32 := Scf.iv c0_i32_10 c1_i32_11 k0_t1
  let c256_i32 : BitVec 32 := 256#32
  let v42 : BitVec 32 := Scalar.muli arg11 c256_i32
  v42
def k0_off1 (k0_t1 : Fin k0_t1_loop.trips) : Fin 3 → Nat :=
  let c0 : Index := 0#32
  let c0_i32_10 : BitVec 32 := 0#32
  let c1_i32_11 : BitVec 32 := 1#32
  let arg11 : BitVec 32 := Scf.iv c0_i32_10 c1_i32_11 k0_t1
  let c256_i32 : BitVec 32 := 256#32
  let v42 : BitVec 32 := Scalar.muli arg11 c256_i32
  let v43 : BitVec 32 := v42
  let v44 : Index := Scalar.indexCast v43
  let c0_18 : Index := 0#32
  ![0, v44.toNat, 0]
def k0_off2 (k0_t1 : Fin k0_t1_loop.trips) : Fin 2 → Nat :=
  let c0_19 : Index := 0#32
  let c0_i32_10 : BitVec 32 := 0#32
  let c1_i32_11 : BitVec 32 := 1#32
  let arg11 : BitVec 32 := Scf.iv c0_i32_10 c1_i32_11 k0_t1
  let c256_i32 : BitVec 32 := 256#32
  let v42 : BitVec 32 := Scalar.muli arg11 c256_i32
  let v43 : BitVec 32 := v42
  let v49 : Index := Scalar.indexCast v43
  ![0, v49.toNat]
def k0_off3 (i : grid0.Coords) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c8_i32_13 : BitVec 32 := 8#32
  let v37 : BitVec 32 := Scalar.muli v16 c8_i32_13
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v38 : BitVec 32 := Scalar.addi v37 v26
  let v39 : Index := Scalar.indexCast v38
  ![v39.toNat]
@[reducible] def k0_t2_loop : Scf.Loop 32 :=
  let c0_i32_14 : BitVec 32 := 0#32
  let c16_i32_15 : BitVec 32 := 16#32
  let v41 : BitVec 32 := Scalar.addi c0_i32_14 c16_i32_15
  let c1_i32_16 : BitVec 32 := 1#32
  ⟨c0_i32_14, v41, c1_i32_16⟩
def k0_mult2 (k0_t2 : Fin k0_t2_loop.trips) : BitVec 32 :=
  let c0_i32_14 : BitVec 32 := 0#32
  let c1_i32_16 : BitVec 32 := 1#32
  let arg11 : BitVec 32 := Scf.iv c0_i32_14 c1_i32_16 k0_t2
  let c256_i32 : BitVec 32 := 256#32
  let v42 : BitVec 32 := Scalar.muli arg11 c256_i32
  v42
def k0_off4 (k0_t2 : Fin k0_t2_loop.trips) : Fin 3 → Nat :=
  let c0 : Index := 0#32
  let c0_i32_14 : BitVec 32 := 0#32
  let c1_i32_16 : BitVec 32 := 1#32
  let arg11 : BitVec 32 := Scf.iv c0_i32_14 c1_i32_16 k0_t2
  let c256_i32 : BitVec 32 := 256#32
  let v42 : BitVec 32 := Scalar.muli arg11 c256_i32
  let v43 : BitVec 32 := v42
  let v46 : Index := Scalar.indexCast v43
  let c0_19 : Index := 0#32
  ![0, v46.toNat, 0]
def k0_off5 (i : grid0.Coords) (k0_t2 : Fin k0_t2_loop.trips) (c0_i32_20 : BitVec 32) (c0_i32_18 : BitVec 32) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c32_i32 : BitVec 32 := 32#32
  let v49 : BitVec 32 := Scalar.muli v16 c32_i32
  let c0_i32_14 : BitVec 32 := 0#32
  let c1_i32_16 : BitVec 32 := 1#32
  let arg11 : BitVec 32 := Scf.iv c0_i32_14 c1_i32_16 k0_t2
  let c2_i32 : BitVec 32 := 2#32
  let v50 : BitVec 32 := Scalar.muli arg11 c2_i32
  let v51 : BitVec 32 := Scalar.addi v49 v50
  let v52 : BitVec 32 := Scalar.addi v51 c0_i32_20
  let c24_i32 : BitVec 32 := 24#32
  let v53 : BitVec 32 := Scalar.muli v52 c24_i32
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c3_i32 : BitVec 32 := 3#32
  let v44 : BitVec 32 := Scalar.muli v26 c3_i32
  let v45 : BitVec 32 := Scalar.addi v44 c0_i32_18
  let v54 : BitVec 32 := Scalar.addi v53 v45
  let v55 : Index := Scalar.indexCast v54
  ![v55.toNat]
@[reducible] def k0_t3_loop (k0_t2 : Fin k0_t2_loop.trips) : Scf.Loop 32 :=
  let c0_i32_28 : BitVec 32 := 0#32
  let c0_i32_14 : BitVec 32 := 0#32
  let c1_i32_16 : BitVec 32 := 1#32
  let arg11 : BitVec 32 := Scf.iv c0_i32_14 c1_i32_16 k0_t2
  let v69 : BitVec 32 := Scalar.subi arg11 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let c1_i32_30 : BitVec 32 := 1#32
  ⟨c0_i32_28, v73, c1_i32_30⟩
def k0_mult3 (k0_t2 : Fin k0_t2_loop.trips) (k0_t3 : Fin (k0_t3_loop k0_t2).trips) : BitVec 32 :=
  let c0_i32_28 : BitVec 32 := 0#32
  let c1_i32_30 : BitVec 32 := 1#32
  let arg12 : BitVec 32 := Scf.iv c0_i32_28 c1_i32_30 k0_t3
  let c256_i32_301 : BitVec 32 := 256#32
  let v1364 : BitVec 32 := Scalar.muli arg12 c256_i32_301
  v1364
def k0_off6 (k0_t2 : Fin k0_t2_loop.trips) (k0_t3 : Fin (k0_t3_loop k0_t2).trips) : Fin 3 → Nat :=
  let c0_302 : Index := 0#32
  let c0_i32_28 : BitVec 32 := 0#32
  let c1_i32_30 : BitVec 32 := 1#32
  let arg12 : BitVec 32 := Scf.iv c0_i32_28 c1_i32_30 k0_t3
  let c256_i32_301 : BitVec 32 := 256#32
  let v1364 : BitVec 32 := Scalar.muli arg12 c256_i32_301
  let v1365 : BitVec 32 := v1364
  let v1366 : Index := Scalar.indexCast v1365
  let c0_303 : Index := 0#32
  ![0, v1366.toNat, 0]
def k0_off7 (k0_t2 : Fin k0_t2_loop.trips) (k0_t3 : Fin (k0_t3_loop k0_t2).trips) : Fin 2 → Nat :=
  let c0_i32_28 : BitVec 32 := 0#32
  let c1_i32_30 : BitVec 32 := 1#32
  let arg12 : BitVec 32 := Scf.iv c0_i32_28 c1_i32_30 k0_t3
  let c256_i32_301 : BitVec 32 := 256#32
  let v1364 : BitVec 32 := Scalar.muli arg12 c256_i32_301
  let v1365 : BitVec 32 := v1364
  let v1370 : Index := Scalar.indexCast v1365
  let c0_305 : Index := 0#32
  ![v1370.toNat, 0]
def k0_mult4 (k0_t2 : Fin k0_t2_loop.trips) (k0_t3 : Fin (k0_t3_loop k0_t2).trips) : BitVec 32 :=
  let c0_i32_28 : BitVec 32 := 0#32
  let c1_i32_30 : BitVec 32 := 1#32
  let arg12 : BitVec 32 := Scf.iv c0_i32_28 c1_i32_30 k0_t3
  let c256_i32_306 : BitVec 32 := 256#32
  let v1374 : BitVec 32 := Scalar.muli arg12 c256_i32_306
  let c0_i32_307 : BitVec 32 := 0#32
  let v1375 : BitVec 32 := Scalar.addi v1374 c0_i32_307
  v1375
def k0_off8 (k0_t2 : Fin k0_t2_loop.trips) (k0_t3 : Fin (k0_t3_loop k0_t2).trips) (c0_i32_307 : BitVec 32) : Fin 2 → Nat :=
  let c0_i32_28 : BitVec 32 := 0#32
  let c1_i32_30 : BitVec 32 := 1#32
  let arg12 : BitVec 32 := Scf.iv c0_i32_28 c1_i32_30 k0_t3
  let c256_i32_306 : BitVec 32 := 256#32
  let v1374 : BitVec 32 := Scalar.muli arg12 c256_i32_306
  let v1375 : BitVec 32 := Scalar.addi v1374 c0_i32_307
  let v1376 : BitVec 32 := v1375
  let v1377 : Index := Scalar.indexCast v1376
  let c0_308 : Index := 0#32
  ![v1377.toNat, 0]
def k0_off9 (i : grid0.Coords) (k0_t2 : Fin k0_t2_loop.trips) (k0_t3 : Fin (k0_t3_loop k0_t2).trips) (c0_i32_311 : BitVec 32) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c32_i32_309 : BitVec 32 := 32#32
  let v1410 : BitVec 32 := Scalar.muli v16 c32_i32_309
  let c0_i32_28 : BitVec 32 := 0#32
  let c1_i32_30 : BitVec 32 := 1#32
  let arg12 : BitVec 32 := Scf.iv c0_i32_28 c1_i32_30 k0_t3
  let c2_i32_310 : BitVec 32 := 2#32
  let v1411 : BitVec 32 := Scalar.muli arg12 c2_i32_310
  let v1412 : BitVec 32 := Scalar.addi v1410 v1411
  let v1413 : BitVec 32 := Scalar.addi v1412 c0_i32_311
  let c8_i32_312 : BitVec 32 := 8#32
  let v1414 : BitVec 32 := Scalar.muli v1413 c8_i32_312
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v1415 : BitVec 32 := Scalar.addi v1414 v26
  let v1416 : Index := Scalar.indexCast v1415
  ![v1416.toNat]
def k0_mult5 (k0_t2 : Fin k0_t2_loop.trips) (k0_t3 : Fin (k0_t3_loop k0_t2).trips) : BitVec 32 :=
  let c0_i32_28 : BitVec 32 := 0#32
  let c1_i32_30 : BitVec 32 := 1#32
  let arg12 : BitVec 32 := Scf.iv c0_i32_28 c1_i32_30 k0_t3
  let c256_i32_306 : BitVec 32 := 256#32
  let v1374 : BitVec 32 := Scalar.muli arg12 c256_i32_306
  let c128_i32_313 : BitVec 32 := 128#32
  let v1422 : BitVec 32 := Scalar.addi v1374 c128_i32_313
  v1422
def k0_mult6 (k0_t2 : Fin k0_t2_loop.trips) (k0_t3 : Fin (k0_t3_loop k0_t2).trips) : BitVec 32 :=
  let c0_i32_28 : BitVec 32 := 0#32
  let c1_i32_30 : BitVec 32 := 1#32
  let arg12 : BitVec 32 := Scf.iv c0_i32_28 c1_i32_30 k0_t3
  let c256_i32_306 : BitVec 32 := 256#32
  let v1374 : BitVec 32 := Scalar.muli arg12 c256_i32_306
  let c0_i32_319 : BitVec 32 := 0#32
  let v1469 : BitVec 32 := Scalar.addi v1374 c0_i32_319
  v1469
def k0_off10 (k0_t2 : Fin k0_t2_loop.trips) (k0_t3 : Fin (k0_t3_loop k0_t2).trips) (c0_i32_319 : BitVec 32) : Fin 2 → Nat :=
  let c0_i32_28 : BitVec 32 := 0#32
  let c1_i32_30 : BitVec 32 := 1#32
  let arg12 : BitVec 32 := Scf.iv c0_i32_28 c1_i32_30 k0_t3
  let c256_i32_306 : BitVec 32 := 256#32
  let v1374 : BitVec 32 := Scalar.muli arg12 c256_i32_306
  let v1469 : BitVec 32 := Scalar.addi v1374 c0_i32_319
  let v1470 : BitVec 32 := v1469
  let v1471 : Index := Scalar.indexCast v1470
  let c128_320 : Index := 128#32
  ![v1471.toNat, 128]
def k0_mult7 (k0_t2 : Fin k0_t2_loop.trips) (k0_t3 : Fin (k0_t3_loop k0_t2).trips) : BitVec 32 :=
  let c0_i32_28 : BitVec 32 := 0#32
  let c1_i32_30 : BitVec 32 := 1#32
  let arg12 : BitVec 32 := Scf.iv c0_i32_28 c1_i32_30 k0_t3
  let c256_i32_306 : BitVec 32 := 256#32
  let v1374 : BitVec 32 := Scalar.muli arg12 c256_i32_306
  let c128_i32_325 : BitVec 32 := 128#32
  let v1516 : BitVec 32 := Scalar.addi v1374 c128_i32_325
  v1516
@[reducible] def k0_t4_loop (k0_t2 : Fin k0_t2_loop.trips) : Scf.Loop 32 :=
  let c0_i32_28 : BitVec 32 := 0#32
  let c0_i32_14 : BitVec 32 := 0#32
  let c1_i32_16 : BitVec 32 := 1#32
  let arg11 : BitVec 32 := Scf.iv c0_i32_14 c1_i32_16 k0_t2
  let v69 : BitVec 32 := Scalar.subi arg11 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let v70 : BitVec 32 := Scalar.addi c0_i32_28 v69
  let c1_i32_31 : BitVec 32 := 1#32
  ⟨v73, v70, c1_i32_31⟩
def k0_mult8 (k0_t2 : Fin k0_t2_loop.trips) (k0_t4 : Fin (k0_t4_loop k0_t2).trips) : BitVec 32 :=
  let c0_i32_28 : BitVec 32 := 0#32
  let c0_i32_14 : BitVec 32 := 0#32
  let c1_i32_16 : BitVec 32 := 1#32
  let arg11 : BitVec 32 := Scf.iv c0_i32_14 c1_i32_16 k0_t2
  let v69 : BitVec 32 := Scalar.subi arg11 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let c1_i32_31 : BitVec 32 := 1#32
  let arg12 : BitVec 32 := Scf.iv v73 c1_i32_31 k0_t4
  let c256_i32_301 : BitVec 32 := 256#32
  let v1364 : BitVec 32 := Scalar.muli arg12 c256_i32_301
  v1364
def k0_off11 (k0_t2 : Fin k0_t2_loop.trips) (k0_t4 : Fin (k0_t4_loop k0_t2).trips) : Fin 3 → Nat :=
  let c0_302 : Index := 0#32
  let c0_i32_28 : BitVec 32 := 0#32
  let c0_i32_14 : BitVec 32 := 0#32
  let c1_i32_16 : BitVec 32 := 1#32
  let arg11 : BitVec 32 := Scf.iv c0_i32_14 c1_i32_16 k0_t2
  let v69 : BitVec 32 := Scalar.subi arg11 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let c1_i32_31 : BitVec 32 := 1#32
  let arg12 : BitVec 32 := Scf.iv v73 c1_i32_31 k0_t4
  let c256_i32_301 : BitVec 32 := 256#32
  let v1364 : BitVec 32 := Scalar.muli arg12 c256_i32_301
  let v1365 : BitVec 32 := v1364
  let v1366 : Index := Scalar.indexCast v1365
  let c0_303 : Index := 0#32
  ![0, v1366.toNat, 0]
def k0_off12 (k0_t2 : Fin k0_t2_loop.trips) (k0_t4 : Fin (k0_t4_loop k0_t2).trips) : Fin 2 → Nat :=
  let c0_i32_28 : BitVec 32 := 0#32
  let c0_i32_14 : BitVec 32 := 0#32
  let c1_i32_16 : BitVec 32 := 1#32
  let arg11 : BitVec 32 := Scf.iv c0_i32_14 c1_i32_16 k0_t2
  let v69 : BitVec 32 := Scalar.subi arg11 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let c1_i32_31 : BitVec 32 := 1#32
  let arg12 : BitVec 32 := Scf.iv v73 c1_i32_31 k0_t4
  let c256_i32_301 : BitVec 32 := 256#32
  let v1364 : BitVec 32 := Scalar.muli arg12 c256_i32_301
  let v1365 : BitVec 32 := v1364
  let v1370 : Index := Scalar.indexCast v1365
  let c0_305 : Index := 0#32
  ![v1370.toNat, 0]
def k0_mult9 (k0_t2 : Fin k0_t2_loop.trips) (k0_t4 : Fin (k0_t4_loop k0_t2).trips) : BitVec 32 :=
  let c0_i32_28 : BitVec 32 := 0#32
  let c0_i32_14 : BitVec 32 := 0#32
  let c1_i32_16 : BitVec 32 := 1#32
  let arg11 : BitVec 32 := Scf.iv c0_i32_14 c1_i32_16 k0_t2
  let v69 : BitVec 32 := Scalar.subi arg11 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let c1_i32_31 : BitVec 32 := 1#32
  let arg12 : BitVec 32 := Scf.iv v73 c1_i32_31 k0_t4
  let c256_i32_306 : BitVec 32 := 256#32
  let v1374 : BitVec 32 := Scalar.muli arg12 c256_i32_306
  let c0_i32_307 : BitVec 32 := 0#32
  let v1375 : BitVec 32 := Scalar.addi v1374 c0_i32_307
  v1375
def k0_off13 (k0_t2 : Fin k0_t2_loop.trips) (k0_t4 : Fin (k0_t4_loop k0_t2).trips) (c0_i32_307 : BitVec 32) : Fin 2 → Nat :=
  let c0_i32_28 : BitVec 32 := 0#32
  let c0_i32_14 : BitVec 32 := 0#32
  let c1_i32_16 : BitVec 32 := 1#32
  let arg11 : BitVec 32 := Scf.iv c0_i32_14 c1_i32_16 k0_t2
  let v69 : BitVec 32 := Scalar.subi arg11 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let c1_i32_31 : BitVec 32 := 1#32
  let arg12 : BitVec 32 := Scf.iv v73 c1_i32_31 k0_t4
  let c256_i32_306 : BitVec 32 := 256#32
  let v1374 : BitVec 32 := Scalar.muli arg12 c256_i32_306
  let v1375 : BitVec 32 := Scalar.addi v1374 c0_i32_307
  let v1376 : BitVec 32 := v1375
  let v1377 : Index := Scalar.indexCast v1376
  let c0_308 : Index := 0#32
  ![v1377.toNat, 0]
def k0_off14 (i : grid0.Coords) (k0_t2 : Fin k0_t2_loop.trips) (k0_t4 : Fin (k0_t4_loop k0_t2).trips) (c0_i32_311 : BitVec 32) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c32_i32_309 : BitVec 32 := 32#32
  let v1410 : BitVec 32 := Scalar.muli v16 c32_i32_309
  let c0_i32_28 : BitVec 32 := 0#32
  let c0_i32_14 : BitVec 32 := 0#32
  let c1_i32_16 : BitVec 32 := 1#32
  let arg11 : BitVec 32 := Scf.iv c0_i32_14 c1_i32_16 k0_t2
  let v69 : BitVec 32 := Scalar.subi arg11 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let c1_i32_31 : BitVec 32 := 1#32
  let arg12 : BitVec 32 := Scf.iv v73 c1_i32_31 k0_t4
  let c2_i32_310 : BitVec 32 := 2#32
  let v1411 : BitVec 32 := Scalar.muli arg12 c2_i32_310
  let v1412 : BitVec 32 := Scalar.addi v1410 v1411
  let v1413 : BitVec 32 := Scalar.addi v1412 c0_i32_311
  let c8_i32_312 : BitVec 32 := 8#32
  let v1414 : BitVec 32 := Scalar.muli v1413 c8_i32_312
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v1415 : BitVec 32 := Scalar.addi v1414 v26
  let v1416 : Index := Scalar.indexCast v1415
  ![v1416.toNat]
def k0_mult10 (k0_t2 : Fin k0_t2_loop.trips) (k0_t4 : Fin (k0_t4_loop k0_t2).trips) : BitVec 32 :=
  let c0_i32_28 : BitVec 32 := 0#32
  let c0_i32_14 : BitVec 32 := 0#32
  let c1_i32_16 : BitVec 32 := 1#32
  let arg11 : BitVec 32 := Scf.iv c0_i32_14 c1_i32_16 k0_t2
  let v69 : BitVec 32 := Scalar.subi arg11 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let c1_i32_31 : BitVec 32 := 1#32
  let arg12 : BitVec 32 := Scf.iv v73 c1_i32_31 k0_t4
  let c256_i32_306 : BitVec 32 := 256#32
  let v1374 : BitVec 32 := Scalar.muli arg12 c256_i32_306
  let c128_i32_313 : BitVec 32 := 128#32
  let v1422 : BitVec 32 := Scalar.addi v1374 c128_i32_313
  v1422
def k0_mult11 (k0_t2 : Fin k0_t2_loop.trips) (k0_t4 : Fin (k0_t4_loop k0_t2).trips) : BitVec 32 :=
  let c0_i32_28 : BitVec 32 := 0#32
  let c0_i32_14 : BitVec 32 := 0#32
  let c1_i32_16 : BitVec 32 := 1#32
  let arg11 : BitVec 32 := Scf.iv c0_i32_14 c1_i32_16 k0_t2
  let v69 : BitVec 32 := Scalar.subi arg11 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let c1_i32_31 : BitVec 32 := 1#32
  let arg12 : BitVec 32 := Scf.iv v73 c1_i32_31 k0_t4
  let c256_i32_306 : BitVec 32 := 256#32
  let v1374 : BitVec 32 := Scalar.muli arg12 c256_i32_306
  let c0_i32_319 : BitVec 32 := 0#32
  let v1469 : BitVec 32 := Scalar.addi v1374 c0_i32_319
  v1469
def k0_off15 (k0_t2 : Fin k0_t2_loop.trips) (k0_t4 : Fin (k0_t4_loop k0_t2).trips) (c0_i32_319 : BitVec 32) : Fin 2 → Nat :=
  let c0_i32_28 : BitVec 32 := 0#32
  let c0_i32_14 : BitVec 32 := 0#32
  let c1_i32_16 : BitVec 32 := 1#32
  let arg11 : BitVec 32 := Scf.iv c0_i32_14 c1_i32_16 k0_t2
  let v69 : BitVec 32 := Scalar.subi arg11 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let c1_i32_31 : BitVec 32 := 1#32
  let arg12 : BitVec 32 := Scf.iv v73 c1_i32_31 k0_t4
  let c256_i32_306 : BitVec 32 := 256#32
  let v1374 : BitVec 32 := Scalar.muli arg12 c256_i32_306
  let v1469 : BitVec 32 := Scalar.addi v1374 c0_i32_319
  let v1470 : BitVec 32 := v1469
  let v1471 : Index := Scalar.indexCast v1470
  let c128_320 : Index := 128#32
  ![v1471.toNat, 128]
def k0_mult12 (k0_t2 : Fin k0_t2_loop.trips) (k0_t4 : Fin (k0_t4_loop k0_t2).trips) : BitVec 32 :=
  let c0_i32_28 : BitVec 32 := 0#32
  let c0_i32_14 : BitVec 32 := 0#32
  let c1_i32_16 : BitVec 32 := 1#32
  let arg11 : BitVec 32 := Scf.iv c0_i32_14 c1_i32_16 k0_t2
  let v69 : BitVec 32 := Scalar.subi arg11 c0_i32_28
  let c1_i32_29 : BitVec 32 := 1#32
  let v71 : BitVec 32 := Scalar.divsi v69 c1_i32_29
  let v72 : BitVec 32 := Scalar.muli v71 c1_i32_29
  let v73 : BitVec 32 := Scalar.addi c0_i32_28 v72
  let c1_i32_31 : BitVec 32 := 1#32
  let arg12 : BitVec 32 := Scf.iv v73 c1_i32_31 k0_t4
  let c256_i32_306 : BitVec 32 := 256#32
  let v1374 : BitVec 32 := Scalar.muli arg12 c256_i32_306
  let c128_i32_325 : BitVec 32 := 128#32
  let v1516 : BitVec 32 := Scalar.addi v1374 c128_i32_325
  v1516
def k0_mult13 (k0_t2 : Fin k0_t2_loop.trips) : BitVec 32 :=
  let c0_i32_14 : BitVec 32 := 0#32
  let c1_i32_16 : BitVec 32 := 1#32
  let arg11 : BitVec 32 := Scf.iv c0_i32_14 c1_i32_16 k0_t2
  let c256_i32_32 : BitVec 32 := 256#32
  let v76 : BitVec 32 := Scalar.muli arg11 c256_i32_32
  v76
def k0_off16 (k0_t2 : Fin k0_t2_loop.trips) : Fin 3 → Nat :=
  let c0_33 : Index := 0#32
  let c0_i32_14 : BitVec 32 := 0#32
  let c1_i32_16 : BitVec 32 := 1#32
  let arg11 : BitVec 32 := Scf.iv c0_i32_14 c1_i32_16 k0_t2
  let c256_i32_32 : BitVec 32 := 256#32
  let v76 : BitVec 32 := Scalar.muli arg11 c256_i32_32
  let v77 : BitVec 32 := v76
  let v78 : Index := Scalar.indexCast v77
  let c0_34 : Index := 0#32
  ![0, v78.toNat, 0]
def k0_off17 (k0_t2 : Fin k0_t2_loop.trips) : Fin 2 → Nat :=
  let c0_i32_14 : BitVec 32 := 0#32
  let c1_i32_16 : BitVec 32 := 1#32
  let arg11 : BitVec 32 := Scf.iv c0_i32_14 c1_i32_16 k0_t2
  let c256_i32_32 : BitVec 32 := 256#32
  let v76 : BitVec 32 := Scalar.muli arg11 c256_i32_32
  let v77 : BitVec 32 := v76
  let v82 : Index := Scalar.indexCast v77
  let c0_36 : Index := 0#32
  ![v82.toNat, 0]
def k0_mult14 (k0_t2 : Fin k0_t2_loop.trips) : BitVec 32 :=
  let c0_i32_14 : BitVec 32 := 0#32
  let c1_i32_16 : BitVec 32 := 1#32
  let arg11 : BitVec 32 := Scf.iv c0_i32_14 c1_i32_16 k0_t2
  let c256_i32_37 : BitVec 32 := 256#32
  let v86 : BitVec 32 := Scalar.muli arg11 c256_i32_37
  let c0_i32_38 : BitVec 32 := 0#32
  let v87 : BitVec 32 := Scalar.addi v86 c0_i32_38
  v87
def k0_off18 (k0_t2 : Fin k0_t2_loop.trips) : Fin 2 → Nat :=
  let c0_i32_14 : BitVec 32 := 0#32
  let c1_i32_16 : BitVec 32 := 1#32
  let arg11 : BitVec 32 := Scf.iv c0_i32_14 c1_i32_16 k0_t2
  let c256_i32_37 : BitVec 32 := 256#32
  let v86 : BitVec 32 := Scalar.muli arg11 c256_i32_37
  let c0_i32_38 : BitVec 32 := 0#32
  let v87 : BitVec 32 := Scalar.addi v86 c0_i32_38
  let v88 : BitVec 32 := v87
  let v89 : Index := Scalar.indexCast v88
  let c0_39 : Index := 0#32
  ![v89.toNat, 0]
def k0_off19 (i : grid0.Coords) (k0_t2 : Fin k0_t2_loop.trips) (c0_i32_43 : BitVec 32) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c32_i32_41 : BitVec 32 := 32#32
  let v124 : BitVec 32 := Scalar.muli v16 c32_i32_41
  let c0_i32_14 : BitVec 32 := 0#32
  let c1_i32_16 : BitVec 32 := 1#32
  let arg11 : BitVec 32 := Scf.iv c0_i32_14 c1_i32_16 k0_t2
  let c2_i32_42 : BitVec 32 := 2#32
  let v125 : BitVec 32 := Scalar.muli arg11 c2_i32_42
  let v126 : BitVec 32 := Scalar.addi v124 v125
  let v127 : BitVec 32 := Scalar.addi v126 c0_i32_43
  let c8_i32_44 : BitVec 32 := 8#32
  let v128 : BitVec 32 := Scalar.muli v127 c8_i32_44
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v129 : BitVec 32 := Scalar.addi v128 v26
  let v130 : Index := Scalar.indexCast v129
  ![v130.toNat]
def k0_mult15 (k0_t2 : Fin k0_t2_loop.trips) : BitVec 32 :=
  let c0_i32_14 : BitVec 32 := 0#32
  let c1_i32_16 : BitVec 32 := 1#32
  let arg11 : BitVec 32 := Scf.iv c0_i32_14 c1_i32_16 k0_t2
  let c256_i32_37 : BitVec 32 := 256#32
  let v86 : BitVec 32 := Scalar.muli arg11 c256_i32_37
  let c0_i32_45 : BitVec 32 := 0#32
  let v136 : BitVec 32 := Scalar.addi v86 c0_i32_45
  v136
def k0_off20 (k0_t2 : Fin k0_t2_loop.trips) (c0_i32_45 : BitVec 32) : Fin 2 → Nat :=
  let c0_i32_14 : BitVec 32 := 0#32
  let c1_i32_16 : BitVec 32 := 1#32
  let arg11 : BitVec 32 := Scf.iv c0_i32_14 c1_i32_16 k0_t2
  let c256_i32_37 : BitVec 32 := 256#32
  let v86 : BitVec 32 := Scalar.muli arg11 c256_i32_37
  let v136 : BitVec 32 := Scalar.addi v86 c0_i32_45
  let v137 : BitVec 32 := v136
  let v138 : Index := Scalar.indexCast v137
  let c128 : Index := 128#32
  ![v138.toNat, 128]
def k0_mult16 (k0_t2 : Fin k0_t2_loop.trips) : BitVec 32 :=
  let c0_i32_14 : BitVec 32 := 0#32
  let c1_i32_16 : BitVec 32 := 1#32
  let arg11 : BitVec 32 := Scf.iv c0_i32_14 c1_i32_16 k0_t2
  let c256_i32_37 : BitVec 32 := 256#32
  let v86 : BitVec 32 := Scalar.muli arg11 c256_i32_37
  let c128_i32 : BitVec 32 := 128#32
  let v183 : BitVec 32 := Scalar.addi v86 c128_i32
  v183
@[reducible] def k0_t5_loop (k0_t2 : Fin k0_t2_loop.trips) : Scf.Loop 32 :=
  let c0_i32_65 : BitVec 32 := 0#32
  let c0_i32_14 : BitVec 32 := 0#32
  let c1_i32_16 : BitVec 32 := 1#32
  let arg11 : BitVec 32 := Scf.iv c0_i32_14 c1_i32_16 k0_t2
  let v253 : BitVec 32 := Scalar.subi arg11 c0_i32_65
  let c1_i32_66 : BitVec 32 := 1#32
  let v255 : BitVec 32 := Scalar.divsi v253 c1_i32_66
  let v256 : BitVec 32 := Scalar.muli v255 c1_i32_66
  let v257 : BitVec 32 := Scalar.addi c0_i32_65 v256
  let c1_i32_67 : BitVec 32 := 1#32
  ⟨c0_i32_65, v257, c1_i32_67⟩
def k0_mult17 (k0_t2 : Fin k0_t2_loop.trips) (k0_t5 : Fin (k0_t5_loop k0_t2).trips) : BitVec 32 :=
  let c0_i32_65 : BitVec 32 := 0#32
  let c1_i32_67 : BitVec 32 := 1#32
  let arg12 : BitVec 32 := Scf.iv c0_i32_65 c1_i32_67 k0_t5
  let c256_i32_301 : BitVec 32 := 256#32
  let v1364 : BitVec 32 := Scalar.muli arg12 c256_i32_301
  let c0_i32_302 : BitVec 32 := 0#32
  let v1365 : BitVec 32 := Scalar.addi v1364 c0_i32_302
  v1365
def k0_off21 (k0_t2 : Fin k0_t2_loop.trips) (k0_t5 : Fin (k0_t5_loop k0_t2).trips) (c0_i32_302 : BitVec 32) : Fin 2 → Nat :=
  let c0_i32_65 : BitVec 32 := 0#32
  let c1_i32_67 : BitVec 32 := 1#32
  let arg12 : BitVec 32 := Scf.iv c0_i32_65 c1_i32_67 k0_t5
  let c256_i32_301 : BitVec 32 := 256#32
  let v1364 : BitVec 32 := Scalar.muli arg12 c256_i32_301
  let v1365 : BitVec 32 := Scalar.addi v1364 c0_i32_302
  let v1366 : BitVec 32 := v1365
  let v1367 : Index := Scalar.indexCast v1366
  let c0_303 : Index := 0#32
  ![v1367.toNat, 0]
def k0_off22 (i : grid0.Coords) (k0_t2 : Fin k0_t2_loop.trips) (k0_t5 : Fin (k0_t5_loop k0_t2).trips) (c0_i32_306 : BitVec 32) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c32_i32_304 : BitVec 32 := 32#32
  let v1369 : BitVec 32 := Scalar.muli v16 c32_i32_304
  let c0_i32_65 : BitVec 32 := 0#32
  let c1_i32_67 : BitVec 32 := 1#32
  let arg12 : BitVec 32 := Scf.iv c0_i32_65 c1_i32_67 k0_t5
  let c2_i32_305 : BitVec 32 := 2#32
  let v1370 : BitVec 32 := Scalar.muli arg12 c2_i32_305
  let v1371 : BitVec 32 := Scalar.addi v1369 v1370
  let v1372 : BitVec 32 := Scalar.addi v1371 c0_i32_306
  let c8_i32_307 : BitVec 32 := 8#32
  let v1373 : BitVec 32 := Scalar.muli v1372 c8_i32_307
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v1374 : BitVec 32 := Scalar.addi v1373 v26
  let v1375 : Index := Scalar.indexCast v1374
  ![v1375.toNat]
def k0_mult18 (k0_t2 : Fin k0_t2_loop.trips) (k0_t5 : Fin (k0_t5_loop k0_t2).trips) : BitVec 32 :=
  let c0_i32_65 : BitVec 32 := 0#32
  let c1_i32_67 : BitVec 32 := 1#32
  let arg12 : BitVec 32 := Scf.iv c0_i32_65 c1_i32_67 k0_t5
  let c256_i32_301 : BitVec 32 := 256#32
  let v1364 : BitVec 32 := Scalar.muli arg12 c256_i32_301
  let c128_i32_310 : BitVec 32 := 128#32
  let v1424 : BitVec 32 := Scalar.addi v1364 c128_i32_310
  v1424
def k0_mult19 (k0_t2 : Fin k0_t2_loop.trips) (k0_t5 : Fin (k0_t5_loop k0_t2).trips) : BitVec 32 :=
  let c0_i32_65 : BitVec 32 := 0#32
  let c1_i32_67 : BitVec 32 := 1#32
  let arg12 : BitVec 32 := Scf.iv c0_i32_65 c1_i32_67 k0_t5
  let c256_i32_301 : BitVec 32 := 256#32
  let v1364 : BitVec 32 := Scalar.muli arg12 c256_i32_301
  let c0_i32_318 : BitVec 32 := 0#32
  let v1484 : BitVec 32 := Scalar.addi v1364 c0_i32_318
  v1484
def k0_off23 (k0_t2 : Fin k0_t2_loop.trips) (k0_t5 : Fin (k0_t5_loop k0_t2).trips) (c0_i32_318 : BitVec 32) : Fin 2 → Nat :=
  let c0_i32_65 : BitVec 32 := 0#32
  let c1_i32_67 : BitVec 32 := 1#32
  let arg12 : BitVec 32 := Scf.iv c0_i32_65 c1_i32_67 k0_t5
  let c256_i32_301 : BitVec 32 := 256#32
  let v1364 : BitVec 32 := Scalar.muli arg12 c256_i32_301
  let v1484 : BitVec 32 := Scalar.addi v1364 c0_i32_318
  let v1485 : BitVec 32 := v1484
  let v1486 : Index := Scalar.indexCast v1485
  let c128_319 : Index := 128#32
  ![v1486.toNat, 128]
def k0_mult20 (k0_t2 : Fin k0_t2_loop.trips) (k0_t5 : Fin (k0_t5_loop k0_t2).trips) : BitVec 32 :=
  let c0_i32_65 : BitVec 32 := 0#32
  let c1_i32_67 : BitVec 32 := 1#32
  let arg12 : BitVec 32 := Scf.iv c0_i32_65 c1_i32_67 k0_t5
  let c256_i32_301 : BitVec 32 := 256#32
  let v1364 : BitVec 32 := Scalar.muli arg12 c256_i32_301
  let c128_i32_326 : BitVec 32 := 128#32
  let v1543 : BitVec 32 := Scalar.addi v1364 c128_i32_326
  v1543
def k0_mult21 (k0_t2 : Fin k0_t2_loop.trips) (k0_t5 : Fin (k0_t5_loop k0_t2).trips) : BitVec 32 :=
  let c0_i32_65 : BitVec 32 := 0#32
  let c1_i32_67 : BitVec 32 := 1#32
  let arg12 : BitVec 32 := Scf.iv c0_i32_65 c1_i32_67 k0_t5
  let c256_i32_301 : BitVec 32 := 256#32
  let v1364 : BitVec 32 := Scalar.muli arg12 c256_i32_301
  v1364
def k0_off24 (k0_t2 : Fin k0_t2_loop.trips) (k0_t5 : Fin (k0_t5_loop k0_t2).trips) : Fin 2 → Nat :=
  let c0_334 : Index := 0#32
  let c0_i32_65 : BitVec 32 := 0#32
  let c1_i32_67 : BitVec 32 := 1#32
  let arg12 : BitVec 32 := Scf.iv c0_i32_65 c1_i32_67 k0_t5
  let c256_i32_301 : BitVec 32 := 256#32
  let v1364 : BitVec 32 := Scalar.muli arg12 c256_i32_301
  let v1604 : BitVec 32 := v1364
  let v1605 : Index := Scalar.indexCast v1604
  ![0, v1605.toNat]
@[reducible] def k0_t6_loop (k0_t2 : Fin k0_t2_loop.trips) : Scf.Loop 32 :=
  let c0_i32_65 : BitVec 32 := 0#32
  let c0_i32_14 : BitVec 32 := 0#32
  let c1_i32_16 : BitVec 32 := 1#32
  let arg11 : BitVec 32 := Scf.iv c0_i32_14 c1_i32_16 k0_t2
  let v253 : BitVec 32 := Scalar.subi arg11 c0_i32_65
  let c1_i32_66 : BitVec 32 := 1#32
  let v255 : BitVec 32 := Scalar.divsi v253 c1_i32_66
  let v256 : BitVec 32 := Scalar.muli v255 c1_i32_66
  let v257 : BitVec 32 := Scalar.addi c0_i32_65 v256
  let v254 : BitVec 32 := Scalar.addi c0_i32_65 v253
  let c1_i32_68 : BitVec 32 := 1#32
  ⟨v257, v254, c1_i32_68⟩
def k0_mult22 (k0_t2 : Fin k0_t2_loop.trips) (k0_t6 : Fin (k0_t6_loop k0_t2).trips) : BitVec 32 :=
  let c0_i32_65 : BitVec 32 := 0#32
  let c0_i32_14 : BitVec 32 := 0#32
  let c1_i32_16 : BitVec 32 := 1#32
  let arg11 : BitVec 32 := Scf.iv c0_i32_14 c1_i32_16 k0_t2
  let v253 : BitVec 32 := Scalar.subi arg11 c0_i32_65
  let c1_i32_66 : BitVec 32 := 1#32
  let v255 : BitVec 32 := Scalar.divsi v253 c1_i32_66
  let v256 : BitVec 32 := Scalar.muli v255 c1_i32_66
  let v257 : BitVec 32 := Scalar.addi c0_i32_65 v256
  let c1_i32_68 : BitVec 32 := 1#32
  let arg12 : BitVec 32 := Scf.iv v257 c1_i32_68 k0_t6
  let c256_i32_301 : BitVec 32 := 256#32
  let v1364 : BitVec 32 := Scalar.muli arg12 c256_i32_301
  let c0_i32_302 : BitVec 32 := 0#32
  let v1365 : BitVec 32 := Scalar.addi v1364 c0_i32_302
  v1365
def k0_off25 (k0_t2 : Fin k0_t2_loop.trips) (k0_t6 : Fin (k0_t6_loop k0_t2).trips) (c0_i32_302 : BitVec 32) : Fin 2 → Nat :=
  let c0_i32_65 : BitVec 32 := 0#32
  let c0_i32_14 : BitVec 32 := 0#32
  let c1_i32_16 : BitVec 32 := 1#32
  let arg11 : BitVec 32 := Scf.iv c0_i32_14 c1_i32_16 k0_t2
  let v253 : BitVec 32 := Scalar.subi arg11 c0_i32_65
  let c1_i32_66 : BitVec 32 := 1#32
  let v255 : BitVec 32 := Scalar.divsi v253 c1_i32_66
  let v256 : BitVec 32 := Scalar.muli v255 c1_i32_66
  let v257 : BitVec 32 := Scalar.addi c0_i32_65 v256
  let c1_i32_68 : BitVec 32 := 1#32
  let arg12 : BitVec 32 := Scf.iv v257 c1_i32_68 k0_t6
  let c256_i32_301 : BitVec 32 := 256#32
  let v1364 : BitVec 32 := Scalar.muli arg12 c256_i32_301
  let v1365 : BitVec 32 := Scalar.addi v1364 c0_i32_302
  let v1366 : BitVec 32 := v1365
  let v1367 : Index := Scalar.indexCast v1366
  let c0_303 : Index := 0#32
  ![v1367.toNat, 0]
def k0_off26 (i : grid0.Coords) (k0_t2 : Fin k0_t2_loop.trips) (k0_t6 : Fin (k0_t6_loop k0_t2).trips) (c0_i32_306 : BitVec 32) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c32_i32_304 : BitVec 32 := 32#32
  let v1369 : BitVec 32 := Scalar.muli v16 c32_i32_304
  let c0_i32_65 : BitVec 32 := 0#32
  let c0_i32_14 : BitVec 32 := 0#32
  let c1_i32_16 : BitVec 32 := 1#32
  let arg11 : BitVec 32 := Scf.iv c0_i32_14 c1_i32_16 k0_t2
  let v253 : BitVec 32 := Scalar.subi arg11 c0_i32_65
  let c1_i32_66 : BitVec 32 := 1#32
  let v255 : BitVec 32 := Scalar.divsi v253 c1_i32_66
  let v256 : BitVec 32 := Scalar.muli v255 c1_i32_66
  let v257 : BitVec 32 := Scalar.addi c0_i32_65 v256
  let c1_i32_68 : BitVec 32 := 1#32
  let arg12 : BitVec 32 := Scf.iv v257 c1_i32_68 k0_t6
  let c2_i32_305 : BitVec 32 := 2#32
  let v1370 : BitVec 32 := Scalar.muli arg12 c2_i32_305
  let v1371 : BitVec 32 := Scalar.addi v1369 v1370
  let v1372 : BitVec 32 := Scalar.addi v1371 c0_i32_306
  let c8_i32_307 : BitVec 32 := 8#32
  let v1373 : BitVec 32 := Scalar.muli v1372 c8_i32_307
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v1374 : BitVec 32 := Scalar.addi v1373 v26
  let v1375 : Index := Scalar.indexCast v1374
  ![v1375.toNat]
def k0_mult23 (k0_t2 : Fin k0_t2_loop.trips) (k0_t6 : Fin (k0_t6_loop k0_t2).trips) : BitVec 32 :=
  let c0_i32_65 : BitVec 32 := 0#32
  let c0_i32_14 : BitVec 32 := 0#32
  let c1_i32_16 : BitVec 32 := 1#32
  let arg11 : BitVec 32 := Scf.iv c0_i32_14 c1_i32_16 k0_t2
  let v253 : BitVec 32 := Scalar.subi arg11 c0_i32_65
  let c1_i32_66 : BitVec 32 := 1#32
  let v255 : BitVec 32 := Scalar.divsi v253 c1_i32_66
  let v256 : BitVec 32 := Scalar.muli v255 c1_i32_66
  let v257 : BitVec 32 := Scalar.addi c0_i32_65 v256
  let c1_i32_68 : BitVec 32 := 1#32
  let arg12 : BitVec 32 := Scf.iv v257 c1_i32_68 k0_t6
  let c256_i32_301 : BitVec 32 := 256#32
  let v1364 : BitVec 32 := Scalar.muli arg12 c256_i32_301
  let c128_i32_310 : BitVec 32 := 128#32
  let v1424 : BitVec 32 := Scalar.addi v1364 c128_i32_310
  v1424
def k0_mult24 (k0_t2 : Fin k0_t2_loop.trips) (k0_t6 : Fin (k0_t6_loop k0_t2).trips) : BitVec 32 :=
  let c0_i32_65 : BitVec 32 := 0#32
  let c0_i32_14 : BitVec 32 := 0#32
  let c1_i32_16 : BitVec 32 := 1#32
  let arg11 : BitVec 32 := Scf.iv c0_i32_14 c1_i32_16 k0_t2
  let v253 : BitVec 32 := Scalar.subi arg11 c0_i32_65
  let c1_i32_66 : BitVec 32 := 1#32
  let v255 : BitVec 32 := Scalar.divsi v253 c1_i32_66
  let v256 : BitVec 32 := Scalar.muli v255 c1_i32_66
  let v257 : BitVec 32 := Scalar.addi c0_i32_65 v256
  let c1_i32_68 : BitVec 32 := 1#32
  let arg12 : BitVec 32 := Scf.iv v257 c1_i32_68 k0_t6
  let c256_i32_301 : BitVec 32 := 256#32
  let v1364 : BitVec 32 := Scalar.muli arg12 c256_i32_301
  let c0_i32_318 : BitVec 32 := 0#32
  let v1484 : BitVec 32 := Scalar.addi v1364 c0_i32_318
  v1484
def k0_off27 (k0_t2 : Fin k0_t2_loop.trips) (k0_t6 : Fin (k0_t6_loop k0_t2).trips) (c0_i32_318 : BitVec 32) : Fin 2 → Nat :=
  let c0_i32_65 : BitVec 32 := 0#32
  let c0_i32_14 : BitVec 32 := 0#32
  let c1_i32_16 : BitVec 32 := 1#32
  let arg11 : BitVec 32 := Scf.iv c0_i32_14 c1_i32_16 k0_t2
  let v253 : BitVec 32 := Scalar.subi arg11 c0_i32_65
  let c1_i32_66 : BitVec 32 := 1#32
  let v255 : BitVec 32 := Scalar.divsi v253 c1_i32_66
  let v256 : BitVec 32 := Scalar.muli v255 c1_i32_66
  let v257 : BitVec 32 := Scalar.addi c0_i32_65 v256
  let c1_i32_68 : BitVec 32 := 1#32
  let arg12 : BitVec 32 := Scf.iv v257 c1_i32_68 k0_t6
  let c256_i32_301 : BitVec 32 := 256#32
  let v1364 : BitVec 32 := Scalar.muli arg12 c256_i32_301
  let v1484 : BitVec 32 := Scalar.addi v1364 c0_i32_318
  let v1485 : BitVec 32 := v1484
  let v1486 : Index := Scalar.indexCast v1485
  let c128_319 : Index := 128#32
  ![v1486.toNat, 128]
def k0_mult25 (k0_t2 : Fin k0_t2_loop.trips) (k0_t6 : Fin (k0_t6_loop k0_t2).trips) : BitVec 32 :=
  let c0_i32_65 : BitVec 32 := 0#32
  let c0_i32_14 : BitVec 32 := 0#32
  let c1_i32_16 : BitVec 32 := 1#32
  let arg11 : BitVec 32 := Scf.iv c0_i32_14 c1_i32_16 k0_t2
  let v253 : BitVec 32 := Scalar.subi arg11 c0_i32_65
  let c1_i32_66 : BitVec 32 := 1#32
  let v255 : BitVec 32 := Scalar.divsi v253 c1_i32_66
  let v256 : BitVec 32 := Scalar.muli v255 c1_i32_66
  let v257 : BitVec 32 := Scalar.addi c0_i32_65 v256
  let c1_i32_68 : BitVec 32 := 1#32
  let arg12 : BitVec 32 := Scf.iv v257 c1_i32_68 k0_t6
  let c256_i32_301 : BitVec 32 := 256#32
  let v1364 : BitVec 32 := Scalar.muli arg12 c256_i32_301
  let c128_i32_326 : BitVec 32 := 128#32
  let v1543 : BitVec 32 := Scalar.addi v1364 c128_i32_326
  v1543
def k0_mult26 (k0_t2 : Fin k0_t2_loop.trips) (k0_t6 : Fin (k0_t6_loop k0_t2).trips) : BitVec 32 :=
  let c0_i32_65 : BitVec 32 := 0#32
  let c0_i32_14 : BitVec 32 := 0#32
  let c1_i32_16 : BitVec 32 := 1#32
  let arg11 : BitVec 32 := Scf.iv c0_i32_14 c1_i32_16 k0_t2
  let v253 : BitVec 32 := Scalar.subi arg11 c0_i32_65
  let c1_i32_66 : BitVec 32 := 1#32
  let v255 : BitVec 32 := Scalar.divsi v253 c1_i32_66
  let v256 : BitVec 32 := Scalar.muli v255 c1_i32_66
  let v257 : BitVec 32 := Scalar.addi c0_i32_65 v256
  let c1_i32_68 : BitVec 32 := 1#32
  let arg12 : BitVec 32 := Scf.iv v257 c1_i32_68 k0_t6
  let c256_i32_301 : BitVec 32 := 256#32
  let v1364 : BitVec 32 := Scalar.muli arg12 c256_i32_301
  v1364
def k0_off28 (k0_t2 : Fin k0_t2_loop.trips) (k0_t6 : Fin (k0_t6_loop k0_t2).trips) : Fin 2 → Nat :=
  let c0_334 : Index := 0#32
  let c0_i32_65 : BitVec 32 := 0#32
  let c0_i32_14 : BitVec 32 := 0#32
  let c1_i32_16 : BitVec 32 := 1#32
  let arg11 : BitVec 32 := Scf.iv c0_i32_14 c1_i32_16 k0_t2
  let v253 : BitVec 32 := Scalar.subi arg11 c0_i32_65
  let c1_i32_66 : BitVec 32 := 1#32
  let v255 : BitVec 32 := Scalar.divsi v253 c1_i32_66
  let v256 : BitVec 32 := Scalar.muli v255 c1_i32_66
  let v257 : BitVec 32 := Scalar.addi c0_i32_65 v256
  let c1_i32_68 : BitVec 32 := 1#32
  let arg12 : BitVec 32 := Scf.iv v257 c1_i32_68 k0_t6
  let c256_i32_301 : BitVec 32 := 256#32
  let v1364 : BitVec 32 := Scalar.muli arg12 c256_i32_301
  let v1604 : BitVec 32 := v1364
  let v1605 : Index := Scalar.indexCast v1604
  ![0, v1605.toNat]
def k0_mult27 (k0_t2 : Fin k0_t2_loop.trips) : BitVec 32 :=
  let c0_i32_14 : BitVec 32 := 0#32
  let c1_i32_16 : BitVec 32 := 1#32
  let arg11 : BitVec 32 := Scf.iv c0_i32_14 c1_i32_16 k0_t2
  let c256_i32_69 : BitVec 32 := 256#32
  let v260 : BitVec 32 := Scalar.muli arg11 c256_i32_69
  let c0_i32_70 : BitVec 32 := 0#32
  let v261 : BitVec 32 := Scalar.addi v260 c0_i32_70
  v261
def k0_mult28 (k0_t2 : Fin k0_t2_loop.trips) : BitVec 32 :=
  let c0_i32_14 : BitVec 32 := 0#32
  let c1_i32_16 : BitVec 32 := 1#32
  let arg11 : BitVec 32 := Scf.iv c0_i32_14 c1_i32_16 k0_t2
  let c256_i32_69 : BitVec 32 := 256#32
  let v260 : BitVec 32 := Scalar.muli arg11 c256_i32_69
  let c0_i32_80 : BitVec 32 := 0#32
  let v324 : BitVec 32 := Scalar.addi v260 c0_i32_80
  v324
def k0_mult29 (k0_t2 : Fin k0_t2_loop.trips) : BitVec 32 :=
  let c0_i32_14 : BitVec 32 := 0#32
  let c1_i32_16 : BitVec 32 := 1#32
  let arg11 : BitVec 32 := Scf.iv c0_i32_14 c1_i32_16 k0_t2
  let c256_i32_69 : BitVec 32 := 256#32
  let v260 : BitVec 32 := Scalar.muli arg11 c256_i32_69
  let c128_i32_88 : BitVec 32 := 128#32
  let v383 : BitVec 32 := Scalar.addi v260 c128_i32_88
  v383
def k0_mult30 (k0_t2 : Fin k0_t2_loop.trips) : BitVec 32 :=
  let c0_i32_14 : BitVec 32 := 0#32
  let c1_i32_16 : BitVec 32 := 1#32
  let arg11 : BitVec 32 := Scf.iv c0_i32_14 c1_i32_16 k0_t2
  let c256_i32_69 : BitVec 32 := 256#32
  let v260 : BitVec 32 := Scalar.muli arg11 c256_i32_69
  v260
def k0_off29 (k0_t2 : Fin k0_t2_loop.trips) : Fin 2 → Nat :=
  let c0_97 : Index := 0#32
  let c0_i32_14 : BitVec 32 := 0#32
  let c1_i32_16 : BitVec 32 := 1#32
  let arg11 : BitVec 32 := Scf.iv c0_i32_14 c1_i32_16 k0_t2
  let c256_i32_69 : BitVec 32 := 256#32
  let v260 : BitVec 32 := Scalar.muli arg11 c256_i32_69
  let v446 : BitVec 32 := v260
  let v447 : Index := Scalar.indexCast v446
  ![0, v447.toNat]
def k0_off30 (k0_t2 : Fin k0_t2_loop.trips) : Fin 3 → Nat :=
  let c0_106 : Index := 0#32
  let c0_107 : Index := 0#32
  let c0_i32_14 : BitVec 32 := 0#32
  let c1_i32_16 : BitVec 32 := 1#32
  let arg11 : BitVec 32 := Scf.iv c0_i32_14 c1_i32_16 k0_t2
  let c256_i32 : BitVec 32 := 256#32
  let v42 : BitVec 32 := Scalar.muli arg11 c256_i32
  let v43 : BitVec 32 := v42
  let v480 : Index := Scalar.indexCast v43
  ![0, 0, v480.toNat]
def k0_off31 (k0_t2 : Fin k0_t2_loop.trips) : Fin 3 → Nat :=
  let c0_110 : Index := 0#32
  let c0_i32_14 : BitVec 32 := 0#32
  let c1_i32_16 : BitVec 32 := 1#32
  let arg11 : BitVec 32 := Scf.iv c0_i32_14 c1_i32_16 k0_t2
  let c256_i32 : BitVec 32 := 256#32
  let v42 : BitVec 32 := Scalar.muli arg11 c256_i32
  let v43 : BitVec 32 := v42
  let v486 : Index := Scalar.indexCast v43
  let c128_111 : Index := 128#32
  ![0, v486.toNat, 128]
@[reducible] def k0_t7_loop (k0_t2 : Fin k0_t2_loop.trips) : Scf.Loop 32 :=
  let c0_i32_124 : BitVec 32 := 0#32
  let c0_i32_14 : BitVec 32 := 0#32
  let c1_i32_16 : BitVec 32 := 1#32
  let arg11 : BitVec 32 := Scf.iv c0_i32_14 c1_i32_16 k0_t2
  let v509 : BitVec 32 := Scalar.subi arg11 c0_i32_124
  let c1_i32_125 : BitVec 32 := 1#32
  let v511 : BitVec 32 := Scalar.divsi v509 c1_i32_125
  let v512 : BitVec 32 := Scalar.muli v511 c1_i32_125
  let v513 : BitVec 32 := Scalar.addi c0_i32_124 v512
  let c1_i32_126 : BitVec 32 := 1#32
  ⟨c0_i32_124, v513, c1_i32_126⟩
def k0_mult31 (k0_t2 : Fin k0_t2_loop.trips) (k0_t7 : Fin (k0_t7_loop k0_t2).trips) : BitVec 32 :=
  let c0_i32_124 : BitVec 32 := 0#32
  let c1_i32_126 : BitVec 32 := 1#32
  let arg12 : BitVec 32 := Scf.iv c0_i32_124 c1_i32_126 k0_t7
  let c256_i32_301 : BitVec 32 := 256#32
  let v1364 : BitVec 32 := Scalar.muli arg12 c256_i32_301
  v1364
def k0_off32 (k0_t2 : Fin k0_t2_loop.trips) (k0_t7 : Fin (k0_t7_loop k0_t2).trips) : Fin 3 → Nat :=
  let c0_302 : Index := 0#32
  let c0_i32_124 : BitVec 32 := 0#32
  let c1_i32_126 : BitVec 32 := 1#32
  let arg12 : BitVec 32 := Scf.iv c0_i32_124 c1_i32_126 k0_t7
  let c256_i32_301 : BitVec 32 := 256#32
  let v1364 : BitVec 32 := Scalar.muli arg12 c256_i32_301
  let v1365 : BitVec 32 := v1364
  let v1366 : Index := Scalar.indexCast v1365
  let c0_303 : Index := 0#32
  ![0, v1366.toNat, 0]
def k0_off33 (k0_t2 : Fin k0_t2_loop.trips) (k0_t7 : Fin (k0_t7_loop k0_t2).trips) : Fin 2 → Nat :=
  let c0_i32_124 : BitVec 32 := 0#32
  let c1_i32_126 : BitVec 32 := 1#32
  let arg12 : BitVec 32 := Scf.iv c0_i32_124 c1_i32_126 k0_t7
  let c256_i32_301 : BitVec 32 := 256#32
  let v1364 : BitVec 32 := Scalar.muli arg12 c256_i32_301
  let v1365 : BitVec 32 := v1364
  let v1370 : Index := Scalar.indexCast v1365
  let c0_305 : Index := 0#32
  ![v1370.toNat, 0]
def k0_mult32 (k0_t2 : Fin k0_t2_loop.trips) (k0_t7 : Fin (k0_t7_loop k0_t2).trips) : BitVec 32 :=
  let c0_i32_124 : BitVec 32 := 0#32
  let c1_i32_126 : BitVec 32 := 1#32
  let arg12 : BitVec 32 := Scf.iv c0_i32_124 c1_i32_126 k0_t7
  let c256_i32_306 : BitVec 32 := 256#32
  let v1374 : BitVec 32 := Scalar.muli arg12 c256_i32_306
  let c0_i32_307 : BitVec 32 := 0#32
  let v1375 : BitVec 32 := Scalar.addi v1374 c0_i32_307
  v1375
def k0_off34 (k0_t2 : Fin k0_t2_loop.trips) (k0_t7 : Fin (k0_t7_loop k0_t2).trips) (c0_i32_307 : BitVec 32) : Fin 2 → Nat :=
  let c0_i32_124 : BitVec 32 := 0#32
  let c1_i32_126 : BitVec 32 := 1#32
  let arg12 : BitVec 32 := Scf.iv c0_i32_124 c1_i32_126 k0_t7
  let c256_i32_306 : BitVec 32 := 256#32
  let v1374 : BitVec 32 := Scalar.muli arg12 c256_i32_306
  let v1375 : BitVec 32 := Scalar.addi v1374 c0_i32_307
  let v1376 : BitVec 32 := v1375
  let v1377 : Index := Scalar.indexCast v1376
  let c0_308 : Index := 0#32
  ![v1377.toNat, 0]
def k0_off35 (i : grid0.Coords) (k0_t2 : Fin k0_t2_loop.trips) (k0_t7 : Fin (k0_t7_loop k0_t2).trips) (c0_i32_311 : BitVec 32) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c32_i32_309 : BitVec 32 := 32#32
  let v1410 : BitVec 32 := Scalar.muli v16 c32_i32_309
  let c0_i32_124 : BitVec 32 := 0#32
  let c1_i32_126 : BitVec 32 := 1#32
  let arg12 : BitVec 32 := Scf.iv c0_i32_124 c1_i32_126 k0_t7
  let c2_i32_310 : BitVec 32 := 2#32
  let v1411 : BitVec 32 := Scalar.muli arg12 c2_i32_310
  let v1412 : BitVec 32 := Scalar.addi v1410 v1411
  let v1413 : BitVec 32 := Scalar.addi v1412 c0_i32_311
  let c8_i32_312 : BitVec 32 := 8#32
  let v1414 : BitVec 32 := Scalar.muli v1413 c8_i32_312
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v1415 : BitVec 32 := Scalar.addi v1414 v26
  let v1416 : Index := Scalar.indexCast v1415
  ![v1416.toNat]
def k0_mult33 (k0_t2 : Fin k0_t2_loop.trips) (k0_t7 : Fin (k0_t7_loop k0_t2).trips) : BitVec 32 :=
  let c0_i32_124 : BitVec 32 := 0#32
  let c1_i32_126 : BitVec 32 := 1#32
  let arg12 : BitVec 32 := Scf.iv c0_i32_124 c1_i32_126 k0_t7
  let c256_i32_306 : BitVec 32 := 256#32
  let v1374 : BitVec 32 := Scalar.muli arg12 c256_i32_306
  let c128_i32_313 : BitVec 32 := 128#32
  let v1422 : BitVec 32 := Scalar.addi v1374 c128_i32_313
  v1422
def k0_mult34 (k0_t2 : Fin k0_t2_loop.trips) (k0_t7 : Fin (k0_t7_loop k0_t2).trips) : BitVec 32 :=
  let c0_i32_124 : BitVec 32 := 0#32
  let c1_i32_126 : BitVec 32 := 1#32
  let arg12 : BitVec 32 := Scf.iv c0_i32_124 c1_i32_126 k0_t7
  let c256_i32_306 : BitVec 32 := 256#32
  let v1374 : BitVec 32 := Scalar.muli arg12 c256_i32_306
  let c0_i32_319 : BitVec 32 := 0#32
  let v1469 : BitVec 32 := Scalar.addi v1374 c0_i32_319
  v1469
def k0_off36 (k0_t2 : Fin k0_t2_loop.trips) (k0_t7 : Fin (k0_t7_loop k0_t2).trips) (c0_i32_319 : BitVec 32) : Fin 2 → Nat :=
  let c0_i32_124 : BitVec 32 := 0#32
  let c1_i32_126 : BitVec 32 := 1#32
  let arg12 : BitVec 32 := Scf.iv c0_i32_124 c1_i32_126 k0_t7
  let c256_i32_306 : BitVec 32 := 256#32
  let v1374 : BitVec 32 := Scalar.muli arg12 c256_i32_306
  let v1469 : BitVec 32 := Scalar.addi v1374 c0_i32_319
  let v1470 : BitVec 32 := v1469
  let v1471 : Index := Scalar.indexCast v1470
  let c128_320 : Index := 128#32
  ![v1471.toNat, 128]
def k0_mult35 (k0_t2 : Fin k0_t2_loop.trips) (k0_t7 : Fin (k0_t7_loop k0_t2).trips) : BitVec 32 :=
  let c0_i32_124 : BitVec 32 := 0#32
  let c1_i32_126 : BitVec 32 := 1#32
  let arg12 : BitVec 32 := Scf.iv c0_i32_124 c1_i32_126 k0_t7
  let c256_i32_306 : BitVec 32 := 256#32
  let v1374 : BitVec 32 := Scalar.muli arg12 c256_i32_306
  let c128_i32_325 : BitVec 32 := 128#32
  let v1516 : BitVec 32 := Scalar.addi v1374 c128_i32_325
  v1516
@[reducible] def k0_t8_loop (k0_t2 : Fin k0_t2_loop.trips) : Scf.Loop 32 :=
  let c0_i32_124 : BitVec 32 := 0#32
  let c0_i32_14 : BitVec 32 := 0#32
  let c1_i32_16 : BitVec 32 := 1#32
  let arg11 : BitVec 32 := Scf.iv c0_i32_14 c1_i32_16 k0_t2
  let v509 : BitVec 32 := Scalar.subi arg11 c0_i32_124
  let c1_i32_125 : BitVec 32 := 1#32
  let v511 : BitVec 32 := Scalar.divsi v509 c1_i32_125
  let v512 : BitVec 32 := Scalar.muli v511 c1_i32_125
  let v513 : BitVec 32 := Scalar.addi c0_i32_124 v512
  let v510 : BitVec 32 := Scalar.addi c0_i32_124 v509
  let c1_i32_127 : BitVec 32 := 1#32
  ⟨v513, v510, c1_i32_127⟩
def k0_mult36 (k0_t2 : Fin k0_t2_loop.trips) (k0_t8 : Fin (k0_t8_loop k0_t2).trips) : BitVec 32 :=
  let c0_i32_124 : BitVec 32 := 0#32
  let c0_i32_14 : BitVec 32 := 0#32
  let c1_i32_16 : BitVec 32 := 1#32
  let arg11 : BitVec 32 := Scf.iv c0_i32_14 c1_i32_16 k0_t2
  let v509 : BitVec 32 := Scalar.subi arg11 c0_i32_124
  let c1_i32_125 : BitVec 32 := 1#32
  let v511 : BitVec 32 := Scalar.divsi v509 c1_i32_125
  let v512 : BitVec 32 := Scalar.muli v511 c1_i32_125
  let v513 : BitVec 32 := Scalar.addi c0_i32_124 v512
  let c1_i32_127 : BitVec 32 := 1#32
  let arg12 : BitVec 32 := Scf.iv v513 c1_i32_127 k0_t8
  let c256_i32_301 : BitVec 32 := 256#32
  let v1364 : BitVec 32 := Scalar.muli arg12 c256_i32_301
  v1364
def k0_off37 (k0_t2 : Fin k0_t2_loop.trips) (k0_t8 : Fin (k0_t8_loop k0_t2).trips) : Fin 3 → Nat :=
  let c0_302 : Index := 0#32
  let c0_i32_124 : BitVec 32 := 0#32
  let c0_i32_14 : BitVec 32 := 0#32
  let c1_i32_16 : BitVec 32 := 1#32
  let arg11 : BitVec 32 := Scf.iv c0_i32_14 c1_i32_16 k0_t2
  let v509 : BitVec 32 := Scalar.subi arg11 c0_i32_124
  let c1_i32_125 : BitVec 32 := 1#32
  let v511 : BitVec 32 := Scalar.divsi v509 c1_i32_125
  let v512 : BitVec 32 := Scalar.muli v511 c1_i32_125
  let v513 : BitVec 32 := Scalar.addi c0_i32_124 v512
  let c1_i32_127 : BitVec 32 := 1#32
  let arg12 : BitVec 32 := Scf.iv v513 c1_i32_127 k0_t8
  let c256_i32_301 : BitVec 32 := 256#32
  let v1364 : BitVec 32 := Scalar.muli arg12 c256_i32_301
  let v1365 : BitVec 32 := v1364
  let v1366 : Index := Scalar.indexCast v1365
  let c0_303 : Index := 0#32
  ![0, v1366.toNat, 0]
def k0_off38 (k0_t2 : Fin k0_t2_loop.trips) (k0_t8 : Fin (k0_t8_loop k0_t2).trips) : Fin 2 → Nat :=
  let c0_i32_124 : BitVec 32 := 0#32
  let c0_i32_14 : BitVec 32 := 0#32
  let c1_i32_16 : BitVec 32 := 1#32
  let arg11 : BitVec 32 := Scf.iv c0_i32_14 c1_i32_16 k0_t2
  let v509 : BitVec 32 := Scalar.subi arg11 c0_i32_124
  let c1_i32_125 : BitVec 32 := 1#32
  let v511 : BitVec 32 := Scalar.divsi v509 c1_i32_125
  let v512 : BitVec 32 := Scalar.muli v511 c1_i32_125
  let v513 : BitVec 32 := Scalar.addi c0_i32_124 v512
  let c1_i32_127 : BitVec 32 := 1#32
  let arg12 : BitVec 32 := Scf.iv v513 c1_i32_127 k0_t8
  let c256_i32_301 : BitVec 32 := 256#32
  let v1364 : BitVec 32 := Scalar.muli arg12 c256_i32_301
  let v1365 : BitVec 32 := v1364
  let v1370 : Index := Scalar.indexCast v1365
  let c0_305 : Index := 0#32
  ![v1370.toNat, 0]
def k0_mult37 (k0_t2 : Fin k0_t2_loop.trips) (k0_t8 : Fin (k0_t8_loop k0_t2).trips) : BitVec 32 :=
  let c0_i32_124 : BitVec 32 := 0#32
  let c0_i32_14 : BitVec 32 := 0#32
  let c1_i32_16 : BitVec 32 := 1#32
  let arg11 : BitVec 32 := Scf.iv c0_i32_14 c1_i32_16 k0_t2
  let v509 : BitVec 32 := Scalar.subi arg11 c0_i32_124
  let c1_i32_125 : BitVec 32 := 1#32
  let v511 : BitVec 32 := Scalar.divsi v509 c1_i32_125
  let v512 : BitVec 32 := Scalar.muli v511 c1_i32_125
  let v513 : BitVec 32 := Scalar.addi c0_i32_124 v512
  let c1_i32_127 : BitVec 32 := 1#32
  let arg12 : BitVec 32 := Scf.iv v513 c1_i32_127 k0_t8
  let c256_i32_306 : BitVec 32 := 256#32
  let v1374 : BitVec 32 := Scalar.muli arg12 c256_i32_306
  let c0_i32_307 : BitVec 32 := 0#32
  let v1375 : BitVec 32 := Scalar.addi v1374 c0_i32_307
  v1375
def k0_off39 (k0_t2 : Fin k0_t2_loop.trips) (k0_t8 : Fin (k0_t8_loop k0_t2).trips) (c0_i32_307 : BitVec 32) : Fin 2 → Nat :=
  let c0_i32_124 : BitVec 32 := 0#32
  let c0_i32_14 : BitVec 32 := 0#32
  let c1_i32_16 : BitVec 32 := 1#32
  let arg11 : BitVec 32 := Scf.iv c0_i32_14 c1_i32_16 k0_t2
  let v509 : BitVec 32 := Scalar.subi arg11 c0_i32_124
  let c1_i32_125 : BitVec 32 := 1#32
  let v511 : BitVec 32 := Scalar.divsi v509 c1_i32_125
  let v512 : BitVec 32 := Scalar.muli v511 c1_i32_125
  let v513 : BitVec 32 := Scalar.addi c0_i32_124 v512
  let c1_i32_127 : BitVec 32 := 1#32
  let arg12 : BitVec 32 := Scf.iv v513 c1_i32_127 k0_t8
  let c256_i32_306 : BitVec 32 := 256#32
  let v1374 : BitVec 32 := Scalar.muli arg12 c256_i32_306
  let v1375 : BitVec 32 := Scalar.addi v1374 c0_i32_307
  let v1376 : BitVec 32 := v1375
  let v1377 : Index := Scalar.indexCast v1376
  let c0_308 : Index := 0#32
  ![v1377.toNat, 0]
def k0_off40 (i : grid0.Coords) (k0_t2 : Fin k0_t2_loop.trips) (k0_t8 : Fin (k0_t8_loop k0_t2).trips) (c0_i32_311 : BitVec 32) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c32_i32_309 : BitVec 32 := 32#32
  let v1410 : BitVec 32 := Scalar.muli v16 c32_i32_309
  let c0_i32_124 : BitVec 32 := 0#32
  let c0_i32_14 : BitVec 32 := 0#32
  let c1_i32_16 : BitVec 32 := 1#32
  let arg11 : BitVec 32 := Scf.iv c0_i32_14 c1_i32_16 k0_t2
  let v509 : BitVec 32 := Scalar.subi arg11 c0_i32_124
  let c1_i32_125 : BitVec 32 := 1#32
  let v511 : BitVec 32 := Scalar.divsi v509 c1_i32_125
  let v512 : BitVec 32 := Scalar.muli v511 c1_i32_125
  let v513 : BitVec 32 := Scalar.addi c0_i32_124 v512
  let c1_i32_127 : BitVec 32 := 1#32
  let arg12 : BitVec 32 := Scf.iv v513 c1_i32_127 k0_t8
  let c2_i32_310 : BitVec 32 := 2#32
  let v1411 : BitVec 32 := Scalar.muli arg12 c2_i32_310
  let v1412 : BitVec 32 := Scalar.addi v1410 v1411
  let v1413 : BitVec 32 := Scalar.addi v1412 c0_i32_311
  let c8_i32_312 : BitVec 32 := 8#32
  let v1414 : BitVec 32 := Scalar.muli v1413 c8_i32_312
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v1415 : BitVec 32 := Scalar.addi v1414 v26
  let v1416 : Index := Scalar.indexCast v1415
  ![v1416.toNat]
def k0_mult38 (k0_t2 : Fin k0_t2_loop.trips) (k0_t8 : Fin (k0_t8_loop k0_t2).trips) : BitVec 32 :=
  let c0_i32_124 : BitVec 32 := 0#32
  let c0_i32_14 : BitVec 32 := 0#32
  let c1_i32_16 : BitVec 32 := 1#32
  let arg11 : BitVec 32 := Scf.iv c0_i32_14 c1_i32_16 k0_t2
  let v509 : BitVec 32 := Scalar.subi arg11 c0_i32_124
  let c1_i32_125 : BitVec 32 := 1#32
  let v511 : BitVec 32 := Scalar.divsi v509 c1_i32_125
  let v512 : BitVec 32 := Scalar.muli v511 c1_i32_125
  let v513 : BitVec 32 := Scalar.addi c0_i32_124 v512
  let c1_i32_127 : BitVec 32 := 1#32
  let arg12 : BitVec 32 := Scf.iv v513 c1_i32_127 k0_t8
  let c256_i32_306 : BitVec 32 := 256#32
  let v1374 : BitVec 32 := Scalar.muli arg12 c256_i32_306
  let c128_i32_313 : BitVec 32 := 128#32
  let v1422 : BitVec 32 := Scalar.addi v1374 c128_i32_313
  v1422
def k0_mult39 (k0_t2 : Fin k0_t2_loop.trips) (k0_t8 : Fin (k0_t8_loop k0_t2).trips) : BitVec 32 :=
  let c0_i32_124 : BitVec 32 := 0#32
  let c0_i32_14 : BitVec 32 := 0#32
  let c1_i32_16 : BitVec 32 := 1#32
  let arg11 : BitVec 32 := Scf.iv c0_i32_14 c1_i32_16 k0_t2
  let v509 : BitVec 32 := Scalar.subi arg11 c0_i32_124
  let c1_i32_125 : BitVec 32 := 1#32
  let v511 : BitVec 32 := Scalar.divsi v509 c1_i32_125
  let v512 : BitVec 32 := Scalar.muli v511 c1_i32_125
  let v513 : BitVec 32 := Scalar.addi c0_i32_124 v512
  let c1_i32_127 : BitVec 32 := 1#32
  let arg12 : BitVec 32 := Scf.iv v513 c1_i32_127 k0_t8
  let c256_i32_306 : BitVec 32 := 256#32
  let v1374 : BitVec 32 := Scalar.muli arg12 c256_i32_306
  let c0_i32_319 : BitVec 32 := 0#32
  let v1469 : BitVec 32 := Scalar.addi v1374 c0_i32_319
  v1469
def k0_off41 (k0_t2 : Fin k0_t2_loop.trips) (k0_t8 : Fin (k0_t8_loop k0_t2).trips) (c0_i32_319 : BitVec 32) : Fin 2 → Nat :=
  let c0_i32_124 : BitVec 32 := 0#32
  let c0_i32_14 : BitVec 32 := 0#32
  let c1_i32_16 : BitVec 32 := 1#32
  let arg11 : BitVec 32 := Scf.iv c0_i32_14 c1_i32_16 k0_t2
  let v509 : BitVec 32 := Scalar.subi arg11 c0_i32_124
  let c1_i32_125 : BitVec 32 := 1#32
  let v511 : BitVec 32 := Scalar.divsi v509 c1_i32_125
  let v512 : BitVec 32 := Scalar.muli v511 c1_i32_125
  let v513 : BitVec 32 := Scalar.addi c0_i32_124 v512
  let c1_i32_127 : BitVec 32 := 1#32
  let arg12 : BitVec 32 := Scf.iv v513 c1_i32_127 k0_t8
  let c256_i32_306 : BitVec 32 := 256#32
  let v1374 : BitVec 32 := Scalar.muli arg12 c256_i32_306
  let v1469 : BitVec 32 := Scalar.addi v1374 c0_i32_319
  let v1470 : BitVec 32 := v1469
  let v1471 : Index := Scalar.indexCast v1470
  let c128_320 : Index := 128#32
  ![v1471.toNat, 128]
def k0_mult40 (k0_t2 : Fin k0_t2_loop.trips) (k0_t8 : Fin (k0_t8_loop k0_t2).trips) : BitVec 32 :=
  let c0_i32_124 : BitVec 32 := 0#32
  let c0_i32_14 : BitVec 32 := 0#32
  let c1_i32_16 : BitVec 32 := 1#32
  let arg11 : BitVec 32 := Scf.iv c0_i32_14 c1_i32_16 k0_t2
  let v509 : BitVec 32 := Scalar.subi arg11 c0_i32_124
  let c1_i32_125 : BitVec 32 := 1#32
  let v511 : BitVec 32 := Scalar.divsi v509 c1_i32_125
  let v512 : BitVec 32 := Scalar.muli v511 c1_i32_125
  let v513 : BitVec 32 := Scalar.addi c0_i32_124 v512
  let c1_i32_127 : BitVec 32 := 1#32
  let arg12 : BitVec 32 := Scf.iv v513 c1_i32_127 k0_t8
  let c256_i32_306 : BitVec 32 := 256#32
  let v1374 : BitVec 32 := Scalar.muli arg12 c256_i32_306
  let c128_i32_325 : BitVec 32 := 128#32
  let v1516 : BitVec 32 := Scalar.addi v1374 c128_i32_325
  v1516
def k0_mult41 (k0_t2 : Fin k0_t2_loop.trips) : BitVec 32 :=
  let c0_i32_14 : BitVec 32 := 0#32
  let c1_i32_16 : BitVec 32 := 1#32
  let arg11 : BitVec 32 := Scf.iv c0_i32_14 c1_i32_16 k0_t2
  let c256_i32_128 : BitVec 32 := 256#32
  let v516 : BitVec 32 := Scalar.muli arg11 c256_i32_128
  v516
def k0_mult42 (k0_t2 : Fin k0_t2_loop.trips) : BitVec 32 :=
  let c0_i32_14 : BitVec 32 := 0#32
  let c1_i32_16 : BitVec 32 := 1#32
  let arg11 : BitVec 32 := Scf.iv c0_i32_14 c1_i32_16 k0_t2
  let c256_i32_133 : BitVec 32 := 256#32
  let v526 : BitVec 32 := Scalar.muli arg11 c256_i32_133
  let c0_i32_134 : BitVec 32 := 0#32
  let v527 : BitVec 32 := Scalar.addi v526 c0_i32_134
  v527
def k0_mult43 (k0_t2 : Fin k0_t2_loop.trips) : BitVec 32 :=
  let c0_i32_14 : BitVec 32 := 0#32
  let c1_i32_16 : BitVec 32 := 1#32
  let arg11 : BitVec 32 := Scf.iv c0_i32_14 c1_i32_16 k0_t2
  let c256_i32_133 : BitVec 32 := 256#32
  let v526 : BitVec 32 := Scalar.muli arg11 c256_i32_133
  let c0_i32_141 : BitVec 32 := 0#32
  let v576 : BitVec 32 := Scalar.addi v526 c0_i32_141
  v576
def k0_mult44 (k0_t2 : Fin k0_t2_loop.trips) : BitVec 32 :=
  let c0_i32_14 : BitVec 32 := 0#32
  let c1_i32_16 : BitVec 32 := 1#32
  let arg11 : BitVec 32 := Scf.iv c0_i32_14 c1_i32_16 k0_t2
  let c256_i32_133 : BitVec 32 := 256#32
  let v526 : BitVec 32 := Scalar.muli arg11 c256_i32_133
  let c128_i32_147 : BitVec 32 := 128#32
  let v623 : BitVec 32 := Scalar.addi v526 c128_i32_147
  v623
@[reducible] def k0_t9_loop (k0_t2 : Fin k0_t2_loop.trips) : Scf.Loop 32 :=
  let c0_i32_163 : BitVec 32 := 0#32
  let c0_i32_14 : BitVec 32 := 0#32
  let c1_i32_16 : BitVec 32 := 1#32
  let arg11 : BitVec 32 := Scf.iv c0_i32_14 c1_i32_16 k0_t2
  let v693 : BitVec 32 := Scalar.subi arg11 c0_i32_163
  let c1_i32_164 : BitVec 32 := 1#32
  let v695 : BitVec 32 := Scalar.divsi v693 c1_i32_164
  let v696 : BitVec 32 := Scalar.muli v695 c1_i32_164
  let v697 : BitVec 32 := Scalar.addi c0_i32_163 v696
  let c1_i32_165 : BitVec 32 := 1#32
  ⟨c0_i32_163, v697, c1_i32_165⟩
def k0_mult45 (k0_t2 : Fin k0_t2_loop.trips) (k0_t9 : Fin (k0_t9_loop k0_t2).trips) : BitVec 32 :=
  let c0_i32_163 : BitVec 32 := 0#32
  let c1_i32_165 : BitVec 32 := 1#32
  let arg12 : BitVec 32 := Scf.iv c0_i32_163 c1_i32_165 k0_t9
  let c256_i32_301 : BitVec 32 := 256#32
  let v1364 : BitVec 32 := Scalar.muli arg12 c256_i32_301
  let c0_i32_302 : BitVec 32 := 0#32
  let v1365 : BitVec 32 := Scalar.addi v1364 c0_i32_302
  v1365
def k0_off42 (k0_t2 : Fin k0_t2_loop.trips) (k0_t9 : Fin (k0_t9_loop k0_t2).trips) (c0_i32_302 : BitVec 32) : Fin 2 → Nat :=
  let c0_i32_163 : BitVec 32 := 0#32
  let c1_i32_165 : BitVec 32 := 1#32
  let arg12 : BitVec 32 := Scf.iv c0_i32_163 c1_i32_165 k0_t9
  let c256_i32_301 : BitVec 32 := 256#32
  let v1364 : BitVec 32 := Scalar.muli arg12 c256_i32_301
  let v1365 : BitVec 32 := Scalar.addi v1364 c0_i32_302
  let v1366 : BitVec 32 := v1365
  let v1367 : Index := Scalar.indexCast v1366
  let c0_303 : Index := 0#32
  ![v1367.toNat, 0]
def k0_off43 (i : grid0.Coords) (k0_t2 : Fin k0_t2_loop.trips) (k0_t9 : Fin (k0_t9_loop k0_t2).trips) (c0_i32_306 : BitVec 32) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c32_i32_304 : BitVec 32 := 32#32
  let v1369 : BitVec 32 := Scalar.muli v16 c32_i32_304
  let c0_i32_163 : BitVec 32 := 0#32
  let c1_i32_165 : BitVec 32 := 1#32
  let arg12 : BitVec 32 := Scf.iv c0_i32_163 c1_i32_165 k0_t9
  let c2_i32_305 : BitVec 32 := 2#32
  let v1370 : BitVec 32 := Scalar.muli arg12 c2_i32_305
  let v1371 : BitVec 32 := Scalar.addi v1369 v1370
  let v1372 : BitVec 32 := Scalar.addi v1371 c0_i32_306
  let c8_i32_307 : BitVec 32 := 8#32
  let v1373 : BitVec 32 := Scalar.muli v1372 c8_i32_307
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v1374 : BitVec 32 := Scalar.addi v1373 v26
  let v1375 : Index := Scalar.indexCast v1374
  ![v1375.toNat]
def k0_mult46 (k0_t2 : Fin k0_t2_loop.trips) (k0_t9 : Fin (k0_t9_loop k0_t2).trips) : BitVec 32 :=
  let c0_i32_163 : BitVec 32 := 0#32
  let c1_i32_165 : BitVec 32 := 1#32
  let arg12 : BitVec 32 := Scf.iv c0_i32_163 c1_i32_165 k0_t9
  let c256_i32_301 : BitVec 32 := 256#32
  let v1364 : BitVec 32 := Scalar.muli arg12 c256_i32_301
  let c128_i32_310 : BitVec 32 := 128#32
  let v1424 : BitVec 32 := Scalar.addi v1364 c128_i32_310
  v1424
def k0_mult47 (k0_t2 : Fin k0_t2_loop.trips) (k0_t9 : Fin (k0_t9_loop k0_t2).trips) : BitVec 32 :=
  let c0_i32_163 : BitVec 32 := 0#32
  let c1_i32_165 : BitVec 32 := 1#32
  let arg12 : BitVec 32 := Scf.iv c0_i32_163 c1_i32_165 k0_t9
  let c256_i32_301 : BitVec 32 := 256#32
  let v1364 : BitVec 32 := Scalar.muli arg12 c256_i32_301
  let c0_i32_318 : BitVec 32 := 0#32
  let v1484 : BitVec 32 := Scalar.addi v1364 c0_i32_318
  v1484
def k0_off44 (k0_t2 : Fin k0_t2_loop.trips) (k0_t9 : Fin (k0_t9_loop k0_t2).trips) (c0_i32_318 : BitVec 32) : Fin 2 → Nat :=
  let c0_i32_163 : BitVec 32 := 0#32
  let c1_i32_165 : BitVec 32 := 1#32
  let arg12 : BitVec 32 := Scf.iv c0_i32_163 c1_i32_165 k0_t9
  let c256_i32_301 : BitVec 32 := 256#32
  let v1364 : BitVec 32 := Scalar.muli arg12 c256_i32_301
  let v1484 : BitVec 32 := Scalar.addi v1364 c0_i32_318
  let v1485 : BitVec 32 := v1484
  let v1486 : Index := Scalar.indexCast v1485
  let c128_319 : Index := 128#32
  ![v1486.toNat, 128]
def k0_mult48 (k0_t2 : Fin k0_t2_loop.trips) (k0_t9 : Fin (k0_t9_loop k0_t2).trips) : BitVec 32 :=
  let c0_i32_163 : BitVec 32 := 0#32
  let c1_i32_165 : BitVec 32 := 1#32
  let arg12 : BitVec 32 := Scf.iv c0_i32_163 c1_i32_165 k0_t9
  let c256_i32_301 : BitVec 32 := 256#32
  let v1364 : BitVec 32 := Scalar.muli arg12 c256_i32_301
  let c128_i32_326 : BitVec 32 := 128#32
  let v1543 : BitVec 32 := Scalar.addi v1364 c128_i32_326
  v1543
def k0_mult49 (k0_t2 : Fin k0_t2_loop.trips) (k0_t9 : Fin (k0_t9_loop k0_t2).trips) : BitVec 32 :=
  let c0_i32_163 : BitVec 32 := 0#32
  let c1_i32_165 : BitVec 32 := 1#32
  let arg12 : BitVec 32 := Scf.iv c0_i32_163 c1_i32_165 k0_t9
  let c256_i32_301 : BitVec 32 := 256#32
  let v1364 : BitVec 32 := Scalar.muli arg12 c256_i32_301
  v1364
def k0_off45 (k0_t2 : Fin k0_t2_loop.trips) (k0_t9 : Fin (k0_t9_loop k0_t2).trips) : Fin 2 → Nat :=
  let c0_334 : Index := 0#32
  let c0_i32_163 : BitVec 32 := 0#32
  let c1_i32_165 : BitVec 32 := 1#32
  let arg12 : BitVec 32 := Scf.iv c0_i32_163 c1_i32_165 k0_t9
  let c256_i32_301 : BitVec 32 := 256#32
  let v1364 : BitVec 32 := Scalar.muli arg12 c256_i32_301
  let v1604 : BitVec 32 := v1364
  let v1605 : Index := Scalar.indexCast v1604
  ![0, v1605.toNat]
@[reducible] def k0_t10_loop (k0_t2 : Fin k0_t2_loop.trips) : Scf.Loop 32 :=
  let c0_i32_163 : BitVec 32 := 0#32
  let c0_i32_14 : BitVec 32 := 0#32
  let c1_i32_16 : BitVec 32 := 1#32
  let arg11 : BitVec 32 := Scf.iv c0_i32_14 c1_i32_16 k0_t2
  let v693 : BitVec 32 := Scalar.subi arg11 c0_i32_163
  let c1_i32_164 : BitVec 32 := 1#32
  let v695 : BitVec 32 := Scalar.divsi v693 c1_i32_164
  let v696 : BitVec 32 := Scalar.muli v695 c1_i32_164
  let v697 : BitVec 32 := Scalar.addi c0_i32_163 v696
  let v694 : BitVec 32 := Scalar.addi c0_i32_163 v693
  let c1_i32_166 : BitVec 32 := 1#32
  ⟨v697, v694, c1_i32_166⟩
def k0_mult50 (k0_t2 : Fin k0_t2_loop.trips) (k0_t10 : Fin (k0_t10_loop k0_t2).trips) : BitVec 32 :=
  let c0_i32_163 : BitVec 32 := 0#32
  let c0_i32_14 : BitVec 32 := 0#32
  let c1_i32_16 : BitVec 32 := 1#32
  let arg11 : BitVec 32 := Scf.iv c0_i32_14 c1_i32_16 k0_t2
  let v693 : BitVec 32 := Scalar.subi arg11 c0_i32_163
  let c1_i32_164 : BitVec 32 := 1#32
  let v695 : BitVec 32 := Scalar.divsi v693 c1_i32_164
  let v696 : BitVec 32 := Scalar.muli v695 c1_i32_164
  let v697 : BitVec 32 := Scalar.addi c0_i32_163 v696
  let c1_i32_166 : BitVec 32 := 1#32
  let arg12 : BitVec 32 := Scf.iv v697 c1_i32_166 k0_t10
  let c256_i32_301 : BitVec 32 := 256#32
  let v1364 : BitVec 32 := Scalar.muli arg12 c256_i32_301
  let c0_i32_302 : BitVec 32 := 0#32
  let v1365 : BitVec 32 := Scalar.addi v1364 c0_i32_302
  v1365
def k0_off46 (k0_t2 : Fin k0_t2_loop.trips) (k0_t10 : Fin (k0_t10_loop k0_t2).trips) (c0_i32_302 : BitVec 32) : Fin 2 → Nat :=
  let c0_i32_163 : BitVec 32 := 0#32
  let c0_i32_14 : BitVec 32 := 0#32
  let c1_i32_16 : BitVec 32 := 1#32
  let arg11 : BitVec 32 := Scf.iv c0_i32_14 c1_i32_16 k0_t2
  let v693 : BitVec 32 := Scalar.subi arg11 c0_i32_163
  let c1_i32_164 : BitVec 32 := 1#32
  let v695 : BitVec 32 := Scalar.divsi v693 c1_i32_164
  let v696 : BitVec 32 := Scalar.muli v695 c1_i32_164
  let v697 : BitVec 32 := Scalar.addi c0_i32_163 v696
  let c1_i32_166 : BitVec 32 := 1#32
  let arg12 : BitVec 32 := Scf.iv v697 c1_i32_166 k0_t10
  let c256_i32_301 : BitVec 32 := 256#32
  let v1364 : BitVec 32 := Scalar.muli arg12 c256_i32_301
  let v1365 : BitVec 32 := Scalar.addi v1364 c0_i32_302
  let v1366 : BitVec 32 := v1365
  let v1367 : Index := Scalar.indexCast v1366
  let c0_303 : Index := 0#32
  ![v1367.toNat, 0]
def k0_off47 (i : grid0.Coords) (k0_t2 : Fin k0_t2_loop.trips) (k0_t10 : Fin (k0_t10_loop k0_t2).trips) (c0_i32_306 : BitVec 32) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c32_i32_304 : BitVec 32 := 32#32
  let v1369 : BitVec 32 := Scalar.muli v16 c32_i32_304
  let c0_i32_163 : BitVec 32 := 0#32
  let c0_i32_14 : BitVec 32 := 0#32
  let c1_i32_16 : BitVec 32 := 1#32
  let arg11 : BitVec 32 := Scf.iv c0_i32_14 c1_i32_16 k0_t2
  let v693 : BitVec 32 := Scalar.subi arg11 c0_i32_163
  let c1_i32_164 : BitVec 32 := 1#32
  let v695 : BitVec 32 := Scalar.divsi v693 c1_i32_164
  let v696 : BitVec 32 := Scalar.muli v695 c1_i32_164
  let v697 : BitVec 32 := Scalar.addi c0_i32_163 v696
  let c1_i32_166 : BitVec 32 := 1#32
  let arg12 : BitVec 32 := Scf.iv v697 c1_i32_166 k0_t10
  let c2_i32_305 : BitVec 32 := 2#32
  let v1370 : BitVec 32 := Scalar.muli arg12 c2_i32_305
  let v1371 : BitVec 32 := Scalar.addi v1369 v1370
  let v1372 : BitVec 32 := Scalar.addi v1371 c0_i32_306
  let c8_i32_307 : BitVec 32 := 8#32
  let v1373 : BitVec 32 := Scalar.muli v1372 c8_i32_307
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v1374 : BitVec 32 := Scalar.addi v1373 v26
  let v1375 : Index := Scalar.indexCast v1374
  ![v1375.toNat]
def k0_mult51 (k0_t2 : Fin k0_t2_loop.trips) (k0_t10 : Fin (k0_t10_loop k0_t2).trips) : BitVec 32 :=
  let c0_i32_163 : BitVec 32 := 0#32
  let c0_i32_14 : BitVec 32 := 0#32
  let c1_i32_16 : BitVec 32 := 1#32
  let arg11 : BitVec 32 := Scf.iv c0_i32_14 c1_i32_16 k0_t2
  let v693 : BitVec 32 := Scalar.subi arg11 c0_i32_163
  let c1_i32_164 : BitVec 32 := 1#32
  let v695 : BitVec 32 := Scalar.divsi v693 c1_i32_164
  let v696 : BitVec 32 := Scalar.muli v695 c1_i32_164
  let v697 : BitVec 32 := Scalar.addi c0_i32_163 v696
  let c1_i32_166 : BitVec 32 := 1#32
  let arg12 : BitVec 32 := Scf.iv v697 c1_i32_166 k0_t10
  let c256_i32_301 : BitVec 32 := 256#32
  let v1364 : BitVec 32 := Scalar.muli arg12 c256_i32_301
  let c128_i32_310 : BitVec 32 := 128#32
  let v1424 : BitVec 32 := Scalar.addi v1364 c128_i32_310
  v1424
def k0_mult52 (k0_t2 : Fin k0_t2_loop.trips) (k0_t10 : Fin (k0_t10_loop k0_t2).trips) : BitVec 32 :=
  let c0_i32_163 : BitVec 32 := 0#32
  let c0_i32_14 : BitVec 32 := 0#32
  let c1_i32_16 : BitVec 32 := 1#32
  let arg11 : BitVec 32 := Scf.iv c0_i32_14 c1_i32_16 k0_t2
  let v693 : BitVec 32 := Scalar.subi arg11 c0_i32_163
  let c1_i32_164 : BitVec 32 := 1#32
  let v695 : BitVec 32 := Scalar.divsi v693 c1_i32_164
  let v696 : BitVec 32 := Scalar.muli v695 c1_i32_164
  let v697 : BitVec 32 := Scalar.addi c0_i32_163 v696
  let c1_i32_166 : BitVec 32 := 1#32
  let arg12 : BitVec 32 := Scf.iv v697 c1_i32_166 k0_t10
  let c256_i32_301 : BitVec 32 := 256#32
  let v1364 : BitVec 32 := Scalar.muli arg12 c256_i32_301
  let c0_i32_318 : BitVec 32 := 0#32
  let v1484 : BitVec 32 := Scalar.addi v1364 c0_i32_318
  v1484
def k0_off48 (k0_t2 : Fin k0_t2_loop.trips) (k0_t10 : Fin (k0_t10_loop k0_t2).trips) (c0_i32_318 : BitVec 32) : Fin 2 → Nat :=
  let c0_i32_163 : BitVec 32 := 0#32
  let c0_i32_14 : BitVec 32 := 0#32
  let c1_i32_16 : BitVec 32 := 1#32
  let arg11 : BitVec 32 := Scf.iv c0_i32_14 c1_i32_16 k0_t2
  let v693 : BitVec 32 := Scalar.subi arg11 c0_i32_163
  let c1_i32_164 : BitVec 32 := 1#32
  let v695 : BitVec 32 := Scalar.divsi v693 c1_i32_164
  let v696 : BitVec 32 := Scalar.muli v695 c1_i32_164
  let v697 : BitVec 32 := Scalar.addi c0_i32_163 v696
  let c1_i32_166 : BitVec 32 := 1#32
  let arg12 : BitVec 32 := Scf.iv v697 c1_i32_166 k0_t10
  let c256_i32_301 : BitVec 32 := 256#32
  let v1364 : BitVec 32 := Scalar.muli arg12 c256_i32_301
  let v1484 : BitVec 32 := Scalar.addi v1364 c0_i32_318
  let v1485 : BitVec 32 := v1484
  let v1486 : Index := Scalar.indexCast v1485
  let c128_319 : Index := 128#32
  ![v1486.toNat, 128]
def k0_mult53 (k0_t2 : Fin k0_t2_loop.trips) (k0_t10 : Fin (k0_t10_loop k0_t2).trips) : BitVec 32 :=
  let c0_i32_163 : BitVec 32 := 0#32
  let c0_i32_14 : BitVec 32 := 0#32
  let c1_i32_16 : BitVec 32 := 1#32
  let arg11 : BitVec 32 := Scf.iv c0_i32_14 c1_i32_16 k0_t2
  let v693 : BitVec 32 := Scalar.subi arg11 c0_i32_163
  let c1_i32_164 : BitVec 32 := 1#32
  let v695 : BitVec 32 := Scalar.divsi v693 c1_i32_164
  let v696 : BitVec 32 := Scalar.muli v695 c1_i32_164
  let v697 : BitVec 32 := Scalar.addi c0_i32_163 v696
  let c1_i32_166 : BitVec 32 := 1#32
  let arg12 : BitVec 32 := Scf.iv v697 c1_i32_166 k0_t10
  let c256_i32_301 : BitVec 32 := 256#32
  let v1364 : BitVec 32 := Scalar.muli arg12 c256_i32_301
  let c128_i32_326 : BitVec 32 := 128#32
  let v1543 : BitVec 32 := Scalar.addi v1364 c128_i32_326
  v1543
def k0_mult54 (k0_t2 : Fin k0_t2_loop.trips) (k0_t10 : Fin (k0_t10_loop k0_t2).trips) : BitVec 32 :=
  let c0_i32_163 : BitVec 32 := 0#32
  let c0_i32_14 : BitVec 32 := 0#32
  let c1_i32_16 : BitVec 32 := 1#32
  let arg11 : BitVec 32 := Scf.iv c0_i32_14 c1_i32_16 k0_t2
  let v693 : BitVec 32 := Scalar.subi arg11 c0_i32_163
  let c1_i32_164 : BitVec 32 := 1#32
  let v695 : BitVec 32 := Scalar.divsi v693 c1_i32_164
  let v696 : BitVec 32 := Scalar.muli v695 c1_i32_164
  let v697 : BitVec 32 := Scalar.addi c0_i32_163 v696
  let c1_i32_166 : BitVec 32 := 1#32
  let arg12 : BitVec 32 := Scf.iv v697 c1_i32_166 k0_t10
  let c256_i32_301 : BitVec 32 := 256#32
  let v1364 : BitVec 32 := Scalar.muli arg12 c256_i32_301
  v1364
def k0_off49 (k0_t2 : Fin k0_t2_loop.trips) (k0_t10 : Fin (k0_t10_loop k0_t2).trips) : Fin 2 → Nat :=
  let c0_334 : Index := 0#32
  let c0_i32_163 : BitVec 32 := 0#32
  let c0_i32_14 : BitVec 32 := 0#32
  let c1_i32_16 : BitVec 32 := 1#32
  let arg11 : BitVec 32 := Scf.iv c0_i32_14 c1_i32_16 k0_t2
  let v693 : BitVec 32 := Scalar.subi arg11 c0_i32_163
  let c1_i32_164 : BitVec 32 := 1#32
  let v695 : BitVec 32 := Scalar.divsi v693 c1_i32_164
  let v696 : BitVec 32 := Scalar.muli v695 c1_i32_164
  let v697 : BitVec 32 := Scalar.addi c0_i32_163 v696
  let c1_i32_166 : BitVec 32 := 1#32
  let arg12 : BitVec 32 := Scf.iv v697 c1_i32_166 k0_t10
  let c256_i32_301 : BitVec 32 := 256#32
  let v1364 : BitVec 32 := Scalar.muli arg12 c256_i32_301
  let v1604 : BitVec 32 := v1364
  let v1605 : Index := Scalar.indexCast v1604
  ![0, v1605.toNat]
def k0_mult55 (k0_t2 : Fin k0_t2_loop.trips) : BitVec 32 :=
  let c0_i32_14 : BitVec 32 := 0#32
  let c1_i32_16 : BitVec 32 := 1#32
  let arg11 : BitVec 32 := Scf.iv c0_i32_14 c1_i32_16 k0_t2
  let c256_i32_167 : BitVec 32 := 256#32
  let v700 : BitVec 32 := Scalar.muli arg11 c256_i32_167
  let c0_i32_168 : BitVec 32 := 0#32
  let v701 : BitVec 32 := Scalar.addi v700 c0_i32_168
  v701
def k0_mult56 (k0_t2 : Fin k0_t2_loop.trips) : BitVec 32 :=
  let c0_i32_14 : BitVec 32 := 0#32
  let c1_i32_16 : BitVec 32 := 1#32
  let arg11 : BitVec 32 := Scf.iv c0_i32_14 c1_i32_16 k0_t2
  let c256_i32_167 : BitVec 32 := 256#32
  let v700 : BitVec 32 := Scalar.muli arg11 c256_i32_167
  let c0_i32_178 : BitVec 32 := 0#32
  let v764 : BitVec 32 := Scalar.addi v700 c0_i32_178
  v764
def k0_mult57 (k0_t2 : Fin k0_t2_loop.trips) : BitVec 32 :=
  let c0_i32_14 : BitVec 32 := 0#32
  let c1_i32_16 : BitVec 32 := 1#32
  let arg11 : BitVec 32 := Scf.iv c0_i32_14 c1_i32_16 k0_t2
  let c256_i32_167 : BitVec 32 := 256#32
  let v700 : BitVec 32 := Scalar.muli arg11 c256_i32_167
  let c128_i32_186 : BitVec 32 := 128#32
  let v823 : BitVec 32 := Scalar.addi v700 c128_i32_186
  v823
def k0_mult58 (k0_t2 : Fin k0_t2_loop.trips) : BitVec 32 :=
  let c0_i32_14 : BitVec 32 := 0#32
  let c1_i32_16 : BitVec 32 := 1#32
  let arg11 : BitVec 32 := Scf.iv c0_i32_14 c1_i32_16 k0_t2
  let c256_i32_167 : BitVec 32 := 256#32
  let v700 : BitVec 32 := Scalar.muli arg11 c256_i32_167
  v700
def k0_off50 (k0_t2 : Fin k0_t2_loop.trips) : Fin 3 → Nat :=
  let c0_204 : Index := 0#32
  let c1 : Index := 1#32
  let c0_i32_14 : BitVec 32 := 0#32
  let c1_i32_16 : BitVec 32 := 1#32
  let arg11 : BitVec 32 := Scf.iv c0_i32_14 c1_i32_16 k0_t2
  let c256_i32 : BitVec 32 := 256#32
  let v42 : BitVec 32 := Scalar.muli arg11 c256_i32
  let v43 : BitVec 32 := v42
  let v920 : Index := Scalar.indexCast v43
  ![0, 1, v920.toNat]
def k0_off51 (k0_t2 : Fin k0_t2_loop.trips) : Fin 3 → Nat :=
  let c0_207 : Index := 0#32
  let c0_i32_14 : BitVec 32 := 0#32
  let c1_i32_16 : BitVec 32 := 1#32
  let arg11 : BitVec 32 := Scf.iv c0_i32_14 c1_i32_16 k0_t2
  let c256_i32 : BitVec 32 := 256#32
  let v42 : BitVec 32 := Scalar.muli arg11 c256_i32
  let v43 : BitVec 32 := v42
  let v926 : Index := Scalar.indexCast v43
  let c256 : Index := 256#32
  ![0, v926.toNat, 256]
@[reducible] def k0_t11_loop (k0_t2 : Fin k0_t2_loop.trips) : Scf.Loop 32 :=
  let c0_i32_220 : BitVec 32 := 0#32
  let c0_i32_14 : BitVec 32 := 0#32
  let c1_i32_16 : BitVec 32 := 1#32
  let arg11 : BitVec 32 := Scf.iv c0_i32_14 c1_i32_16 k0_t2
  let v949 : BitVec 32 := Scalar.subi arg11 c0_i32_220
  let c1_i32_221 : BitVec 32 := 1#32
  let v951 : BitVec 32 := Scalar.divsi v949 c1_i32_221
  let v952 : BitVec 32 := Scalar.muli v951 c1_i32_221
  let v953 : BitVec 32 := Scalar.addi c0_i32_220 v952
  let c1_i32_222 : BitVec 32 := 1#32
  ⟨c0_i32_220, v953, c1_i32_222⟩
def k0_mult59 (k0_t2 : Fin k0_t2_loop.trips) (k0_t11 : Fin (k0_t11_loop k0_t2).trips) : BitVec 32 :=
  let c0_i32_220 : BitVec 32 := 0#32
  let c1_i32_222 : BitVec 32 := 1#32
  let arg12 : BitVec 32 := Scf.iv c0_i32_220 c1_i32_222 k0_t11
  let c256_i32_301 : BitVec 32 := 256#32
  let v1364 : BitVec 32 := Scalar.muli arg12 c256_i32_301
  v1364
def k0_off52 (k0_t2 : Fin k0_t2_loop.trips) (k0_t11 : Fin (k0_t11_loop k0_t2).trips) : Fin 3 → Nat :=
  let c0_302 : Index := 0#32
  let c0_i32_220 : BitVec 32 := 0#32
  let c1_i32_222 : BitVec 32 := 1#32
  let arg12 : BitVec 32 := Scf.iv c0_i32_220 c1_i32_222 k0_t11
  let c256_i32_301 : BitVec 32 := 256#32
  let v1364 : BitVec 32 := Scalar.muli arg12 c256_i32_301
  let v1365 : BitVec 32 := v1364
  let v1366 : Index := Scalar.indexCast v1365
  let c0_303 : Index := 0#32
  ![0, v1366.toNat, 0]
def k0_off53 (k0_t2 : Fin k0_t2_loop.trips) (k0_t11 : Fin (k0_t11_loop k0_t2).trips) : Fin 2 → Nat :=
  let c0_i32_220 : BitVec 32 := 0#32
  let c1_i32_222 : BitVec 32 := 1#32
  let arg12 : BitVec 32 := Scf.iv c0_i32_220 c1_i32_222 k0_t11
  let c256_i32_301 : BitVec 32 := 256#32
  let v1364 : BitVec 32 := Scalar.muli arg12 c256_i32_301
  let v1365 : BitVec 32 := v1364
  let v1370 : Index := Scalar.indexCast v1365
  let c0_305 : Index := 0#32
  ![v1370.toNat, 0]
def k0_mult60 (k0_t2 : Fin k0_t2_loop.trips) (k0_t11 : Fin (k0_t11_loop k0_t2).trips) : BitVec 32 :=
  let c0_i32_220 : BitVec 32 := 0#32
  let c1_i32_222 : BitVec 32 := 1#32
  let arg12 : BitVec 32 := Scf.iv c0_i32_220 c1_i32_222 k0_t11
  let c256_i32_306 : BitVec 32 := 256#32
  let v1374 : BitVec 32 := Scalar.muli arg12 c256_i32_306
  let c0_i32_307 : BitVec 32 := 0#32
  let v1375 : BitVec 32 := Scalar.addi v1374 c0_i32_307
  v1375
def k0_off54 (k0_t2 : Fin k0_t2_loop.trips) (k0_t11 : Fin (k0_t11_loop k0_t2).trips) (c0_i32_307 : BitVec 32) : Fin 2 → Nat :=
  let c0_i32_220 : BitVec 32 := 0#32
  let c1_i32_222 : BitVec 32 := 1#32
  let arg12 : BitVec 32 := Scf.iv c0_i32_220 c1_i32_222 k0_t11
  let c256_i32_306 : BitVec 32 := 256#32
  let v1374 : BitVec 32 := Scalar.muli arg12 c256_i32_306
  let v1375 : BitVec 32 := Scalar.addi v1374 c0_i32_307
  let v1376 : BitVec 32 := v1375
  let v1377 : Index := Scalar.indexCast v1376
  let c0_308 : Index := 0#32
  ![v1377.toNat, 0]
def k0_off55 (i : grid0.Coords) (k0_t2 : Fin k0_t2_loop.trips) (k0_t11 : Fin (k0_t11_loop k0_t2).trips) (c0_i32_311 : BitVec 32) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c32_i32_309 : BitVec 32 := 32#32
  let v1410 : BitVec 32 := Scalar.muli v16 c32_i32_309
  let c0_i32_220 : BitVec 32 := 0#32
  let c1_i32_222 : BitVec 32 := 1#32
  let arg12 : BitVec 32 := Scf.iv c0_i32_220 c1_i32_222 k0_t11
  let c2_i32_310 : BitVec 32 := 2#32
  let v1411 : BitVec 32 := Scalar.muli arg12 c2_i32_310
  let v1412 : BitVec 32 := Scalar.addi v1410 v1411
  let v1413 : BitVec 32 := Scalar.addi v1412 c0_i32_311
  let c8_i32_312 : BitVec 32 := 8#32
  let v1414 : BitVec 32 := Scalar.muli v1413 c8_i32_312
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v1415 : BitVec 32 := Scalar.addi v1414 v26
  let v1416 : Index := Scalar.indexCast v1415
  ![v1416.toNat]
def k0_mult61 (k0_t2 : Fin k0_t2_loop.trips) (k0_t11 : Fin (k0_t11_loop k0_t2).trips) : BitVec 32 :=
  let c0_i32_220 : BitVec 32 := 0#32
  let c1_i32_222 : BitVec 32 := 1#32
  let arg12 : BitVec 32 := Scf.iv c0_i32_220 c1_i32_222 k0_t11
  let c256_i32_306 : BitVec 32 := 256#32
  let v1374 : BitVec 32 := Scalar.muli arg12 c256_i32_306
  let c128_i32_313 : BitVec 32 := 128#32
  let v1422 : BitVec 32 := Scalar.addi v1374 c128_i32_313
  v1422
def k0_mult62 (k0_t2 : Fin k0_t2_loop.trips) (k0_t11 : Fin (k0_t11_loop k0_t2).trips) : BitVec 32 :=
  let c0_i32_220 : BitVec 32 := 0#32
  let c1_i32_222 : BitVec 32 := 1#32
  let arg12 : BitVec 32 := Scf.iv c0_i32_220 c1_i32_222 k0_t11
  let c256_i32_306 : BitVec 32 := 256#32
  let v1374 : BitVec 32 := Scalar.muli arg12 c256_i32_306
  let c0_i32_319 : BitVec 32 := 0#32
  let v1469 : BitVec 32 := Scalar.addi v1374 c0_i32_319
  v1469
def k0_off56 (k0_t2 : Fin k0_t2_loop.trips) (k0_t11 : Fin (k0_t11_loop k0_t2).trips) (c0_i32_319 : BitVec 32) : Fin 2 → Nat :=
  let c0_i32_220 : BitVec 32 := 0#32
  let c1_i32_222 : BitVec 32 := 1#32
  let arg12 : BitVec 32 := Scf.iv c0_i32_220 c1_i32_222 k0_t11
  let c256_i32_306 : BitVec 32 := 256#32
  let v1374 : BitVec 32 := Scalar.muli arg12 c256_i32_306
  let v1469 : BitVec 32 := Scalar.addi v1374 c0_i32_319
  let v1470 : BitVec 32 := v1469
  let v1471 : Index := Scalar.indexCast v1470
  let c128_320 : Index := 128#32
  ![v1471.toNat, 128]
def k0_mult63 (k0_t2 : Fin k0_t2_loop.trips) (k0_t11 : Fin (k0_t11_loop k0_t2).trips) : BitVec 32 :=
  let c0_i32_220 : BitVec 32 := 0#32
  let c1_i32_222 : BitVec 32 := 1#32
  let arg12 : BitVec 32 := Scf.iv c0_i32_220 c1_i32_222 k0_t11
  let c256_i32_306 : BitVec 32 := 256#32
  let v1374 : BitVec 32 := Scalar.muli arg12 c256_i32_306
  let c128_i32_325 : BitVec 32 := 128#32
  let v1516 : BitVec 32 := Scalar.addi v1374 c128_i32_325
  v1516
@[reducible] def k0_t12_loop (k0_t2 : Fin k0_t2_loop.trips) : Scf.Loop 32 :=
  let c0_i32_220 : BitVec 32 := 0#32
  let c0_i32_14 : BitVec 32 := 0#32
  let c1_i32_16 : BitVec 32 := 1#32
  let arg11 : BitVec 32 := Scf.iv c0_i32_14 c1_i32_16 k0_t2
  let v949 : BitVec 32 := Scalar.subi arg11 c0_i32_220
  let c1_i32_221 : BitVec 32 := 1#32
  let v951 : BitVec 32 := Scalar.divsi v949 c1_i32_221
  let v952 : BitVec 32 := Scalar.muli v951 c1_i32_221
  let v953 : BitVec 32 := Scalar.addi c0_i32_220 v952
  let v950 : BitVec 32 := Scalar.addi c0_i32_220 v949
  let c1_i32_223 : BitVec 32 := 1#32
  ⟨v953, v950, c1_i32_223⟩
def k0_mult64 (k0_t2 : Fin k0_t2_loop.trips) (k0_t12 : Fin (k0_t12_loop k0_t2).trips) : BitVec 32 :=
  let c0_i32_220 : BitVec 32 := 0#32
  let c0_i32_14 : BitVec 32 := 0#32
  let c1_i32_16 : BitVec 32 := 1#32
  let arg11 : BitVec 32 := Scf.iv c0_i32_14 c1_i32_16 k0_t2
  let v949 : BitVec 32 := Scalar.subi arg11 c0_i32_220
  let c1_i32_221 : BitVec 32 := 1#32
  let v951 : BitVec 32 := Scalar.divsi v949 c1_i32_221
  let v952 : BitVec 32 := Scalar.muli v951 c1_i32_221
  let v953 : BitVec 32 := Scalar.addi c0_i32_220 v952
  let c1_i32_223 : BitVec 32 := 1#32
  let arg12 : BitVec 32 := Scf.iv v953 c1_i32_223 k0_t12
  let c256_i32_301 : BitVec 32 := 256#32
  let v1364 : BitVec 32 := Scalar.muli arg12 c256_i32_301
  v1364
def k0_off57 (k0_t2 : Fin k0_t2_loop.trips) (k0_t12 : Fin (k0_t12_loop k0_t2).trips) : Fin 3 → Nat :=
  let c0_302 : Index := 0#32
  let c0_i32_220 : BitVec 32 := 0#32
  let c0_i32_14 : BitVec 32 := 0#32
  let c1_i32_16 : BitVec 32 := 1#32
  let arg11 : BitVec 32 := Scf.iv c0_i32_14 c1_i32_16 k0_t2
  let v949 : BitVec 32 := Scalar.subi arg11 c0_i32_220
  let c1_i32_221 : BitVec 32 := 1#32
  let v951 : BitVec 32 := Scalar.divsi v949 c1_i32_221
  let v952 : BitVec 32 := Scalar.muli v951 c1_i32_221
  let v953 : BitVec 32 := Scalar.addi c0_i32_220 v952
  let c1_i32_223 : BitVec 32 := 1#32
  let arg12 : BitVec 32 := Scf.iv v953 c1_i32_223 k0_t12
  let c256_i32_301 : BitVec 32 := 256#32
  let v1364 : BitVec 32 := Scalar.muli arg12 c256_i32_301
  let v1365 : BitVec 32 := v1364
  let v1366 : Index := Scalar.indexCast v1365
  let c0_303 : Index := 0#32
  ![0, v1366.toNat, 0]
def k0_off58 (k0_t2 : Fin k0_t2_loop.trips) (k0_t12 : Fin (k0_t12_loop k0_t2).trips) : Fin 2 → Nat :=
  let c0_i32_220 : BitVec 32 := 0#32
  let c0_i32_14 : BitVec 32 := 0#32
  let c1_i32_16 : BitVec 32 := 1#32
  let arg11 : BitVec 32 := Scf.iv c0_i32_14 c1_i32_16 k0_t2
  let v949 : BitVec 32 := Scalar.subi arg11 c0_i32_220
  let c1_i32_221 : BitVec 32 := 1#32
  let v951 : BitVec 32 := Scalar.divsi v949 c1_i32_221
  let v952 : BitVec 32 := Scalar.muli v951 c1_i32_221
  let v953 : BitVec 32 := Scalar.addi c0_i32_220 v952
  let c1_i32_223 : BitVec 32 := 1#32
  let arg12 : BitVec 32 := Scf.iv v953 c1_i32_223 k0_t12
  let c256_i32_301 : BitVec 32 := 256#32
  let v1364 : BitVec 32 := Scalar.muli arg12 c256_i32_301
  let v1365 : BitVec 32 := v1364
  let v1370 : Index := Scalar.indexCast v1365
  let c0_305 : Index := 0#32
  ![v1370.toNat, 0]
def k0_mult65 (k0_t2 : Fin k0_t2_loop.trips) (k0_t12 : Fin (k0_t12_loop k0_t2).trips) : BitVec 32 :=
  let c0_i32_220 : BitVec 32 := 0#32
  let c0_i32_14 : BitVec 32 := 0#32
  let c1_i32_16 : BitVec 32 := 1#32
  let arg11 : BitVec 32 := Scf.iv c0_i32_14 c1_i32_16 k0_t2
  let v949 : BitVec 32 := Scalar.subi arg11 c0_i32_220
  let c1_i32_221 : BitVec 32 := 1#32
  let v951 : BitVec 32 := Scalar.divsi v949 c1_i32_221
  let v952 : BitVec 32 := Scalar.muli v951 c1_i32_221
  let v953 : BitVec 32 := Scalar.addi c0_i32_220 v952
  let c1_i32_223 : BitVec 32 := 1#32
  let arg12 : BitVec 32 := Scf.iv v953 c1_i32_223 k0_t12
  let c256_i32_306 : BitVec 32 := 256#32
  let v1374 : BitVec 32 := Scalar.muli arg12 c256_i32_306
  let c0_i32_307 : BitVec 32 := 0#32
  let v1375 : BitVec 32 := Scalar.addi v1374 c0_i32_307
  v1375
def k0_off59 (k0_t2 : Fin k0_t2_loop.trips) (k0_t12 : Fin (k0_t12_loop k0_t2).trips) (c0_i32_307 : BitVec 32) : Fin 2 → Nat :=
  let c0_i32_220 : BitVec 32 := 0#32
  let c0_i32_14 : BitVec 32 := 0#32
  let c1_i32_16 : BitVec 32 := 1#32
  let arg11 : BitVec 32 := Scf.iv c0_i32_14 c1_i32_16 k0_t2
  let v949 : BitVec 32 := Scalar.subi arg11 c0_i32_220
  let c1_i32_221 : BitVec 32 := 1#32
  let v951 : BitVec 32 := Scalar.divsi v949 c1_i32_221
  let v952 : BitVec 32 := Scalar.muli v951 c1_i32_221
  let v953 : BitVec 32 := Scalar.addi c0_i32_220 v952
  let c1_i32_223 : BitVec 32 := 1#32
  let arg12 : BitVec 32 := Scf.iv v953 c1_i32_223 k0_t12
  let c256_i32_306 : BitVec 32 := 256#32
  let v1374 : BitVec 32 := Scalar.muli arg12 c256_i32_306
  let v1375 : BitVec 32 := Scalar.addi v1374 c0_i32_307
  let v1376 : BitVec 32 := v1375
  let v1377 : Index := Scalar.indexCast v1376
  let c0_308 : Index := 0#32
  ![v1377.toNat, 0]
def k0_off60 (i : grid0.Coords) (k0_t2 : Fin k0_t2_loop.trips) (k0_t12 : Fin (k0_t12_loop k0_t2).trips) (c0_i32_311 : BitVec 32) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c32_i32_309 : BitVec 32 := 32#32
  let v1410 : BitVec 32 := Scalar.muli v16 c32_i32_309
  let c0_i32_220 : BitVec 32 := 0#32
  let c0_i32_14 : BitVec 32 := 0#32
  let c1_i32_16 : BitVec 32 := 1#32
  let arg11 : BitVec 32 := Scf.iv c0_i32_14 c1_i32_16 k0_t2
  let v949 : BitVec 32 := Scalar.subi arg11 c0_i32_220
  let c1_i32_221 : BitVec 32 := 1#32
  let v951 : BitVec 32 := Scalar.divsi v949 c1_i32_221
  let v952 : BitVec 32 := Scalar.muli v951 c1_i32_221
  let v953 : BitVec 32 := Scalar.addi c0_i32_220 v952
  let c1_i32_223 : BitVec 32 := 1#32
  let arg12 : BitVec 32 := Scf.iv v953 c1_i32_223 k0_t12
  let c2_i32_310 : BitVec 32 := 2#32
  let v1411 : BitVec 32 := Scalar.muli arg12 c2_i32_310
  let v1412 : BitVec 32 := Scalar.addi v1410 v1411
  let v1413 : BitVec 32 := Scalar.addi v1412 c0_i32_311
  let c8_i32_312 : BitVec 32 := 8#32
  let v1414 : BitVec 32 := Scalar.muli v1413 c8_i32_312
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v1415 : BitVec 32 := Scalar.addi v1414 v26
  let v1416 : Index := Scalar.indexCast v1415
  ![v1416.toNat]
def k0_mult66 (k0_t2 : Fin k0_t2_loop.trips) (k0_t12 : Fin (k0_t12_loop k0_t2).trips) : BitVec 32 :=
  let c0_i32_220 : BitVec 32 := 0#32
  let c0_i32_14 : BitVec 32 := 0#32
  let c1_i32_16 : BitVec 32 := 1#32
  let arg11 : BitVec 32 := Scf.iv c0_i32_14 c1_i32_16 k0_t2
  let v949 : BitVec 32 := Scalar.subi arg11 c0_i32_220
  let c1_i32_221 : BitVec 32 := 1#32
  let v951 : BitVec 32 := Scalar.divsi v949 c1_i32_221
  let v952 : BitVec 32 := Scalar.muli v951 c1_i32_221
  let v953 : BitVec 32 := Scalar.addi c0_i32_220 v952
  let c1_i32_223 : BitVec 32 := 1#32
  let arg12 : BitVec 32 := Scf.iv v953 c1_i32_223 k0_t12
  let c256_i32_306 : BitVec 32 := 256#32
  let v1374 : BitVec 32 := Scalar.muli arg12 c256_i32_306
  let c128_i32_313 : BitVec 32 := 128#32
  let v1422 : BitVec 32 := Scalar.addi v1374 c128_i32_313
  v1422
def k0_mult67 (k0_t2 : Fin k0_t2_loop.trips) (k0_t12 : Fin (k0_t12_loop k0_t2).trips) : BitVec 32 :=
  let c0_i32_220 : BitVec 32 := 0#32
  let c0_i32_14 : BitVec 32 := 0#32
  let c1_i32_16 : BitVec 32 := 1#32
  let arg11 : BitVec 32 := Scf.iv c0_i32_14 c1_i32_16 k0_t2
  let v949 : BitVec 32 := Scalar.subi arg11 c0_i32_220
  let c1_i32_221 : BitVec 32 := 1#32
  let v951 : BitVec 32 := Scalar.divsi v949 c1_i32_221
  let v952 : BitVec 32 := Scalar.muli v951 c1_i32_221
  let v953 : BitVec 32 := Scalar.addi c0_i32_220 v952
  let c1_i32_223 : BitVec 32 := 1#32
  let arg12 : BitVec 32 := Scf.iv v953 c1_i32_223 k0_t12
  let c256_i32_306 : BitVec 32 := 256#32
  let v1374 : BitVec 32 := Scalar.muli arg12 c256_i32_306
  let c0_i32_319 : BitVec 32 := 0#32
  let v1469 : BitVec 32 := Scalar.addi v1374 c0_i32_319
  v1469
def k0_off61 (k0_t2 : Fin k0_t2_loop.trips) (k0_t12 : Fin (k0_t12_loop k0_t2).trips) (c0_i32_319 : BitVec 32) : Fin 2 → Nat :=
  let c0_i32_220 : BitVec 32 := 0#32
  let c0_i32_14 : BitVec 32 := 0#32
  let c1_i32_16 : BitVec 32 := 1#32
  let arg11 : BitVec 32 := Scf.iv c0_i32_14 c1_i32_16 k0_t2
  let v949 : BitVec 32 := Scalar.subi arg11 c0_i32_220
  let c1_i32_221 : BitVec 32 := 1#32
  let v951 : BitVec 32 := Scalar.divsi v949 c1_i32_221
  let v952 : BitVec 32 := Scalar.muli v951 c1_i32_221
  let v953 : BitVec 32 := Scalar.addi c0_i32_220 v952
  let c1_i32_223 : BitVec 32 := 1#32
  let arg12 : BitVec 32 := Scf.iv v953 c1_i32_223 k0_t12
  let c256_i32_306 : BitVec 32 := 256#32
  let v1374 : BitVec 32 := Scalar.muli arg12 c256_i32_306
  let v1469 : BitVec 32 := Scalar.addi v1374 c0_i32_319
  let v1470 : BitVec 32 := v1469
  let v1471 : Index := Scalar.indexCast v1470
  let c128_320 : Index := 128#32
  ![v1471.toNat, 128]
def k0_mult68 (k0_t2 : Fin k0_t2_loop.trips) (k0_t12 : Fin (k0_t12_loop k0_t2).trips) : BitVec 32 :=
  let c0_i32_220 : BitVec 32 := 0#32
  let c0_i32_14 : BitVec 32 := 0#32
  let c1_i32_16 : BitVec 32 := 1#32
  let arg11 : BitVec 32 := Scf.iv c0_i32_14 c1_i32_16 k0_t2
  let v949 : BitVec 32 := Scalar.subi arg11 c0_i32_220
  let c1_i32_221 : BitVec 32 := 1#32
  let v951 : BitVec 32 := Scalar.divsi v949 c1_i32_221
  let v952 : BitVec 32 := Scalar.muli v951 c1_i32_221
  let v953 : BitVec 32 := Scalar.addi c0_i32_220 v952
  let c1_i32_223 : BitVec 32 := 1#32
  let arg12 : BitVec 32 := Scf.iv v953 c1_i32_223 k0_t12
  let c256_i32_306 : BitVec 32 := 256#32
  let v1374 : BitVec 32 := Scalar.muli arg12 c256_i32_306
  let c128_i32_325 : BitVec 32 := 128#32
  let v1516 : BitVec 32 := Scalar.addi v1374 c128_i32_325
  v1516
def k0_mult69 (k0_t2 : Fin k0_t2_loop.trips) : BitVec 32 :=
  let c0_i32_14 : BitVec 32 := 0#32
  let c1_i32_16 : BitVec 32 := 1#32
  let arg11 : BitVec 32 := Scf.iv c0_i32_14 c1_i32_16 k0_t2
  let c256_i32_224 : BitVec 32 := 256#32
  let v956 : BitVec 32 := Scalar.muli arg11 c256_i32_224
  v956
def k0_mult70 (k0_t2 : Fin k0_t2_loop.trips) : BitVec 32 :=
  let c0_i32_14 : BitVec 32 := 0#32
  let c1_i32_16 : BitVec 32 := 1#32
  let arg11 : BitVec 32 := Scf.iv c0_i32_14 c1_i32_16 k0_t2
  let c256_i32_229 : BitVec 32 := 256#32
  let v966 : BitVec 32 := Scalar.muli arg11 c256_i32_229
  let c0_i32_230 : BitVec 32 := 0#32
  let v967 : BitVec 32 := Scalar.addi v966 c0_i32_230
  v967
def k0_mult71 (k0_t2 : Fin k0_t2_loop.trips) : BitVec 32 :=
  let c0_i32_14 : BitVec 32 := 0#32
  let c1_i32_16 : BitVec 32 := 1#32
  let arg11 : BitVec 32 := Scf.iv c0_i32_14 c1_i32_16 k0_t2
  let c256_i32_229 : BitVec 32 := 256#32
  let v966 : BitVec 32 := Scalar.muli arg11 c256_i32_229
  let c0_i32_237 : BitVec 32 := 0#32
  let v1016 : BitVec 32 := Scalar.addi v966 c0_i32_237
  v1016
def k0_mult72 (k0_t2 : Fin k0_t2_loop.trips) : BitVec 32 :=
  let c0_i32_14 : BitVec 32 := 0#32
  let c1_i32_16 : BitVec 32 := 1#32
  let arg11 : BitVec 32 := Scf.iv c0_i32_14 c1_i32_16 k0_t2
  let c256_i32_229 : BitVec 32 := 256#32
  let v966 : BitVec 32 := Scalar.muli arg11 c256_i32_229
  let c128_i32_243 : BitVec 32 := 128#32
  let v1063 : BitVec 32 := Scalar.addi v966 c128_i32_243
  v1063
@[reducible] def k0_t13_loop (k0_t2 : Fin k0_t2_loop.trips) : Scf.Loop 32 :=
  let c0_i32_259 : BitVec 32 := 0#32
  let c0_i32_14 : BitVec 32 := 0#32
  let c1_i32_16 : BitVec 32 := 1#32
  let arg11 : BitVec 32 := Scf.iv c0_i32_14 c1_i32_16 k0_t2
  let v1133 : BitVec 32 := Scalar.subi arg11 c0_i32_259
  let c1_i32_260 : BitVec 32 := 1#32
  let v1135 : BitVec 32 := Scalar.divsi v1133 c1_i32_260
  let v1136 : BitVec 32 := Scalar.muli v1135 c1_i32_260
  let v1137 : BitVec 32 := Scalar.addi c0_i32_259 v1136
  let c1_i32_261 : BitVec 32 := 1#32
  ⟨c0_i32_259, v1137, c1_i32_261⟩
def k0_mult73 (k0_t2 : Fin k0_t2_loop.trips) (k0_t13 : Fin (k0_t13_loop k0_t2).trips) : BitVec 32 :=
  let c0_i32_259 : BitVec 32 := 0#32
  let c1_i32_261 : BitVec 32 := 1#32
  let arg12 : BitVec 32 := Scf.iv c0_i32_259 c1_i32_261 k0_t13
  let c256_i32_301 : BitVec 32 := 256#32
  let v1364 : BitVec 32 := Scalar.muli arg12 c256_i32_301
  let c0_i32_302 : BitVec 32 := 0#32
  let v1365 : BitVec 32 := Scalar.addi v1364 c0_i32_302
  v1365
def k0_off62 (k0_t2 : Fin k0_t2_loop.trips) (k0_t13 : Fin (k0_t13_loop k0_t2).trips) (c0_i32_302 : BitVec 32) : Fin 2 → Nat :=
  let c0_i32_259 : BitVec 32 := 0#32
  let c1_i32_261 : BitVec 32 := 1#32
  let arg12 : BitVec 32 := Scf.iv c0_i32_259 c1_i32_261 k0_t13
  let c256_i32_301 : BitVec 32 := 256#32
  let v1364 : BitVec 32 := Scalar.muli arg12 c256_i32_301
  let v1365 : BitVec 32 := Scalar.addi v1364 c0_i32_302
  let v1366 : BitVec 32 := v1365
  let v1367 : Index := Scalar.indexCast v1366
  let c0_303 : Index := 0#32
  ![v1367.toNat, 0]
def k0_off63 (i : grid0.Coords) (k0_t2 : Fin k0_t2_loop.trips) (k0_t13 : Fin (k0_t13_loop k0_t2).trips) (c0_i32_306 : BitVec 32) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c32_i32_304 : BitVec 32 := 32#32
  let v1369 : BitVec 32 := Scalar.muli v16 c32_i32_304
  let c0_i32_259 : BitVec 32 := 0#32
  let c1_i32_261 : BitVec 32 := 1#32
  let arg12 : BitVec 32 := Scf.iv c0_i32_259 c1_i32_261 k0_t13
  let c2_i32_305 : BitVec 32 := 2#32
  let v1370 : BitVec 32 := Scalar.muli arg12 c2_i32_305
  let v1371 : BitVec 32 := Scalar.addi v1369 v1370
  let v1372 : BitVec 32 := Scalar.addi v1371 c0_i32_306
  let c8_i32_307 : BitVec 32 := 8#32
  let v1373 : BitVec 32 := Scalar.muli v1372 c8_i32_307
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v1374 : BitVec 32 := Scalar.addi v1373 v26
  let v1375 : Index := Scalar.indexCast v1374
  ![v1375.toNat]
def k0_mult74 (k0_t2 : Fin k0_t2_loop.trips) (k0_t13 : Fin (k0_t13_loop k0_t2).trips) : BitVec 32 :=
  let c0_i32_259 : BitVec 32 := 0#32
  let c1_i32_261 : BitVec 32 := 1#32
  let arg12 : BitVec 32 := Scf.iv c0_i32_259 c1_i32_261 k0_t13
  let c256_i32_301 : BitVec 32 := 256#32
  let v1364 : BitVec 32 := Scalar.muli arg12 c256_i32_301
  let c128_i32_310 : BitVec 32 := 128#32
  let v1424 : BitVec 32 := Scalar.addi v1364 c128_i32_310
  v1424
def k0_mult75 (k0_t2 : Fin k0_t2_loop.trips) (k0_t13 : Fin (k0_t13_loop k0_t2).trips) : BitVec 32 :=
  let c0_i32_259 : BitVec 32 := 0#32
  let c1_i32_261 : BitVec 32 := 1#32
  let arg12 : BitVec 32 := Scf.iv c0_i32_259 c1_i32_261 k0_t13
  let c256_i32_301 : BitVec 32 := 256#32
  let v1364 : BitVec 32 := Scalar.muli arg12 c256_i32_301
  let c0_i32_318 : BitVec 32 := 0#32
  let v1484 : BitVec 32 := Scalar.addi v1364 c0_i32_318
  v1484
def k0_off64 (k0_t2 : Fin k0_t2_loop.trips) (k0_t13 : Fin (k0_t13_loop k0_t2).trips) (c0_i32_318 : BitVec 32) : Fin 2 → Nat :=
  let c0_i32_259 : BitVec 32 := 0#32
  let c1_i32_261 : BitVec 32 := 1#32
  let arg12 : BitVec 32 := Scf.iv c0_i32_259 c1_i32_261 k0_t13
  let c256_i32_301 : BitVec 32 := 256#32
  let v1364 : BitVec 32 := Scalar.muli arg12 c256_i32_301
  let v1484 : BitVec 32 := Scalar.addi v1364 c0_i32_318
  let v1485 : BitVec 32 := v1484
  let v1486 : Index := Scalar.indexCast v1485
  let c128_319 : Index := 128#32
  ![v1486.toNat, 128]
def k0_mult76 (k0_t2 : Fin k0_t2_loop.trips) (k0_t13 : Fin (k0_t13_loop k0_t2).trips) : BitVec 32 :=
  let c0_i32_259 : BitVec 32 := 0#32
  let c1_i32_261 : BitVec 32 := 1#32
  let arg12 : BitVec 32 := Scf.iv c0_i32_259 c1_i32_261 k0_t13
  let c256_i32_301 : BitVec 32 := 256#32
  let v1364 : BitVec 32 := Scalar.muli arg12 c256_i32_301
  let c128_i32_326 : BitVec 32 := 128#32
  let v1543 : BitVec 32 := Scalar.addi v1364 c128_i32_326
  v1543
def k0_mult77 (k0_t2 : Fin k0_t2_loop.trips) (k0_t13 : Fin (k0_t13_loop k0_t2).trips) : BitVec 32 :=
  let c0_i32_259 : BitVec 32 := 0#32
  let c1_i32_261 : BitVec 32 := 1#32
  let arg12 : BitVec 32 := Scf.iv c0_i32_259 c1_i32_261 k0_t13
  let c256_i32_301 : BitVec 32 := 256#32
  let v1364 : BitVec 32 := Scalar.muli arg12 c256_i32_301
  v1364
def k0_off65 (k0_t2 : Fin k0_t2_loop.trips) (k0_t13 : Fin (k0_t13_loop k0_t2).trips) : Fin 2 → Nat :=
  let c0_334 : Index := 0#32
  let c0_i32_259 : BitVec 32 := 0#32
  let c1_i32_261 : BitVec 32 := 1#32
  let arg12 : BitVec 32 := Scf.iv c0_i32_259 c1_i32_261 k0_t13
  let c256_i32_301 : BitVec 32 := 256#32
  let v1364 : BitVec 32 := Scalar.muli arg12 c256_i32_301
  let v1604 : BitVec 32 := v1364
  let v1605 : Index := Scalar.indexCast v1604
  ![0, v1605.toNat]
@[reducible] def k0_t14_loop (k0_t2 : Fin k0_t2_loop.trips) : Scf.Loop 32 :=
  let c0_i32_259 : BitVec 32 := 0#32
  let c0_i32_14 : BitVec 32 := 0#32
  let c1_i32_16 : BitVec 32 := 1#32
  let arg11 : BitVec 32 := Scf.iv c0_i32_14 c1_i32_16 k0_t2
  let v1133 : BitVec 32 := Scalar.subi arg11 c0_i32_259
  let c1_i32_260 : BitVec 32 := 1#32
  let v1135 : BitVec 32 := Scalar.divsi v1133 c1_i32_260
  let v1136 : BitVec 32 := Scalar.muli v1135 c1_i32_260
  let v1137 : BitVec 32 := Scalar.addi c0_i32_259 v1136
  let v1134 : BitVec 32 := Scalar.addi c0_i32_259 v1133
  let c1_i32_262 : BitVec 32 := 1#32
  ⟨v1137, v1134, c1_i32_262⟩
def k0_mult78 (k0_t2 : Fin k0_t2_loop.trips) (k0_t14 : Fin (k0_t14_loop k0_t2).trips) : BitVec 32 :=
  let c0_i32_259 : BitVec 32 := 0#32
  let c0_i32_14 : BitVec 32 := 0#32
  let c1_i32_16 : BitVec 32 := 1#32
  let arg11 : BitVec 32 := Scf.iv c0_i32_14 c1_i32_16 k0_t2
  let v1133 : BitVec 32 := Scalar.subi arg11 c0_i32_259
  let c1_i32_260 : BitVec 32 := 1#32
  let v1135 : BitVec 32 := Scalar.divsi v1133 c1_i32_260
  let v1136 : BitVec 32 := Scalar.muli v1135 c1_i32_260
  let v1137 : BitVec 32 := Scalar.addi c0_i32_259 v1136
  let c1_i32_262 : BitVec 32 := 1#32
  let arg12 : BitVec 32 := Scf.iv v1137 c1_i32_262 k0_t14
  let c256_i32_301 : BitVec 32 := 256#32
  let v1364 : BitVec 32 := Scalar.muli arg12 c256_i32_301
  let c0_i32_302 : BitVec 32 := 0#32
  let v1365 : BitVec 32 := Scalar.addi v1364 c0_i32_302
  v1365
def k0_off66 (k0_t2 : Fin k0_t2_loop.trips) (k0_t14 : Fin (k0_t14_loop k0_t2).trips) (c0_i32_302 : BitVec 32) : Fin 2 → Nat :=
  let c0_i32_259 : BitVec 32 := 0#32
  let c0_i32_14 : BitVec 32 := 0#32
  let c1_i32_16 : BitVec 32 := 1#32
  let arg11 : BitVec 32 := Scf.iv c0_i32_14 c1_i32_16 k0_t2
  let v1133 : BitVec 32 := Scalar.subi arg11 c0_i32_259
  let c1_i32_260 : BitVec 32 := 1#32
  let v1135 : BitVec 32 := Scalar.divsi v1133 c1_i32_260
  let v1136 : BitVec 32 := Scalar.muli v1135 c1_i32_260
  let v1137 : BitVec 32 := Scalar.addi c0_i32_259 v1136
  let c1_i32_262 : BitVec 32 := 1#32
  let arg12 : BitVec 32 := Scf.iv v1137 c1_i32_262 k0_t14
  let c256_i32_301 : BitVec 32 := 256#32
  let v1364 : BitVec 32 := Scalar.muli arg12 c256_i32_301
  let v1365 : BitVec 32 := Scalar.addi v1364 c0_i32_302
  let v1366 : BitVec 32 := v1365
  let v1367 : Index := Scalar.indexCast v1366
  let c0_303 : Index := 0#32
  ![v1367.toNat, 0]
def k0_off67 (i : grid0.Coords) (k0_t2 : Fin k0_t2_loop.trips) (k0_t14 : Fin (k0_t14_loop k0_t2).trips) (c0_i32_306 : BitVec 32) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c32_i32_304 : BitVec 32 := 32#32
  let v1369 : BitVec 32 := Scalar.muli v16 c32_i32_304
  let c0_i32_259 : BitVec 32 := 0#32
  let c0_i32_14 : BitVec 32 := 0#32
  let c1_i32_16 : BitVec 32 := 1#32
  let arg11 : BitVec 32 := Scf.iv c0_i32_14 c1_i32_16 k0_t2
  let v1133 : BitVec 32 := Scalar.subi arg11 c0_i32_259
  let c1_i32_260 : BitVec 32 := 1#32
  let v1135 : BitVec 32 := Scalar.divsi v1133 c1_i32_260
  let v1136 : BitVec 32 := Scalar.muli v1135 c1_i32_260
  let v1137 : BitVec 32 := Scalar.addi c0_i32_259 v1136
  let c1_i32_262 : BitVec 32 := 1#32
  let arg12 : BitVec 32 := Scf.iv v1137 c1_i32_262 k0_t14
  let c2_i32_305 : BitVec 32 := 2#32
  let v1370 : BitVec 32 := Scalar.muli arg12 c2_i32_305
  let v1371 : BitVec 32 := Scalar.addi v1369 v1370
  let v1372 : BitVec 32 := Scalar.addi v1371 c0_i32_306
  let c8_i32_307 : BitVec 32 := 8#32
  let v1373 : BitVec 32 := Scalar.muli v1372 c8_i32_307
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v1374 : BitVec 32 := Scalar.addi v1373 v26
  let v1375 : Index := Scalar.indexCast v1374
  ![v1375.toNat]
def k0_mult79 (k0_t2 : Fin k0_t2_loop.trips) (k0_t14 : Fin (k0_t14_loop k0_t2).trips) : BitVec 32 :=
  let c0_i32_259 : BitVec 32 := 0#32
  let c0_i32_14 : BitVec 32 := 0#32
  let c1_i32_16 : BitVec 32 := 1#32
  let arg11 : BitVec 32 := Scf.iv c0_i32_14 c1_i32_16 k0_t2
  let v1133 : BitVec 32 := Scalar.subi arg11 c0_i32_259
  let c1_i32_260 : BitVec 32 := 1#32
  let v1135 : BitVec 32 := Scalar.divsi v1133 c1_i32_260
  let v1136 : BitVec 32 := Scalar.muli v1135 c1_i32_260
  let v1137 : BitVec 32 := Scalar.addi c0_i32_259 v1136
  let c1_i32_262 : BitVec 32 := 1#32
  let arg12 : BitVec 32 := Scf.iv v1137 c1_i32_262 k0_t14
  let c256_i32_301 : BitVec 32 := 256#32
  let v1364 : BitVec 32 := Scalar.muli arg12 c256_i32_301
  let c128_i32_310 : BitVec 32 := 128#32
  let v1424 : BitVec 32 := Scalar.addi v1364 c128_i32_310
  v1424
def k0_mult80 (k0_t2 : Fin k0_t2_loop.trips) (k0_t14 : Fin (k0_t14_loop k0_t2).trips) : BitVec 32 :=
  let c0_i32_259 : BitVec 32 := 0#32
  let c0_i32_14 : BitVec 32 := 0#32
  let c1_i32_16 : BitVec 32 := 1#32
  let arg11 : BitVec 32 := Scf.iv c0_i32_14 c1_i32_16 k0_t2
  let v1133 : BitVec 32 := Scalar.subi arg11 c0_i32_259
  let c1_i32_260 : BitVec 32 := 1#32
  let v1135 : BitVec 32 := Scalar.divsi v1133 c1_i32_260
  let v1136 : BitVec 32 := Scalar.muli v1135 c1_i32_260
  let v1137 : BitVec 32 := Scalar.addi c0_i32_259 v1136
  let c1_i32_262 : BitVec 32 := 1#32
  let arg12 : BitVec 32 := Scf.iv v1137 c1_i32_262 k0_t14
  let c256_i32_301 : BitVec 32 := 256#32
  let v1364 : BitVec 32 := Scalar.muli arg12 c256_i32_301
  let c0_i32_318 : BitVec 32 := 0#32
  let v1484 : BitVec 32 := Scalar.addi v1364 c0_i32_318
  v1484
def k0_off68 (k0_t2 : Fin k0_t2_loop.trips) (k0_t14 : Fin (k0_t14_loop k0_t2).trips) (c0_i32_318 : BitVec 32) : Fin 2 → Nat :=
  let c0_i32_259 : BitVec 32 := 0#32
  let c0_i32_14 : BitVec 32 := 0#32
  let c1_i32_16 : BitVec 32 := 1#32
  let arg11 : BitVec 32 := Scf.iv c0_i32_14 c1_i32_16 k0_t2
  let v1133 : BitVec 32 := Scalar.subi arg11 c0_i32_259
  let c1_i32_260 : BitVec 32 := 1#32
  let v1135 : BitVec 32 := Scalar.divsi v1133 c1_i32_260
  let v1136 : BitVec 32 := Scalar.muli v1135 c1_i32_260
  let v1137 : BitVec 32 := Scalar.addi c0_i32_259 v1136
  let c1_i32_262 : BitVec 32 := 1#32
  let arg12 : BitVec 32 := Scf.iv v1137 c1_i32_262 k0_t14
  let c256_i32_301 : BitVec 32 := 256#32
  let v1364 : BitVec 32 := Scalar.muli arg12 c256_i32_301
  let v1484 : BitVec 32 := Scalar.addi v1364 c0_i32_318
  let v1485 : BitVec 32 := v1484
  let v1486 : Index := Scalar.indexCast v1485
  let c128_319 : Index := 128#32
  ![v1486.toNat, 128]
def k0_mult81 (k0_t2 : Fin k0_t2_loop.trips) (k0_t14 : Fin (k0_t14_loop k0_t2).trips) : BitVec 32 :=
  let c0_i32_259 : BitVec 32 := 0#32
  let c0_i32_14 : BitVec 32 := 0#32
  let c1_i32_16 : BitVec 32 := 1#32
  let arg11 : BitVec 32 := Scf.iv c0_i32_14 c1_i32_16 k0_t2
  let v1133 : BitVec 32 := Scalar.subi arg11 c0_i32_259
  let c1_i32_260 : BitVec 32 := 1#32
  let v1135 : BitVec 32 := Scalar.divsi v1133 c1_i32_260
  let v1136 : BitVec 32 := Scalar.muli v1135 c1_i32_260
  let v1137 : BitVec 32 := Scalar.addi c0_i32_259 v1136
  let c1_i32_262 : BitVec 32 := 1#32
  let arg12 : BitVec 32 := Scf.iv v1137 c1_i32_262 k0_t14
  let c256_i32_301 : BitVec 32 := 256#32
  let v1364 : BitVec 32 := Scalar.muli arg12 c256_i32_301
  let c128_i32_326 : BitVec 32 := 128#32
  let v1543 : BitVec 32 := Scalar.addi v1364 c128_i32_326
  v1543
def k0_mult82 (k0_t2 : Fin k0_t2_loop.trips) (k0_t14 : Fin (k0_t14_loop k0_t2).trips) : BitVec 32 :=
  let c0_i32_259 : BitVec 32 := 0#32
  let c0_i32_14 : BitVec 32 := 0#32
  let c1_i32_16 : BitVec 32 := 1#32
  let arg11 : BitVec 32 := Scf.iv c0_i32_14 c1_i32_16 k0_t2
  let v1133 : BitVec 32 := Scalar.subi arg11 c0_i32_259
  let c1_i32_260 : BitVec 32 := 1#32
  let v1135 : BitVec 32 := Scalar.divsi v1133 c1_i32_260
  let v1136 : BitVec 32 := Scalar.muli v1135 c1_i32_260
  let v1137 : BitVec 32 := Scalar.addi c0_i32_259 v1136
  let c1_i32_262 : BitVec 32 := 1#32
  let arg12 : BitVec 32 := Scf.iv v1137 c1_i32_262 k0_t14
  let c256_i32_301 : BitVec 32 := 256#32
  let v1364 : BitVec 32 := Scalar.muli arg12 c256_i32_301
  v1364
def k0_off69 (k0_t2 : Fin k0_t2_loop.trips) (k0_t14 : Fin (k0_t14_loop k0_t2).trips) : Fin 2 → Nat :=
  let c0_334 : Index := 0#32
  let c0_i32_259 : BitVec 32 := 0#32
  let c0_i32_14 : BitVec 32 := 0#32
  let c1_i32_16 : BitVec 32 := 1#32
  let arg11 : BitVec 32 := Scf.iv c0_i32_14 c1_i32_16 k0_t2
  let v1133 : BitVec 32 := Scalar.subi arg11 c0_i32_259
  let c1_i32_260 : BitVec 32 := 1#32
  let v1135 : BitVec 32 := Scalar.divsi v1133 c1_i32_260
  let v1136 : BitVec 32 := Scalar.muli v1135 c1_i32_260
  let v1137 : BitVec 32 := Scalar.addi c0_i32_259 v1136
  let c1_i32_262 : BitVec 32 := 1#32
  let arg12 : BitVec 32 := Scf.iv v1137 c1_i32_262 k0_t14
  let c256_i32_301 : BitVec 32 := 256#32
  let v1364 : BitVec 32 := Scalar.muli arg12 c256_i32_301
  let v1604 : BitVec 32 := v1364
  let v1605 : Index := Scalar.indexCast v1604
  ![0, v1605.toNat]
def k0_mult83 (k0_t2 : Fin k0_t2_loop.trips) : BitVec 32 :=
  let c0_i32_14 : BitVec 32 := 0#32
  let c1_i32_16 : BitVec 32 := 1#32
  let arg11 : BitVec 32 := Scf.iv c0_i32_14 c1_i32_16 k0_t2
  let c256_i32_263 : BitVec 32 := 256#32
  let v1140 : BitVec 32 := Scalar.muli arg11 c256_i32_263
  let c0_i32_264 : BitVec 32 := 0#32
  let v1141 : BitVec 32 := Scalar.addi v1140 c0_i32_264
  v1141
def k0_mult84 (k0_t2 : Fin k0_t2_loop.trips) : BitVec 32 :=
  let c0_i32_14 : BitVec 32 := 0#32
  let c1_i32_16 : BitVec 32 := 1#32
  let arg11 : BitVec 32 := Scf.iv c0_i32_14 c1_i32_16 k0_t2
  let c256_i32_263 : BitVec 32 := 256#32
  let v1140 : BitVec 32 := Scalar.muli arg11 c256_i32_263
  let c0_i32_274 : BitVec 32 := 0#32
  let v1204 : BitVec 32 := Scalar.addi v1140 c0_i32_274
  v1204
def k0_mult85 (k0_t2 : Fin k0_t2_loop.trips) : BitVec 32 :=
  let c0_i32_14 : BitVec 32 := 0#32
  let c1_i32_16 : BitVec 32 := 1#32
  let arg11 : BitVec 32 := Scf.iv c0_i32_14 c1_i32_16 k0_t2
  let c256_i32_263 : BitVec 32 := 256#32
  let v1140 : BitVec 32 := Scalar.muli arg11 c256_i32_263
  let c128_i32_282 : BitVec 32 := 128#32
  let v1263 : BitVec 32 := Scalar.addi v1140 c128_i32_282
  v1263
def k0_mult86 (k0_t2 : Fin k0_t2_loop.trips) : BitVec 32 :=
  let c0_i32_14 : BitVec 32 := 0#32
  let c1_i32_16 : BitVec 32 := 1#32
  let arg11 : BitVec 32 := Scf.iv c0_i32_14 c1_i32_16 k0_t2
  let c256_i32_263 : BitVec 32 := 256#32
  let v1140 : BitVec 32 := Scalar.muli arg11 c256_i32_263
  v1140
def k0_off70 (k0_t2 : Fin k0_t2_loop.trips) : Fin 3 → Nat :=
  let c0_300 : Index := 0#32
  let c2 : Index := 2#32
  let c0_i32_14 : BitVec 32 := 0#32
  let c1_i32_16 : BitVec 32 := 1#32
  let arg11 : BitVec 32 := Scf.iv c0_i32_14 c1_i32_16 k0_t2
  let c256_i32 : BitVec 32 := 256#32
  let v42 : BitVec 32 := Scalar.muli arg11 c256_i32
  let v43 : BitVec 32 := v42
  let v1360 : Index := Scalar.indexCast v43
  ![0, 2, v1360.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S4608 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4096x384 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x3x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S6x4096x24x128 : Shape := ⟨4, ![6, 4096, 24, 128]⟩
abbrev S6x32x24 : Shape := ⟨3, ![6, 32, 24]⟩
abbrev S6x4096x8x128 : Shape := ⟨4, ![6, 4096, 8, 128]⟩
abbrev S6x32x8 : Shape := ⟨3, ![6, 32, 8]⟩
abbrev S6x8 : Shape := ⟨2, ![6, 8]⟩
abbrev S6x24x4096x128 : Shape := ⟨4, ![6, 24, 4096, 128]⟩
abbrev S144x4096x128 : Shape := ⟨3, ![144, 4096, 128]⟩
abbrev S6x24x32 : Shape := ⟨3, ![6, 24, 32]⟩
abbrev S144x32 : Shape := ⟨2, ![144, 32]⟩
abbrev S144x32x128 : Shape := ⟨3, ![144, 32, 128]⟩
abbrev S144x4096 : Shape := ⟨2, ![144, 4096]⟩
abbrev S144x4096x1 : Shape := ⟨3, ![144, 4096, 1]⟩
abbrev S6x8x4096x128 : Shape := ⟨4, ![6, 8, 4096, 128]⟩
abbrev S48x4096x128 : Shape := ⟨3, ![48, 4096, 128]⟩
abbrev S48x3x4096x128 : Shape := ⟨4, ![48, 3, 4096, 128]⟩
abbrev S6x8x32 : Shape := ⟨3, ![6, 8, 32]⟩
abbrev S48x32 : Shape := ⟨2, ![48, 32]⟩
abbrev S48x32x128 : Shape := ⟨3, ![48, 32, 128]⟩
abbrev S48x4096 : Shape := ⟨2, ![48, 4096]⟩
abbrev S48x3x4096 : Shape := ⟨3, ![48, 3, 4096]⟩
abbrev S144x1x4096 : Shape := ⟨3, ![144, 1, 4096]⟩
abbrev S48 : Shape := ⟨1, ![48]⟩
abbrev S48x3 : Shape := ⟨2, ![48, 3]⟩
abbrev S144 : Shape := ⟨1, ![144]⟩
abbrev S144x1x1 : Shape := ⟨3, ![144, 1, 1]⟩
abbrev S144x4096x4096 : Shape := ⟨3, ![144, 4096, 4096]⟩
abbrev S6x24x4096 : Shape := ⟨3, ![6, 24, 4096]⟩
abbrev S6x4096x24 : Shape := ⟨3, ![6, 4096, 24]⟩

abbrev nBuf : Space → Nat
  | .hbm => 38
  | .vmem => 8
  | .smem => 0
  | _ => 0

abbrev bufTy : (tb : Table) → Fin (tcTables nBuf tb) → BufTy
  | .hbm, ⟨0, _⟩ => ⟨S6x4096x24x128, .fp8e4m3⟩
  | .hbm, ⟨1, _⟩ => ⟨S6x32x24, .f32⟩
  | .hbm, ⟨2, _⟩ => ⟨S6x4096x8x128, .fp8e4m3⟩
  | .hbm, ⟨3, _⟩ => ⟨S6x32x8, .f32⟩
  | .hbm, ⟨4, _⟩ => ⟨S6x4096x8x128, .fp8e4m3⟩
  | .hbm, ⟨5, _⟩ => ⟨S6x8, .f32⟩
  | .hbm, ⟨6, _⟩ => ⟨S6x24x4096x128, .fp8e4m3⟩
  | .hbm, ⟨7, _⟩ => ⟨S144x4096x128, .fp8e4m3⟩
  | .hbm, ⟨8, _⟩ => ⟨S6x24x32, .f32⟩
  | .hbm, ⟨9, _⟩ => ⟨S144x32, .f32⟩
  | .hbm, ⟨10, _⟩ => ⟨S144x32x128, .f32⟩
  | .hbm, ⟨11, _⟩ => ⟨S144x4096, .f32⟩
  | .hbm, ⟨12, _⟩ => ⟨S144x4096x1, .f32⟩
  | .hbm, ⟨13, _⟩ => ⟨S6x8x4096x128, .fp8e4m3⟩
  | .hbm, ⟨14, _⟩ => ⟨S48x4096x128, .fp8e4m3⟩
  | .hbm, ⟨15, _⟩ => ⟨S48x3x4096x128, .fp8e4m3⟩
  | .hbm, ⟨16, _⟩ => ⟨S144x4096x128, .fp8e4m3⟩
  | .hbm, ⟨17, _⟩ => ⟨S6x8x32, .f32⟩
  | .hbm, ⟨18, _⟩ => ⟨S48x32, .f32⟩
  | .hbm, ⟨19, _⟩ => ⟨S48x32x128, .f32⟩
  | .hbm, ⟨20, _⟩ => ⟨S48x4096, .f32⟩
  | .hbm, ⟨21, _⟩ => ⟨S48x3x4096, .f32⟩
  | .hbm, ⟨22, _⟩ => ⟨S144x4096, .f32⟩
  | .hbm, ⟨23, _⟩ => ⟨S144x1x4096, .f32⟩
  | .hbm, ⟨24, _⟩ => ⟨S6x8x4096x128, .fp8e4m3⟩
  | .hbm, ⟨25, _⟩ => ⟨S48x4096x128, .fp8e4m3⟩
  | .hbm, ⟨26, _⟩ => ⟨S48x3x4096x128, .fp8e4m3⟩
  | .hbm, ⟨27, _⟩ => ⟨S144x4096x128, .fp8e4m3⟩
  | .hbm, ⟨28, _⟩ => ⟨S48, .f32⟩
  | .hbm, ⟨29, _⟩ => ⟨S48x3, .f32⟩
  | .hbm, ⟨30, _⟩ => ⟨S144, .f32⟩
  | .hbm, ⟨31, _⟩ => ⟨S144x1x1, .f32⟩
  | .hbm, ⟨32, _⟩ => ⟨S144x4096x128, .bf16⟩
  | .hbm, ⟨33, _⟩ => ⟨S144x4096x1, .f32⟩
  | .hbm, ⟨34, _⟩ => ⟨S6x24x4096x128, .bf16⟩
  | .hbm, ⟨35, _⟩ => ⟨S6x4096x24x128, .bf16⟩
  | .hbm, ⟨36, _⟩ => ⟨S6x24x4096, .f32⟩
  | .hbm, ⟨37, _⟩ => ⟨S6x4096x24, .f32⟩
  | .local _ .vmem, ⟨0, _⟩ => ⟨S144x4096x128, .fp8e4m3⟩
  | .local _ .vmem, ⟨1, _⟩ => ⟨S144x4096x1, .f32⟩
  | .local _ .vmem, ⟨2, _⟩ => ⟨S144x4096x128, .fp8e4m3⟩
  | .local _ .vmem, ⟨3, _⟩ => ⟨S144x1x4096, .f32⟩
  | .local _ .vmem, ⟨4, _⟩ => ⟨S144x4096x128, .fp8e4m3⟩
  | .local _ .vmem, ⟨5, _⟩ => ⟨S144x1x1, .f32⟩
  | .local _ .vmem, ⟨6, _⟩ => ⟨S144x4096x128, .bf16⟩
  | .local _ .vmem, ⟨7, _⟩ => ⟨S144x4096x1, .f32⟩
  | _, _ => ⟨S6x4096x24x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26_0 : Ref sig .tc := ⟨.hbm, 32, rfl⟩
abbrev main_v26_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S144x4096x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S144x4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S144x4096x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S144x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S144x4096x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S144x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S144x4096x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S144x4096x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Pay.lean ====
module

public import proofs.«01_k».proof.Proof.Gen.KernelIdeal.Skeleton

@[expose] public section

noncomputable section

/-! The pure values of one tile of the attention kernel, named by what they are. -/
namespace Cert.KernelIdeal.Attn

open Idealize.ShloMosaic Idealize.SL.Sem Cert.KernelIdeal.Gen

variable {F : FTy → Type} [FloatOps F]

/-- The sixteen groups of eight rows of a block, combined pairwise by `op`. -/
def fold (op : FVec F S8x128 .f32 → FVec F S8x128 .f32 → FVec F S8x128 .f32) (x : FVec F S128x128 .f32) : FVec F S8x128 .f32 :=
  op (op (op (op (extractStridedSlice S8x128 ![0, 0] x slices_S128x128_o0_0_S8x128) (extractStridedSlice S8x128 ![8, 0] x slices_S128x128_o8_0_S8x128))
             (op (extractStridedSlice S8x128 ![16, 0] x slices_S128x128_o16_0_S8x128) (extractStridedSlice S8x128 ![24, 0] x slices_S128x128_o24_0_S8x128)))
         (op (op (extractStridedSlice S8x128 ![32, 0] x slices_S128x128_o32_0_S8x128) (extractStridedSlice S8x128 ![40, 0] x slices_S128x128_o40_0_S8x128))
             (op (extractStridedSlice S8x128 ![48, 0] x slices_S128x128_o48_0_S8x128) (extractStridedSlice S8x128 ![56, 0] x slices_S128x128_o56_0_S8x128))))
     (op (op (op (extractStridedSlice S8x128 ![64, 0] x slices_S128x128_o64_0_S8x128) (extractStridedSlice S8x128 ![72, 0] x slices_S128x128_o72_0_S8x128))
             (op (extractStridedSlice S8x128 ![80, 0] x slices_S128x128_o80_0_S8x128) (extractStridedSlice S8x128 ![88, 0] x slices_S128x128_o88_0_S8x128)))
         (op (op (extractStridedSlice S8x128 ![96, 0] x slices_S128x128_o96_0_S8x128) (extractStridedSlice S8x128 ![104, 0] x slices_S128x128_o104_0_S8x128))
             (op (extractStridedSlice S8x128 ![112, 0] x slices_S128x128_o112_0_S8x128) (extractStridedSlice S8x128 ![120, 0] x slices_S128x128_o120_0_S8x128))))

/-- The causal mask of a diagonal block: key not after query. -/
def tri : IVec S128x128 1 :=
  cmpi .sle (iota .tc S128x128 32 [0] iota_S128x128_d0_w32) (iota .tc S128x128 32 [1] iota_S128x128_d1_w32)

/-- A block with the masked scores at minus infinity. -/
def maskInf (x : FVec F S128x128 .f32) : FVec F S128x128 .f32 :=
  select tri x (broadcast S128x128 (Scalar.ofBits .f32 0xFF800000#32))

/-- A query scale times the softmax scale. -/
def qsc (v : F .f32) : F .f32 := Scalar.mulf v (Scalar.ofBits .f32 0x3DB504F3#32)

/-- The running maximum with one more block. -/
def mx (acc : FVec F S8x128 .f32) (x : FVec F S128x128 .f32) (q s : F .f32) : FVec F S8x128 .f32 :=
  maximumf acc (mulf (fold maximumf x) (broadcast S8x128 (Scalar.mulf q s)))

/-- The raw scores of 256 keys against 256 queries. -/
def scores (q k : Vec F S1x256x128 .fp8e4m3) : FVec F S256x256 .f32 :=
  shapeCast S256x256
    (matmul dot_S256x128_S256x128_S256x256_1_1_0_0_n_n none
      (shapeCast S256x128 k shapeCasts_S1x256x128_S256x128) (shapeCast S256x128 q shapeCasts_S1x256x128_S256x128)
      (constant S256x256 .f32 0x00000000#32)) shapeCasts_S256x256_S256x256

/-- The integer maximum of a query. -/
def ceilMax (v : FVec F S8x128 .f32) : FVec F S1x128 .f32 :=
  ceil (shapeCast S1x128 (multiReduction .maximumf [0] S128 v 0xFF800000#32 reduces_S8x128_S128 (.inl rfl) rfl) shapeCasts_S128_S1x128)

/-- The offset taken off the scaled scores: the maximum, re-biased, in units of the last mantissa bit. -/
def bias (v : FVec F S8x128 .f32) : FVec F S8x128 .f32 :=
  broadcastTo S8x128
    (shapeCast S1x128 (mulf (subf (ceilMax v) (broadcast S1x128 (Scalar.ofBits .f32 0x42FE0000#32)))
      (broadcast S1x128 (Scalar.ofBits .f32 0x4B000000#32))) shapeCasts_S1x128_S1x128)
    broadcasts_S1x128_S8x128

/-- The scaled, shifted scores of a block. -/
def shifted (q : F .f32) (mb : FVec F S8x128 .f32) (x : FVec F S128x128 .f32) (s : F .f32) : FVec F S128x128 .f32 :=
  shapeCast S128x128
    (subf (mulf (shapeCast S16x8x128 x shapeCasts_S128x128_S16x8x128)
        (broadcast S16x8x128 (Scalar.mulf (Scalar.mulf q s) (Scalar.ofBits .f32 0x4B000000#32))))
      (broadcastTo S16x8x128 (shapeCast S1x8x128 mb shapeCasts_S8x128_S1x8x128) broadcasts_S1x8x128_S16x8x128))
    shapeCasts_S16x8x128_S128x128

/-- Their values as bits of a float. -/
def toProb (y : FVec F S128x128 .f32) : FVec F S128x128 .f32 :=
  bitcastToFloat .f32 (fptosi 32 (roundeven (maximumf y (broadcast S128x128 (Scalar.ofBits .f32 0x00000000#32)))))

/-- The weights of a full block. -/
def prob (q : F .f32) (mb : FVec F S8x128 .f32) (x : FVec F S128x128 .f32) (s : F .f32) : FVec F S128x128 .f32 :=
  toProb (shifted q mb x s)

/-- The weights of a diagonal block. -/
def probD (q : F .f32) (mb : FVec F S8x128 .f32) (x : FVec F S128x128 .f32) (s : F .f32) : FVec F S128x128 .f32 :=
  toProb (select tri (shifted q mb x s) (broadcast S128x128 (Scalar.ofBits .f32 0x00000000#32)))

/-- Two blocks of weights of the same queries, narrowed. -/
def cat2 (a b : FVec F S128x128 .f32) : FVec F S256x128 .fp8e4m3 :=
  concatenate S256x128 0 [⟨S128x128, truncf .fp8e4m3 a bitsLt_fp8e4m3_f32⟩, ⟨S128x128, truncf .fp8e4m3 b bitsLt_fp8e4m3_f32⟩] concatenates_S128x128_S128x128_S256x128_d0

/-- One block of weights over a block of zeros. -/
def cat0 (a : FVec F S128x128 .f32) : FVec F S256x128 .fp8e4m3 :=
  concatenate S256x128 0 [⟨S128x128, truncf .fp8e4m3 a bitsLt_fp8e4m3_f32⟩, ⟨S128x128, broadcast S128x128 (Scalar.ofBits .fp8e4m3 0x00#8)⟩] concatenates_S128x128_S128x128_S256x128_d0

/-- The weighted values of one tile, added up. -/
def pv (acc : FVec F S128x256 .f32) (vt : Vec F S128x256 .fp8e4m3) (p0 p1 : FVec F S256x128 .fp8e4m3) : FVec F S128x256 .f32 :=
  addf acc (matmul dot_S128x256_S256x256_S128x256_1_0_0_1_n_n none vt
    (concatenate S256x256 1 [⟨S256x128, p0⟩, ⟨S256x128, p1⟩] concatenates_S256x128_S256x128_S256x256_d1)
    (constant S128x256 .f32 0x00000000#32))

/-- The normalisers of the 256 queries. -/
def lrow (l0 l1 : FVec F S8x128 .f32) : FVec F S1x256 .f32 :=
  concatenate S1x256 1
    [⟨S1x128, shapeCast S1x128 (multiReduction .add [0] S128 l0 0x00000000#32 reduces_S8x128_S128 (.inl rfl) rfl) shapeCasts_S128_S1x128⟩,
     ⟨S1x128, shapeCast S1x128 (multiReduction .add [0] S128 l1 0x00000000#32 reduces_S8x128_S128 (.inl rfl) rfl) shapeCasts_S128_S1x128⟩]
    concatenates_S1x128_S1x128_S1x256_d1

/-- The output tile. -/
def outTile (v40 : F .f32) (acc : FVec F S128x256 .f32) (l0 l1 : FVec F S8x128 .f32) : FVec F S1x256x128 .bf16 :=
  shapeCast S1x256x128
    (truncf .bf16
      (transpose S256x128 [1, 0]
        (mulf acc (broadcastTo S128x256 (divf (broadcast S1x256 v40) (lrow l0 l1)) broadcasts_S1x256_S128x256))
        transposes_S128x256_p1_0_S256x128) bitsLt_bf16_f32) shapeCasts_S256x128_S1x256x128

/-- The log-sum-exp tile. -/
def lseTile (q0 : BitVec 32) (m0 m1 l0 l1 : FVec F S8x128 .f32) : FVec F S1x1x256 .f32 :=
  shapeCast S1x1x256
    (subf
      (addf (concatenate S1x256 1 [⟨S1x128, ceilMax m0⟩, ⟨S1x128, ceilMax m1⟩] concatenates_S1x128_S1x128_S1x256_d1)
        (mulf (log (lrow l0 l1)) (broadcast S1x256 (Scalar.ofBits .f32 0x3FB8AA3B#32))))
      (mulf (log (sitofp .f32 (addi (broadcast S1x256 (Scalar.addi q0 1#32)) (iota .tc S1x256 32 [1] iota_S1x256_d1_w32))))
        (broadcast S1x256 (Scalar.ofBits .f32 0x3FB8AA3B#32)))) shapeCasts_S1x256_S1x1x256

/-- A tile of values, turned over by the product with the identity. -/
def turn (v : Vec F S1x256x128 .fp8e4m3) : FVec F S128x256 .fp8e4m3 :=
  shapeCast S128x256
    (truncf .fp8e4m3
      (matmul dot_S128x128_S256x128_S128x256_1_1_0_0_n_n none
        (truncf .fp8e4m3 (sitofp .f32 (extui 32 (cmpi .eq (iota .tc S128x128 32 [0] iota_S128x128_d0_w32) (iota .tc S128x128 32 [1] iota_S128x128_d1_w32)) natLt_1_32)) bitsLt_fp8e4m3_f32)
        (shapeCast S256x128 v shapeCasts_S1x256x128_S256x128)
        (constant S128x256 .f32 0x00000000#32)) bitsLt_fp8e4m3_f32) shapeCasts_S128x256_S128x256

/-- The start of a running maximum. -/
def negInf : FVec F S8x128 .f32 := broadcast S8x128 (Scalar.ofBits .f32 0xFF800000#32)
/-- The start of a running sum. -/
def zero8 : FVec F S8x128 .f32 := broadcast S8x128 (Scalar.ofBits .f32 0x00000000#32)
/-- The start of the weighted values. -/
def zeroPV : FVec F S128x256 .f32 := broadcast S128x256 (Scalar.ofBits .f32 0x00000000#32)

end Cert.KernelIdeal.Attn
-- ==== Proof.Prog.lean ====
module

public import proofs.«01_k».proof.Proof.Pay

@[expose] public section

set_option maxRecDepth 65536

noncomputable section

/-! The kernel body as one program per head, over the named tile values. -/
namespace Cert.KernelIdeal.Attn

open Idealize.ShloMosaic Idealize.SL.Sem Cert.KernelIdeal.Gen

variable {F : FTy → Type} [FloatOps F]
variable (i : grid0.Coords) (arg1 : Memref sig .tc .smem S4608 .f32) (harg1 : arg1.IsWhole) (arg2 : Memref sig .tc .smem S1536 .f32) (harg2 : arg2.IsWhole) (arg3 : Memref sig .tc .smem S48 .f32) (harg3 : arg3.IsWhole) (arg4 : Memref sig .tc .vmem S1x4096x384 .fp8e4m3) (harg4 : arg4.IsWhole) (arg5 : Memref sig .tc .vmem S1x4096x128 .fp8e4m3) (harg5 : arg5.IsWhole) (arg6 : Memref sig .tc .vmem S1x4096x128 .fp8e4m3) (harg6 : arg6.IsWhole) (arg7 : Memref sig .tc .vmem S1x4096x384 .bf16) (harg7 : arg7.IsWhole) (arg8 : Memref sig .tc .vmem S1x3x4096 .f32) (harg8 : arg8.IsWhole) (arg9 : Memref sig .tc .vmem S128x4096 .fp8e4m3) (harg9 : arg9.IsWhole) (arg10 : Memref sig .tc .vmem S4096x256 .f32) (harg10 : arg10.IsWhole)

/-- One tile of keys of the first pass: its scores are kept and the two running maxima taken on. -/
def pass1Body (t2 : Fin k0_t2_loop.trips) (q : Vec F S1x256x128 .fp8e4m3) (q0 q1 : F .f32) :
    Fin (k0_t3_loop t2).trips → FVec F S8x128 .f32 × FVec F S8x128 .f32 → Prog (TpuEff nD τ sig (Elt F) Λ₀ .tc) (FVec F S8x128 .f32 × FVec F S8x128 .f32) :=
  fun t3 acc => do
    let kt : Vec F S1x256x128 .fp8e4m3 ← Prog.lift (.load arg5 (Rect.unit (s := S1x4096x128) (k0_off6 t2 t3) S1x256x128.size (k0_off6_inb t2 t3)).toLoadRect (View.loadsAt_vmem h_S1x256x128))
    let _u : Vec F S256x256 .f32 ← Prog.lift (.load arg10 (Rect.unit (s := S4096x256) (k0_off7 t2 t3) S256x256.size (k0_off7_inb t2 t3)).toLoadRect (View.loadsAt_vmem h_S256x256))
    Prog.lift (.store arg10 (Rect.unit (s := S4096x256) (k0_off7 t2 t3) S256x256.size (k0_off7_inb t2 t3)) (scores q kt) Finset.univ (View.stores_vmem_bits_univ h_S256x256 rfl) (.inl rfl))
    let b00 : Vec F S128x128 .f32 ← Prog.lift (.load arg10 (Rect.unit (s := S4096x256) (k0_off8 t2 t3 0#32) S128x128.size (k0_off8_inb t2 t3 0)).toLoadRect (View.loadsAt_vmem h_S128x128))
    let s00 : Elt F .f32 ← smemLoad arg2 (Rect.unit (s := S1536) (k0_off9 i t2 t3 0#32) S1.size (k0_off9_inb i t2 t3 0)) numel1_S1 rfl
    let b10 : Vec F S128x128 .f32 ← Prog.lift (.load arg10 (Rect.unit (s := S4096x256) (k0_off8 t2 t3 128#32) S128x128.size (k0_off8_inb t2 t3 1)).toLoadRect (View.loadsAt_vmem h_S128x128))
    let s10 : Elt F .f32 ← smemLoad arg2 (Rect.unit (s := S1536) (k0_off9 i t2 t3 1#32) S1.size (k0_off9_inb i t2 t3 1)) numel1_S1 rfl
    let b01 : Vec F S128x128 .f32 ← Prog.lift (.load arg10 (Rect.unit (s := S4096x256) (k0_off10 t2 t3 0#32) S128x128.size (k0_off10_inb t2 t3 0)).toLoadRect (View.loadsAt_vmem h_S128x128))
    let s01 : Elt F .f32 ← smemLoad arg2 (Rect.unit (s := S1536) (k0_off9 i t2 t3 0#32) S1.size (k0_off9_inb i t2 t3 0)) numel1_S1 rfl
    let b11 : Vec F S128x128 .f32 ← Prog.lift (.load arg10 (Rect.unit (s := S4096x256) (k0_off10 t2 t3 128#32) S128x128.size (k0_off10_inb t2 t3 1)).toLoadRect (View.loadsAt_vmem h_S128x128))
    let s11 : Elt F .f32 ← smemLoad arg2 (Rect.unit (s := S1536) (k0_off9 i t2 t3 1#32) S1.size (k0_off9_inb i t2 t3 1)) numel1_S1 rfl
    pure (mx (mx acc.1 b00 q0 s00) b10 q0 s10, mx (mx acc.2 b01 q1 s01) b11 q1 s11)

/-- One tile of keys of the second pass. -/
def pass2Body (t2 : Fin k0_t2_loop.trips) (q0 q1 : F .f32) (mb0 mb1 : FVec F S8x128 .f32) :
    Fin (k0_t5_loop t2).trips → FVec F S8x128 .f32 × FVec F S8x128 .f32 × FVec F S128x256 .f32 → Prog (TpuEff nD τ sig (Elt F) Λ₀ .tc) (FVec F S8x128 .f32 × FVec F S8x128 .f32 × FVec F S128x256 .f32) :=
  fun t5 acc => do
    let b00 : Vec F S128x128 .f32 ← Prog.lift (.load arg10 (Rect.unit (s := S4096x256) (k0_off21 t2 t5 0#32) S128x128.size (k0_off21_inb t2 t5 0)).toLoadRect (View.loadsAt_vmem h_S128x128))
    let s00 : Elt F .f32 ← smemLoad arg2 (Rect.unit (s := S1536) (k0_off22 i t2 t5 0#32) S1.size (k0_off22_inb i t2 t5 0)) numel1_S1 rfl
    let b10 : Vec F S128x128 .f32 ← Prog.lift (.load arg10 (Rect.unit (s := S4096x256) (k0_off21 t2 t5 128#32) S128x128.size (k0_off21_inb t2 t5 1)).toLoadRect (View.loadsAt_vmem h_S128x128))
    let s10 : Elt F .f32 ← smemLoad arg2 (Rect.unit (s := S1536) (k0_off22 i t2 t5 1#32) S1.size (k0_off22_inb i t2 t5 1)) numel1_S1 rfl
    let b01 : Vec F S128x128 .f32 ← Prog.lift (.load arg10 (Rect.unit (s := S4096x256) (k0_off23 t2 t5 0#32) S128x128.size (k0_off23_inb t2 t5 0)).toLoadRect (View.loadsAt_vmem h_S128x128))
    let s01 : Elt F .f32 ← smemLoad arg2 (Rect.unit (s := S1536) (k0_off22 i t2 t5 0#32) S1.size (k0_off22_inb i t2 t5 0)) numel1_S1 rfl
    let b11 : Vec F S128x128 .f32 ← Prog.lift (.load arg10 (Rect.unit (s := S4096x256) (k0_off23 t2 t5 128#32) S128x128.size (k0_off23_inb t2 t5 1)).toLoadRect (View.loadsAt_vmem h_S128x128))
    let s11 : Elt F .f32 ← smemLoad arg2 (Rect.unit (s := S1536) (k0_off22 i t2 t5 1#32) S1.size (k0_off22_inb i t2 t5 1)) numel1_S1 rfl
    let vt : Vec F S128x256 .fp8e4m3 ← Prog.lift (.load arg9 (Rect.unit (s := S128x4096) (k0_off24 t2 t5) S128x256.size (k0_off24_inb t2 t5)).toLoadRect (View.loadsAt_vmem h_S128x256))
    pure (addf (addf acc.1 (fold addf (prob q0 mb0 b00 s00))) (fold addf (prob q0 mb0 b10 s10)),
      addf (addf acc.2.1 (fold addf (prob q1 mb1 b01 s01))) (fold addf (prob q1 mb1 b11 s11)),
      pv acc.2.2 vt (cat2 (prob q0 mb0 b00 s00) (prob q0 mb0 b10 s10)) (cat2 (prob q1 mb1 b01 s01) (prob q1 mb1 b11 s11)))

/-- The end of the first pass: the diagonal tile. -/
def diag1 (t2 : Fin k0_t2_loop.trips) (q : Vec F S1x256x128 .fp8e4m3) (q0 q1 : F .f32) (acc : FVec F S8x128 .f32 × FVec F S8x128 .f32) :
    Prog (TpuEff nD τ sig (Elt F) Λ₀ .tc) (FVec F S8x128 .f32 × FVec F S8x128 .f32) := do
  let kt : Vec F S1x256x128 .fp8e4m3 ← Prog.lift (.load arg5 (Rect.unit (s := S1x4096x128) (k0_off16 t2) S1x256x128.size (k0_off16_inb t2)).toLoadRect (View.loadsAt_vmem h_S1x256x128))
  let _u : Vec F S256x256 .f32 ← Prog.lift (.load arg10 (Rect.unit (s := S4096x256) (k0_off17 t2) S256x256.size (k0_off17_inb t2)).toLoadRect (View.loadsAt_vmem h_S256x256))
  Prog.lift (.store arg10 (Rect.unit (s := S4096x256) (k0_off17 t2) S256x256.size (k0_off17_inb t2)) (scores q kt) Finset.univ (View.stores_vmem_bits_univ h_S256x256 rfl) (.inl rfl))
  let b00 : Vec F S128x128 .f32 ← Prog.lift (.load arg10 (Rect.unit (s := S4096x256) (k0_off18 t2) S128x128.size (k0_off18_inb t2)).toLoadRect (View.loadsAt_vmem h_S128x128))
  let s00 : Elt F .f32 ← smemLoad arg2 (Rect.unit (s := S1536) (k0_off19 i t2 0#32) S1.size (k0_off19_inb i t2 0)) numel1_S1 rfl
  let b01 : Vec F S128x128 .f32 ← Prog.lift (.load arg10 (Rect.unit (s := S4096x256) (k0_off20 t2 0#32) S128x128.size (k0_off20_inb t2 0)).toLoadRect (View.loadsAt_vmem h_S128x128))
  let s01 : Elt F .f32 ← smemLoad arg2 (Rect.unit (s := S1536) (k0_off19 i t2 0#32) S1.size (k0_off19_inb i t2 0)) numel1_S1 rfl
  let b11 : Vec F S128x128 .f32 ← Prog.lift (.load arg10 (Rect.unit (s := S4096x256) (k0_off20 t2 128#32) S128x128.size (k0_off20_inb t2 1)).toLoadRect (View.loadsAt_vmem h_S128x128))
  let s11 : Elt F .f32 ← smemLoad arg2 (Rect.unit (s := S1536) (k0_off19 i t2 1#32) S1.size (k0_off19_inb i t2 1)) numel1_S1 rfl
  pure (mx acc.1 (maskInf b00) q0 s00, mx (mx acc.2 b01 q1 s01) (maskInf b11) q1 s11)

/-- The end of the second pass: the diagonal tile. -/
def diag2 (t2 : Fin k0_t2_loop.trips) (q0 q1 : F .f32) (mb0 mb1 : FVec F S8x128 .f32) (acc : FVec F S8x128 .f32 × FVec F S8x128 .f32 × FVec F S128x256 .f32) :
    Prog (TpuEff nD τ sig (Elt F) Λ₀ .tc) (FVec F S8x128 .f32 × FVec F S8x128 .f32 × FVec F S128x256 .f32) := do
  let b00 : Vec F S128x128 .f32 ← Prog.lift (.load arg10 (Rect.unit (s := S4096x256) (k0_off18 t2) S128x128.size (k0_off18_inb t2)).toLoadRect (View.loadsAt_vmem h_S128x128))
  let s00 : Elt F .f32 ← smemLoad arg2 (Rect.unit (s := S1536) (k0_off19 i t2 0#32) S1.size (k0_off19_inb i t2 0)) numel1_S1 rfl
  let b01 : Vec F S128x128 .f32 ← Prog.lift (.load arg10 (Rect.unit (s := S4096x256) (k0_off20 t2 0#32) S128x128.size (k0_off20_inb t2 0)).toLoadRect (View.loadsAt_vmem h_S128x128))
  let s01 : Elt F .f32 ← smemLoad arg2 (Rect.unit (s := S1536) (k0_off19 i t2 0#32) S1.size (k0_off19_inb i t2 0)) numel1_S1 rfl
  let b11 : Vec F S128x128 .f32 ← Prog.lift (.load arg10 (Rect.unit (s := S4096x256) (k0_off20 t2 128#32) S128x128.size (k0_off20_inb t2 1)).toLoadRect (View.loadsAt_vmem h_S128x128))
  let s11 : Elt F .f32 ← smemLoad arg2 (Rect.unit (s := S1536) (k0_off19 i t2 1#32) S1.size (k0_off19_inb i t2 1)) numel1_S1 rfl
  let vt : Vec F S128x256 .fp8e4m3 ← Prog.lift (.load arg9 (Rect.unit (s := S128x4096) (k0_off29 t2) S128x256.size (k0_off29_inb t2)).toLoadRect (View.loadsAt_vmem h_S128x256))
  pure (addf acc.1 (fold addf (probD q0 mb0 b00 s00)),
    addf (addf acc.2.1 (fold addf (prob q1 mb1 b01 s01))) (fold addf (probD q1 mb1 b11 s11)),
    pv acc.2.2 vt (cat0 (probD q0 mb0 b00 s00)) (cat2 (prob q1 mb1 b01 s01) (probD q1 mb1 b11 s11)))

/-- One query tile of one head: `oq` is where its queries and outputs lie, `ol` its log-sum-exps, `w0` and `w1` its two
    query scales. -/
def headProg (t2 : Fin k0_t2_loop.trips) (v40 : F .f32)
    (oq : Fin 3 → ℕ) (hoq : ∀ a, oq a + S1x256x128.size a ≤ S1x4096x384.size a)
    (hpk : (Rect.unit (s := S1x4096x384) oq S1x256x128.size hoq).PackedRows (EltTy.packing .bf16))
    (ol : Fin 3 → ℕ) (hol : ∀ a, ol a + S1x1x256.size a ≤ S1x3x4096.size a)
    (w0 : Fin 1 → ℕ) (hw0 : ∀ a, w0 a + S1.size a ≤ S4608.size a) (w1 : Fin 1 → ℕ) (hw1 : ∀ a, w1 a + S1.size a ≤ S4608.size a) :
    Prog (TpuEff nD τ sig (Elt F) Λ₀ .tc) Unit := do
  let q : Vec F S1x256x128 .fp8e4m3 ← Prog.lift (.load arg4 (Rect.unit (s := S1x4096x384) oq S1x256x128.size hoq).toLoadRect (View.loadsAt_vmem h_S1x256x128))
  let q0 : Elt F .f32 ← smemLoad arg1 (Rect.unit (s := S4608) w0 S1.size hw0) numel1_S1 rfl
  let q1 : Elt F .f32 ← smemLoad arg1 (Rect.unit (s := S4608) w1 S1.size hw1) numel1_S1 rfl
  let a1 ← Scf.Loop.for (k0_t3_loop t2) (k0_t3_ok t2) (negInf (F := F), negInf (F := F)) (pass1Body i arg2 arg5 arg10 t2 q (qsc q0) (qsc q1))
  let m ← diag1 i arg2 arg5 arg10 t2 q (qsc q0) (qsc q1) a1
  let a2 ← Scf.Loop.for (k0_t5_loop t2) (k0_t5_ok t2) (zero8 (F := F), zero8 (F := F), zeroPV (F := F)) (pass2Body i arg2 arg9 arg10 t2 (qsc q0) (qsc q1) (bias m.1) (bias m.2))
  let l ← diag2 i arg2 arg9 arg10 t2 (qsc q0) (qsc q1) (bias m.1) (bias m.2) a2
  let _u : Vec F S1x256x128 .bf16 ← Prog.lift (.load arg7 (Rect.unit (s := S1x4096x384) oq S1x256x128.size hoq).toLoadRect (View.loadsAt_vmem h_S1x256x128))
  Prog.lift (.store arg7 (Rect.unit (s := S1x4096x384) oq S1x256x128.size hoq) (outTile v40 l.2.2 l.1 l.2.1) Finset.univ (View.stores_vmem h_S1x256x128 (harg7.storeExact_slice rfl _ hpk) (fun _ => rfl)) (.inl rfl))
  let _w : Vec F S1x1x256 .f32 ← Prog.lift (.load arg8 (Rect.unit (s := S1x3x4096) ol S1x1x256.size hol).toLoadRect (View.loadsAt_vmem h_S1x1x256))
  Prog.lift (.store arg8 (Rect.unit (s := S1x3x4096) ol S1x1x256.size hol) (lseTile (Scalar.muli (Scf.iv 0#32 1#32 t2) 256#32) m.1 m.2 l.1 l.2.1) Finset.univ (View.stores_vmem_bits_univ h_S1x1x256 rfl) (.inl rfl))

/-- A loop of no trips is what it starts from. -/
theorem for_none {σ : Type} {E : Type → Type} {w : ℕ} (l : Scf.Loop w) (hok : l.OK) (init : σ) (body : Fin l.trips → σ → Prog E σ)
    (h : l.trips = 0) : Scf.Loop.for l hok init body = .ret init := by
  show Scf.for l.lb l.ub l.st hok init body = _
  rw [Scf.for_eq]
  have : List.finRange (Scf.trips l.lb l.ub l.st) = [] := by
    apply List.eq_nil_of_length_eq_zero
    have : Scf.trips l.lb l.ub l.st = 0 := h
    simp [this]
  rw [this]; rfl

section
variable (v16 v26 : BitVec 32) (t2 : Fin k0_t2_loop.trips)

theorem t3_body_eq (v47 : Vec F S1x256x128 .fp8e4m3) (v56 v65 : Elt F .f32) :
    k0_t3_body i arg1 harg1 arg2 harg2 arg3 harg3 arg4 harg4 arg5 harg5 arg6 harg6 arg7 harg7 arg8 harg8 arg9 harg9 arg10 harg10 v16 v26 0#32 1#32 t2 v47 v56 v65
      = pass1Body (F := F) i arg2 arg5 arg10 t2 v47 (qsc v56) (qsc v65) := by
  funext t3 acc
  rfl

theorem t5_body_eq (v57 v66 : F .f32) (v135 v231 : FVec F S8x128 .f32) (arg11 : BitVec 32) :
    k0_t5_body i arg1 harg1 arg2 harg2 arg3 harg3 arg4 harg4 arg5 harg5 arg6 harg6 arg7 harg7 arg8 harg8 arg9 harg9 arg10 harg10 v16 v26 t2 arg11 v57 v66 v135 v231
      = pass2Body (F := F) i arg2 arg9 arg10 t2 v57 v66 (bias v135) (bias v231) := by
  funext t3 acc
  rfl

theorem t4_none : (k0_t4_loop t2).trips = 0 := by revert t2; decide +kernel
theorem t6_none : (k0_t6_loop t2).trips = 0 := by revert t2; decide +kernel
theorem t8_none : (k0_t8_loop t2).trips = 0 := by revert t2; decide +kernel
theorem t10_none : (k0_t10_loop t2).trips = 0 := by revert t2; decide +kernel
theorem t12_none : (k0_t12_loop t2).trips = 0 := by revert t2; decide +kernel
theorem t14_none : (k0_t14_loop t2).trips = 0 := by revert t2; decide +kernel

/-- The body of one query tile is its three heads, one after the other. -/
theorem t2_body_eq (v40 : F .f32) :
    k0_t2_body i arg1 harg1 arg2 harg2 arg3 harg3 arg4 harg4 arg5 harg5 arg6 harg6 arg7 harg7 arg8 harg8 arg9 harg9 arg10 harg10 v16 v26 k0_pay448 v40 t2 ()
      = (headProg (F := F) i arg1 arg2 arg4 arg5 arg7 harg7 arg8 arg9 arg10 t2 v40 (k0_off4 t2) (k0_off4_inb t2) (k0_off4_packedbf16 t2) (k0_off30 t2) (k0_off30_inb t2)
          (k0_off5 i t2 0#32 0#32) (k0_off5_inb i t2 0 0) (k0_off5 i t2 1#32 0#32) (k0_off5_inb i t2 1 0) >>= fun _ =>
        headProg (F := F) i arg1 arg2 arg4 arg5 arg7 harg7 arg8 arg9 arg10 t2 v40 (k0_off31 t2) (k0_off31_inb t2) (k0_off31_packedbf16 t2) (k0_off50 t2) (k0_off50_inb t2)
          (k0_off5 i t2 0#32 1#32) (k0_off5_inb i t2 0 1) (k0_off5 i t2 1#32 1#32) (k0_off5_inb i t2 1 1) >>= fun _ =>
        headProg (F := F) i arg1 arg2 arg4 arg5 arg7 harg7 arg8 arg9 arg10 t2 v40 (k0_off51 t2) (k0_off51_inb t2) (k0_off51_packedbf16 t2) (k0_off70 t2) (k0_off70_inb t2)
          (k0_off5 i t2 0#32 2#32) (k0_off5_inb i t2 0 2) (k0_off5 i t2 1#32 2#32) (k0_off5_inb i t2 1 2)) := by
  unfold k0_t2_body headProg diag1 diag2
  simp only [k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel, k0_part69_eq_skeleton, k0_part69_skel, bind_assoc, pure_bind, Prog.bind_ret, for_none _ _ _ _ (t4_none t2), for_none _ _ _ _ (t6_none t2), for_none _ _ _ _ (t8_none t2), for_none _ _ _ _ (t10_none t2), for_none _ _ _ _ (t12_none t2), for_none _ _ _ _ (t14_none t2)]
  rfl

end

end Cert.KernelIdeal.Attn
-- ==== Proof.Spec.lean ====
module

public import proofs.«01_k».proof.Proof.Pay
public import Idealize.ShloMosaic.Lib.VecWindow

@[expose] public section

noncomputable section

/-! What one query tile of one head computes, as functions of the arrays read. -/
namespace Cert.KernelIdeal.Attn

open Idealize.ShloMosaic Idealize.SL.Sem Cert.KernelIdeal.Gen
open Idealize.ShloMosaic.VecWindow (window put)

variable {F : FTy → Type} [FloatOps F]

/-- Word `n` of a table (its last word past the end). -/
def word {α : Type} {N : ℕ} (X : (⟨1, ![N]⟩ : Shape).Idx → α) (hN : 0 < N) (n : ℕ) : α :=
  X fun a => match a with | ⟨0, _⟩ => ⟨min n (N - 1), by show min n (N - 1) < N; omega⟩

/-- Tile `t` of 256 keys (or values). -/
def kTile (X : Vec F S1x4096x128 .fp8e4m3) (t : ℕ) : Vec F S1x256x128 .fp8e4m3 :=
  window X ![0, 256 * min t 15, 0] S1x256x128.size (fun a => by match a with | ⟨0, _⟩ => exact Nat.le_refl _ | ⟨1, _⟩ => show 256 * min t 15 + 256 ≤ 4096; omega | ⟨2, _⟩ => exact Nat.le_refl _)
/-- Tile `t` of 256 values, turned over. -/
def vTile (X : FVec F S128x4096 .fp8e4m3) (t : ℕ) : Vec F S128x256 .fp8e4m3 :=
  window X ![0, 256 * min t 15] S128x256.size (fun a => by match a with | ⟨0, _⟩ => exact Nat.le_refl _ | ⟨1, _⟩ => show 256 * min t 15 + 256 ≤ 4096; omega)
/-- Tile `t` of the 256 queries of head `g`. -/
def qTile (X : Vec F S1x4096x384 .fp8e4m3) (t g : ℕ) : Vec F S1x256x128 .fp8e4m3 :=
  window X ![0, 256 * min t 15, 128 * min g 2] S1x256x128.size (fun a => by match a with | ⟨0, _⟩ => exact Nat.le_refl _ | ⟨1, _⟩ => show 256 * min t 15 + 256 ≤ 4096; omega | ⟨2, _⟩ => show 128 * min g 2 + 128 ≤ 384; omega)

/-- One of the four blocks of a tile of scores: keys' half `r`, queries' half `c`. -/
def blk (x : FVec F S256x256 .f32) (r c : Fin 2) : FVec F S128x128 .f32 :=
  window x ![128 * r.val, 128 * c.val] S128x128.size (fun a => by match a with | ⟨0, _⟩ => show 128 * r.val + 128 ≤ 256; omega | ⟨1, _⟩ => show 128 * c.val + 128 ≤ 256; omega)

/-- What a query tile of a head reads: its queries, their two scales, the key scales, the keys and the values by tile. -/
structure Rd (F : FTy → Type) where
  q : Vec F S1x256x128 .fp8e4m3
  q0 : F .f32
  q1 : F .f32
  ks : ℕ → ℕ → F .f32
  kt : ℕ → Vec F S1x256x128 .fp8e4m3
  vt : ℕ → Vec F S128x256 .fp8e4m3

variable (D : Rd F)

/-- The scores of key tile `t`. -/
def Rd.sc (t : ℕ) : FVec F S256x256 .f32 := scores D.q (D.kt t)

/-- The running maxima with key tile `t` in. -/
def Rd.step1 (t : ℕ) (acc : FVec F S8x128 .f32 × FVec F S8x128 .f32) : FVec F S8x128 .f32 × FVec F S8x128 .f32 :=
  (mx (mx acc.1 (blk (D.sc t) 0 0) (qsc D.q0) (D.ks t 0)) (blk (D.sc t) 1 0) (qsc D.q0) (D.ks t 1),
   mx (mx acc.2 (blk (D.sc t) 0 1) (qsc D.q1) (D.ks t 0)) (blk (D.sc t) 1 1) (qsc D.q1) (D.ks t 1))

/-- The running maxima over the key tiles before `k`. -/
def Rd.max1 : ℕ → FVec F S8x128 .f32 × FVec F S8x128 .f32
  | 0 => (negInf, negInf)
  | k + 1 => D.step1 k (Rd.max1 k)

/-- The maxima with the diagonal tile `t` in. -/
def Rd.maxD (t : ℕ) : FVec F S8x128 .f32 × FVec F S8x128 .f32 :=
  (mx (D.max1 t).1 (maskInf (blk (D.sc t) 0 0)) (qsc D.q0) (D.ks t 0),
   mx (mx (D.max1 t).2 (blk (D.sc t) 0 1) (qsc D.q1) (D.ks t 0)) (maskInf (blk (D.sc t) 1 1)) (qsc D.q1) (D.ks t 1))

/-- The running sums with key tile `t` in, over the biases `mb`. -/
def Rd.step2 (mb : FVec F S8x128 .f32 × FVec F S8x128 .f32) (t : ℕ)
    (acc : FVec F S8x128 .f32 × FVec F S8x128 .f32 × FVec F S128x256 .f32) : FVec F S8x128 .f32 × FVec F S8x128 .f32 × FVec F S128x256 .f32 :=
  (addf (addf acc.1 (fold addf (prob (qsc D.q0) mb.1 (blk (D.sc t) 0 0) (D.ks t 0)))) (fold addf (prob (qsc D.q0) mb.1 (blk (D.sc t) 1 0) (D.ks t 1))),
   addf (addf acc.2.1 (fold addf (prob (qsc D.q1) mb.2 (blk (D.sc t) 0 1) (D.ks t 0)))) (fold addf (prob (qsc D.q1) mb.2 (blk (D.sc t) 1 1) (D.ks t 1))),
   pv acc.2.2 (D.vt t)
     (cat2 (prob (qsc D.q0) mb.1 (blk (D.sc t) 0 0) (D.ks t 0)) (prob (qsc D.q0) mb.1 (blk (D.sc t) 1 0) (D.ks t 1)))
     (cat2 (prob (qsc D.q1) mb.2 (blk (D.sc t) 0 1) (D.ks t 0)) (prob (qsc D.q1) mb.2 (blk (D.sc t) 1 1) (D.ks t 1))))

/-- The running sums over the key tiles before `k`. -/
def Rd.sum2 (mb : FVec F S8x128 .f32 × FVec F S8x128 .f32) : ℕ → FVec F S8x128 .f32 × FVec F S8x128 .f32 × FVec F S128x256 .f32
  | 0 => (zero8, zero8, zeroPV)
  | k + 1 => D.step2 mb k (Rd.sum2 mb k)

/-- The biases of the query tile `t`. -/
def Rd.mb (t : ℕ) : FVec F S8x128 .f32 × FVec F S8x128 .f32 := (bias (D.maxD t).1, bias (D.maxD t).2)

/-- The sums with the diagonal tile in. -/
def Rd.sumD (t : ℕ) : FVec F S8x128 .f32 × FVec F S8x128 .f32 × FVec F S128x256 .f32 :=
  (addf (D.sum2 (D.mb t) t).1 (fold addf (probD (qsc D.q0) (D.mb t).1 (blk (D.sc t) 0 0) (D.ks t 0))),
   addf (addf (D.sum2 (D.mb t) t).2.1 (fold addf (prob (qsc D.q1) (D.mb t).2 (blk (D.sc t) 0 1) (D.ks t 0)))) (fold addf (probD (qsc D.q1) (D.mb t).2 (blk (D.sc t) 1 1) (D.ks t 1))),
   pv (D.sum2 (D.mb t) t).2.2 (D.vt t) (cat0 (probD (qsc D.q0) (D.mb t).1 (blk (D.sc t) 0 0) (D.ks t 0)))
     (cat2 (prob (qsc D.q1) (D.mb t).2 (blk (D.sc t) 0 1) (D.ks t 0)) (probD (qsc D.q1) (D.mb t).2 (blk (D.sc t) 1 1) (D.ks t 1))))

/-- The output tile of query tile `t`. -/
def Rd.out (v40 : F .f32) (t : ℕ) : FVec F S1x256x128 .bf16 := outTile v40 (D.sumD t).2.2 (D.sumD t).1 (D.sumD t).2.1
/-- The log-sum-exps of query tile `t`. -/
def Rd.lse (t : ℕ) : FVec F S1x1x256 .f32 :=
  lseTile (Scalar.muli (Scf.iv 0#32 1#32 t) 256#32) (D.maxD t).1 (D.maxD t).2 (D.sumD t).1 (D.sumD t).2.1

/-- The values turned over, tile by tile: what the first loop leaves. -/
def vTurned (X : Vec F S1x4096x128 .fp8e4m3) (t : ℕ) : Vec F S128x256 .fp8e4m3 := turn (kTile X t)

end Cert.KernelIdeal.Attn
-- ==== Proof.Offs.lean ====
module

public import proofs.«01_k».proof.Proof.Pay

@[expose] public section

set_option maxRecDepth 65536

/-! Where the scalar loads read, in closed form, and how often the loops run. -/
namespace Cert.KernelIdeal.Attn

open Idealize.ShloMosaic Cert.KernelIdeal.Gen

theorem t1_trips : k0_t1_loop.trips = 16 := by decide +kernel
theorem t2_trips : k0_t2_loop.trips = 16 := by decide +kernel
theorem t3_trips : ∀ t2 : Fin k0_t2_loop.trips, (k0_t3_loop t2).trips = t2.val := by decide +kernel
theorem t5_trips : ∀ t2 : Fin k0_t2_loop.trips, (k0_t5_loop t2).trips = t2.val := by decide +kernel

/-- The grid point of number `n`. -/
def pt (n : Fin 48) : grid0.Coords := fun a => match a with | ⟨0, _⟩ => n

theorem pt_eq (i : grid0.Coords) : pt (i 0) = i := by
  funext a
  match a with
  | ⟨0, _⟩ => rfl

/-- The place of a query scale: batch, block of 128 rows, head. -/
def wq (n t j h : ℕ) : ℕ := (n / 8 * 32 + 2 * t + j) * 24 + (n % 8 * 3 + h)
/-- The place of a key scale: batch, block of 128 rows, head. -/
def wk (n t j : ℕ) : ℕ := (n / 8 * 32 + 2 * t + j) * 8 + n % 8

theorem off3_pt : ∀ n : Fin 48, k0_off3 (pt n) 0 = n.val := by decide +kernel
theorem off5_pt : ∀ (n : Fin 48) (t2 : Fin k0_t2_loop.trips) (j : Fin 2) (h : Fin 3),
    k0_off5 (pt n) t2 (BitVec.ofNat 32 j.val) (BitVec.ofNat 32 h.val) 0 = wq n.val t2.val j.val h.val := by decide +kernel
theorem off9_pt : ∀ (n : Fin 48) (t2 : Fin k0_t2_loop.trips) (t3 : Fin (k0_t3_loop t2).trips) (j : Fin 2),
    k0_off9 (pt n) t2 t3 (BitVec.ofNat 32 j.val) 0 = wk n.val t3.val j.val := by decide +kernel
theorem off22_pt : ∀ (n : Fin 48) (t2 : Fin k0_t2_loop.trips) (t3 : Fin (k0_t5_loop t2).trips) (j : Fin 2),
    k0_off22 (pt n) t2 t3 (BitVec.ofNat 32 j.val) 0 = wk n.val t3.val j.val := by decide +kernel
theorem off19_pt : ∀ (n : Fin 48) (t2 : Fin k0_t2_loop.trips) (j : Fin 2),
    k0_off19 (pt n) t2 (BitVec.ofNat 32 j.val) 0 = wk n.val t2.val j.val := by decide +kernel

theorem off3_eq (i : grid0.Coords) : k0_off3 i = ![(i 0).val] := by
  funext a
  match a with
  | ⟨0, _⟩ => have := off3_pt (i 0); rw [pt_eq] at this; exact this
theorem off5_eq (i : grid0.Coords) (t2 : Fin k0_t2_loop.trips) (j : Fin 2) (h : Fin 3) :
    k0_off5 i t2 (BitVec.ofNat 32 j.val) (BitVec.ofNat 32 h.val) = ![wq (i 0).val t2.val j.val h.val] := by
  funext a
  match a with
  | ⟨0, _⟩ => have := off5_pt (i 0) t2 j h; rw [pt_eq] at this; exact this
theorem off9_eq (i : grid0.Coords) (t2 : Fin k0_t2_loop.trips) (t3 : Fin (k0_t3_loop t2).trips) (j : Fin 2) :
    k0_off9 i t2 t3 (BitVec.ofNat 32 j.val) = ![wk (i 0).val t3.val j.val] := by
  funext a
  match a with
  | ⟨0, _⟩ => have := off9_pt (i 0) t2 t3 j; rw [pt_eq] at this; exact this
theorem off22_eq (i : grid0.Coords) (t2 : Fin k0_t2_loop.trips) (t3 : Fin (k0_t5_loop t2).trips) (j : Fin 2) :
    k0_off22 i t2 t3 (BitVec.ofNat 32 j.val) = ![wk (i 0).val t3.val j.val] := by
  funext a
  match a with
  | ⟨0, _⟩ => have := off22_pt (i 0) t2 t3 j; rw [pt_eq] at this; exact this
theorem off19_eq (i : grid0.Coords) (t2 : Fin k0_t2_loop.trips) (j : Fin 2) :
    k0_off19 i t2 (BitVec.ofNat 32 j.val) = ![wk (i 0).val t2.val j.val] := by
  funext a
  match a with
  | ⟨0, _⟩ => have := off19_pt (i 0) t2 j; rw [pt_eq] at this; exact this

end Cert.KernelIdeal.Attn
-- ==== Proof.Trip.lean ====
module

public import proofs.«01_k».proof.Proof.Prog
public import proofs.«01_k».proof.Proof.Spec
public import proofs.«01_k».proof.Proof.Offs
public import Idealize.ShloMosaic.Lib.Exec
public import Idealize.ShloMosaic.Lib.Tactic
public import Idealize.ShloMosaic.Lib.Pipeline.Kit

@[expose] public section

set_option maxRecDepth 16384

noncomputable section

/-! One trip of each loop, and one head, run. -/
namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.VecWindow (window put)

variable {F : FTy → Type} [FloatOps F]

local notation "𝕄" => MT nD τ sig Unit (Elt F) ℕ (UR sig nD τ) ℕ

variable (df : Defs nD τ sig (Elt F) Λ₀) (𝒱 : Variants) (c : Dev nD) (bd : Option 𝒱.V) (E : Set ℕ)
variable (i : grid0.Coords) (arg1 : Memref sig .tc .smem S4608 .f32) (arg2 : Memref sig .tc .smem S1536 .f32) (arg4 : Memref sig .tc .vmem S1x4096x384 .fp8e4m3) (arg5 : Memref sig .tc .vmem S1x4096x128 .fp8e4m3) (arg7 : Memref sig .tc .vmem S1x4096x384 .bf16) (harg7 : arg7.IsWhole) (arg8 : Memref sig .tc .vmem S1x3x4096 .f32) (arg9 : Memref sig .tc .vmem S128x4096 .fp8e4m3) (arg10 : Memref sig .tc .vmem S4096x256 .f32)

section reads

theorem trips_lt (t2 : Fin k0_t2_loop.trips) : t2.val < 16 := lt_of_lt_of_eq t2.isLt t2_trips
theorem t3_lt (t2 : Fin k0_t2_loop.trips) (t3 : Fin (k0_t3_loop t2).trips) : t3.val < 16 :=
  lt_trans (lt_of_lt_of_eq t3.isLt (t3_trips t2)) (trips_lt t2)
theorem t5_lt (t2 : Fin k0_t2_loop.trips) (t3 : Fin (k0_t5_loop t2).trips) : t3.val < 16 :=
  lt_trans (lt_of_lt_of_eq t3.isLt (t5_trips t2)) (trips_lt t2)

/-- A load of 256 keys is their tile. -/
theorem read_kTile {sp : Space} (v : View sig .tc sp S1x4096x128 .fp8e4m3) (f : v.ty.Contents (Elt F)) (off : Fin 3 → ℕ) (inb) (t : ℕ) (ht : t < 16)
    (h : off = ![0, 256 * t, 0]) :
    v.readAt (Elt F) (Rect.unit (s := S1x4096x128) off S1x256x128.size inb).toLoadRect f = kTile (v.read (Elt F) f) t := by
  have e : min t 15 = t := by omega
  exact View.readAt_unit v f inb (by rw [h, e]) _

/-- A load of 128 by 256 turned values is their tile. -/
theorem read_vTile {sp : Space} (v : View sig .tc sp S128x4096 .fp8e4m3) (f : v.ty.Contents (Elt F)) (off : Fin 2 → ℕ) (inb) (t : ℕ) (ht : t < 16)
    (h : off = ![0, 256 * t]) :
    v.readAt (Elt F) (Rect.unit (s := S128x4096) off S128x256.size inb).toLoadRect f = vTile (v.read (Elt F) f) t := by
  have e : min t 15 = t := by omega
  exact View.readAt_unit v f inb (by rw [h, e]) _

/-- A load of 256 queries of a head is their tile. -/
theorem read_qTile {sp : Space} (v : View sig .tc sp S1x4096x384 .fp8e4m3) (f : v.ty.Contents (Elt F)) (off : Fin 3 → ℕ) (inb) (t g : ℕ) (ht : t < 16) (hg : g < 3)
    (h : off = ![0, 256 * t, 128 * g]) :
    v.readAt (Elt F) (Rect.unit (s := S1x4096x384) off S1x256x128.size inb).toLoadRect f = qTile (v.read (Elt F) f) t g := by
  have e : min t 15 = t := by omega
  have e' : min g 2 = g := by omega
  exact View.readAt_unit v f inb (by rw [h, e, e']) _

/-- A load of one word of a table. -/
theorem read_word {N : ℕ} {sp : Space} (v : View sig .tc sp ⟨1, ![N]⟩ .f32) (f : v.ty.Contents (Elt F)) (off : Fin 1 → ℕ) (inb) (hN : 0 < N) (n : ℕ)
    (x : (Rect.unit (s := ⟨1, ![N]⟩) off S1.size inb).toLoadRect.shape.Idx)
    (h : off = ![n]) :
    v.readAt (Elt F) (Rect.unit (s := ⟨1, ![N]⟩) off S1.size inb).toLoadRect f x = word (v.read (Elt F) f) hN n := by
  subst h
  refine congrArg (v.read (Elt F) f) (funext fun a => ?_)
  match a with
  | ⟨0, ha⟩ =>
    have h0 : (x ⟨0, ha⟩).val < 1 := (x ⟨0, ha⟩).isLt
    have hn : n + 1 ≤ N := inb ⟨0, ha⟩
    refine Fin.ext ?_
    show n + 1 * (x ⟨0, ha⟩).val = min n (N - 1)
    omega

/-- A block of a tile of scores, read off a buffer that holds the tile. -/
theorem window_blk (x : S4096x256.Idx → F .f32) (w : FVec F S256x256 .f32) (t : ℕ) (ht : t < 16) (r k : Fin 2) (off : Fin 2 → ℕ) (inb)
    (inb' : ∀ a, (![256 * t, 0] : Fin 2 → ℕ) a + S256x256.size a ≤ S4096x256.size a)
    (h : off = ![256 * t + 128 * r.val, 128 * k.val])
    (hx : window x ![256 * t, 0] S256x256.size inb' = w) :
    window x off S128x128.size inb = blk w r k := by
  subst hx h
  funext y
  refine congrArg x (funext fun a => Fin.ext ?_)
  match a with
  | ⟨0, ha⟩ =>
    show 256 * t + 128 * r.val + 1 * (y ⟨0, ha⟩).val = 256 * t + 1 * (128 * r.val + 1 * (y ⟨0, ha⟩).val)
    omega
  | ⟨1, ha⟩ =>
    show 128 * k.val + 1 * (y ⟨1, ha⟩).val = 0 + 1 * (128 * k.val + 1 * (y ⟨1, ha⟩).val)
    omega

theorem inb_tile (t : ℕ) (ht : t < 16) : ∀ a, (![256 * t, 0] : Fin 2 → ℕ) a + S256x256.size a ≤ S4096x256.size a := fun a => by
  match a with
  | ⟨0, _⟩ => show 256 * t + 256 ≤ 4096; omega
  | ⟨1, _⟩ => exact Nat.le_refl _

/-- A block read back of the tile of scores just kept. -/
theorem cov_blk {sp : Space} (v : View sig .tc sp S4096x256 .f32) (off off' : Fin 2 → ℕ) (inb) (inb') (w : FVec F S256x256 .f32) (t : ℕ) (ht : t < 16) (r k : Fin 2)
    (h : off = ![256 * t, 0]) (h' : off' = ![256 * t + 128 * r.val, 128 * k.val]) :
    v.readCov (Val := Elt F) [⟨Rect.unit (s := S4096x256) off S256x256.size inb, w⟩] (Rect.unit (s := S4096x256) off' S128x128.size inb').toLoadRect = blk w r k := by
  subst h'
  refine (View.readAt_unit v _ inb' rfl inb').trans (window_blk _ w t ht r k _ inb' (inb_tile t ht) rfl ?_)
  rw [View.read_writes_cons_put (Val := Elt F) v _ inb w [] h]
  exact VecWindow.window_put_same _ _ _ (inb_tile t ht) _

/-- A buffer of scores keeps the tiles before `k`. -/
def Kept (D : Rd F) (X : S4096x256.Idx → F .f32) (k : ℕ) : Prop :=
  ∀ (t : ℕ) (h : t < 16), t < k → window X ![256 * t, 0] S256x256.size (inb_tile t h) = D.sc t

theorem Kept.put {D : Rd F} {X : S4096x256.Idx → F .f32} {k : ℕ} (hX : Kept D X k) :
    Kept D (put X ![256 * k, 0] S256x256.size (D.sc k)) (k + 1) := fun t h ht => by
  rcases Nat.lt_succ_iff_lt_or_eq.mp ht with h' | h'
  · refine (VecWindow.window_put_of_disjoint _ _ _ _ _ _ _ (0 : Fin 2) (.inl ?_)).trans (hX t h h')
    show 256 * t + 256 ≤ 256 * k
    omega
  · subst h'
    exact VecWindow.window_put_same _ _ _ (inb_tile t h) _

/-- The values turned over are there, tile by tile, before `k`. -/
def Turned (vt : ℕ → Vec F S128x256 .fp8e4m3) (X : FVec F S128x4096 .fp8e4m3) (k : ℕ) : Prop :=
  ∀ t, t < k → vTile X t = vt t

/-- A block of a tile that was kept. -/
theorem read_blk {D : Rd F} {sp : Space} (v : View sig .tc sp S4096x256 .f32) (f : v.ty.Contents (Elt F)) (off : Fin 2 → ℕ) (inb) (t k : ℕ) (ht : t < 16) (r j : Fin 2)
    (hf : Kept D (v.read (Elt F) f) k) (hk : t < k) (h : off = ![256 * t + 128 * r.val, 128 * j.val]) :
    v.readAt (Elt F) (Rect.unit (s := S4096x256) off S128x128.size inb).toLoadRect f = blk (D.sc t) r j := by
  subst h
  exact (View.readAt_unit v f inb rfl inb).trans (window_blk _ _ t ht r j _ inb (inb_tile t ht) rfl (hf t ht hk))

end reads

/-- One trip of the first pass: the scores kept, the maxima taken on. -/
theorem pass1_trip (D : Rd F) (t2 : Fin k0_t2_loop.trips) (t3 : Fin (k0_t3_loop t2).trips) (acc : FVec F S8x128 .f32 × FVec F S8x128 .f32)
    (f2 : Buf (Elt F) (arg2.view.loc (c : Thread nD τ))) (f5 : Buf (Elt F) (arg5.view.loc (c : Thread nD τ))) (f10 : Buf (Elt F) (arg10.view.loc (c : Thread nD τ)))
    (hs : ∀ t j, D.ks t j = word (arg2.view.read (Elt F) f2) (by decide) (wk (i 0).val t j))
    (hk : ∀ t, D.kt t = kTile (arg5.view.read (Elt F) f5) t) :
    iprop((arg2.view.loc (c : Thread nD τ) ↦[arg2.view.set]{fullShare} f2) ∗ (arg5.view.loc (c : Thread nD τ) ↦[arg5.view.set]{fullShare} f5) ∗ (arg10.view.loc (c : Thread nD τ) ↦[arg10.view.set]{fullShare} f10) : sProp 𝕄)
      ⊢ wp Idealize.ShloMosaic.frame (wpE df 𝒱 (c : Thread nD τ) bd) E (pass1Body i arg2 arg5 arg10 t2 D.q (qsc D.q0) (qsc D.q1) t3 acc) fun acc' =>
        iprop((arg2.view.loc (c : Thread nD τ) ↦[arg2.view.set]{fullShare} f2) ∗ (arg5.view.loc (c : Thread nD τ) ↦[arg5.view.set]{fullShare} f5)
          ∗ (∃ f, (arg10.view.loc (c : Thread nD τ) ↦[arg10.view.set]{fullShare} f) ∗ ⌜arg10.view.read (Elt F) f = put (arg10.view.read (Elt F) f10) ![256 * t3.val, 0] S256x256.size (D.sc t3.val)⌝)
          ∗ ⌜acc' = D.step1 t3.val acc⌝) := by
  unfold pass1Body
  iintro ⟨H2, H5, H10⟩
  sl_exec
  sl_step
  have ekt : arg5.view.readAt (Elt F) (Rect.unit (s := S1x4096x128) (k0_off6 t2 t3) S1x256x128.size (k0_off6_inb t2 t3)).toLoadRect f5 = D.kt t3.val := by
    rw [hk]; exact read_kTile _ _ _ _ _ (t3_lt t2 t3) (k0_off6_eq t2 t3)
  have e00 : pass1_trip.sl.b00 c arg5 arg10 D t2 t3 f5 = blk (D.sc t3.val) 0 0 := by
    unfold pass1_trip.sl.b00 pass1_trip.sl.H10_1
    rw [ekt]
    exact cov_blk _ _ _ _ _ _ _ (t3_lt t2 t3) 0 0 (k0_off7_eq t2 t3) (k0_off8_eq t2 t3 0)
  have e10 : pass1_trip.sl.b10 c arg5 arg10 D t2 t3 f5 = blk (D.sc t3.val) 1 0 := by
    unfold pass1_trip.sl.b10 pass1_trip.sl.H10_1
    rw [ekt]
    exact cov_blk _ _ _ _ _ _ _ (t3_lt t2 t3) 1 0 (k0_off7_eq t2 t3) (k0_off8_eq t2 t3 1)
  have e01 : pass1_trip.sl.b01 c arg5 arg10 D t2 t3 f5 = blk (D.sc t3.val) 0 1 := by
    unfold pass1_trip.sl.b01 pass1_trip.sl.H10_1
    rw [ekt]
    exact cov_blk _ _ _ _ _ _ _ (t3_lt t2 t3) 0 1 (k0_off7_eq t2 t3) (k0_off10_eq t2 t3 0)
  have e11 : pass1_trip.sl.b11 c arg5 arg10 D t2 t3 f5 = blk (D.sc t3.val) 1 1 := by
    unfold pass1_trip.sl.b11 pass1_trip.sl.H10_1
    rw [ekt]
    exact cov_blk _ _ _ _ _ _ _ (t3_lt t2 t3) 1 1 (k0_off7_eq t2 t3) (k0_off10_eq t2 t3 1)
  have er : pass1_trip.sl.r c i arg2 t2 t3 f2 = D.ks t3.val 0 := by
    unfold pass1_trip.sl.r
    rw [hs]
    exact read_word _ _ _ _ _ _ _ (off9_eq i t2 t3 0)
  have er1 : pass1_trip.sl.r_1 c i arg2 t2 t3 f2 = D.ks t3.val 1 := by
    unfold pass1_trip.sl.r_1
    rw [hs]
    exact read_word _ _ _ _ _ _ _ (off9_eq i t2 t3 1)
  rw [e00, e10, e01, e11, er, er1]
  isplitl [H2]; · iexact H2
  isplitl [H5]; · iexact H5
  isplitl [H10]
  · iexists _
    isplitl [H10]; · iexact H10
    ipureintro
    unfold pass1_trip.sl.H10_1
    rw [ekt]
    exact View.read_writes_cons_put (Val := Elt F) arg10.view f10 (k0_off7_inb t2 t3) _ [] (k0_off7_eq t2 t3)
  · ipureintro; rfl

/-- One trip of the second pass. -/
theorem pass2_trip (D : Rd F) (t2 : Fin k0_t2_loop.trips) (t5 : Fin (k0_t5_loop t2).trips) (mb : FVec F S8x128 .f32 × FVec F S8x128 .f32) (acc : FVec F S8x128 .f32 × FVec F S8x128 .f32 × FVec F S128x256 .f32)
    (f2 : Buf (Elt F) (arg2.view.loc (c : Thread nD τ))) (f9 : Buf (Elt F) (arg9.view.loc (c : Thread nD τ))) (f10 : Buf (Elt F) (arg10.view.loc (c : Thread nD τ)))
    (hs : ∀ t j, D.ks t j = word (arg2.view.read (Elt F) f2) (by decide) (wk (i 0).val t j))
    (hv : Turned D.vt (arg9.view.read (Elt F) f9) 16) (hX : Kept D (arg10.view.read (Elt F) f10) t2.val) :
    iprop((arg2.view.loc (c : Thread nD τ) ↦[arg2.view.set]{fullShare} f2) ∗ (arg9.view.loc (c : Thread nD τ) ↦[arg9.view.set]{fullShare} f9) ∗ (arg10.view.loc (c : Thread nD τ) ↦[arg10.view.set]{fullShare} f10) : sProp 𝕄)
      ⊢ wp Idealize.ShloMosaic.frame (wpE df 𝒱 (c : Thread nD τ) bd) E (pass2Body i arg2 arg9 arg10 t2 (qsc D.q0) (qsc D.q1) mb.1 mb.2 t5 acc) fun acc' =>
        iprop((arg2.view.loc (c : Thread nD τ) ↦[arg2.view.set]{fullShare} f2) ∗ (arg9.view.loc (c : Thread nD τ) ↦[arg9.view.set]{fullShare} f9)
          ∗ (arg10.view.loc (c : Thread nD τ) ↦[arg10.view.set]{fullShare} f10) ∗ ⌜acc' = D.step2 mb t5.val acc⌝) := by
  unfold pass2Body
  iintro ⟨H2, H9, H10⟩
  sl_exec
  sl_step
  have er : pass2_trip.sl.r c i arg2 t2 t5 f2 = D.ks t5.val 0 := by
    unfold pass2_trip.sl.r
    rw [hs]
    exact read_word _ _ _ _ _ _ _ (off22_eq i t2 t5 0)
  have er1 : pass2_trip.sl.r_1 c i arg2 t2 t5 f2 = D.ks t5.val 1 := by
    unfold pass2_trip.sl.r_1
    rw [hs]
    exact read_word _ _ _ _ _ _ _ (off22_eq i t2 t5 1)
  have ht : t5.val < t2.val := lt_of_lt_of_eq t5.isLt (t5_trips t2)
  rw [er, er1, read_blk arg10.view f10 (k0_off21 t2 t5 0#32) _ t5.val t2.val (t5_lt t2 t5) 0 0 hX ht (k0_off21_eq t2 t5 0), read_blk arg10.view f10 (k0_off21 t2 t5 128#32) _ t5.val t2.val (t5_lt t2 t5) 1 0 hX ht (k0_off21_eq t2 t5 1),
    read_blk arg10.view f10 (k0_off23 t2 t5 0#32) _ t5.val t2.val (t5_lt t2 t5) 0 1 hX ht (k0_off23_eq t2 t5 0), read_blk arg10.view f10 (k0_off23 t2 t5 128#32) _ t5.val t2.val (t5_lt t2 t5) 1 1 hX ht (k0_off23_eq t2 t5 1),
    read_vTile arg9.view f9 _ _ t5.val (t5_lt t2 t5) (k0_off24_eq t2 t5), hv _ (t5_lt t2 t5)]
  isplitl [H2]; · iexact H2
  isplitl [H9]; · iexact H9
  isplitl [H10]; · iexact H10
  ipureintro; rfl

/-- The diagonal tile of the first pass. -/
theorem diag1_wp (D : Rd F) (t2 : Fin k0_t2_loop.trips) (acc : FVec F S8x128 .f32 × FVec F S8x128 .f32)
    (f2 : Buf (Elt F) (arg2.view.loc (c : Thread nD τ))) (f5 : Buf (Elt F) (arg5.view.loc (c : Thread nD τ))) (f10 : Buf (Elt F) (arg10.view.loc (c : Thread nD τ)))
    (hs : ∀ t j, D.ks t j = word (arg2.view.read (Elt F) f2) (by decide) (wk (i 0).val t j))
    (hk : ∀ t, D.kt t = kTile (arg5.view.read (Elt F) f5) t) :
    iprop((arg2.view.loc (c : Thread nD τ) ↦[arg2.view.set]{fullShare} f2) ∗ (arg5.view.loc (c : Thread nD τ) ↦[arg5.view.set]{fullShare} f5) ∗ (arg10.view.loc (c : Thread nD τ) ↦[arg10.view.set]{fullShare} f10) : sProp 𝕄)
      ⊢ wp Idealize.ShloMosaic.frame (wpE df 𝒱 (c : Thread nD τ) bd) E (diag1 i arg2 arg5 arg10 t2 D.q (qsc D.q0) (qsc D.q1) acc) fun m =>
        iprop((arg2.view.loc (c : Thread nD τ) ↦[arg2.view.set]{fullShare} f2) ∗ (arg5.view.loc (c : Thread nD τ) ↦[arg5.view.set]{fullShare} f5)
          ∗ (∃ f, (arg10.view.loc (c : Thread nD τ) ↦[arg10.view.set]{fullShare} f) ∗ ⌜arg10.view.read (Elt F) f = put (arg10.view.read (Elt F) f10) ![256 * t2.val, 0] S256x256.size (D.sc t2.val)⌝)
          ∗ ⌜m = (mx acc.1 (maskInf (blk (D.sc t2.val) 0 0)) (qsc D.q0) (D.ks t2.val 0),
                mx (mx acc.2 (blk (D.sc t2.val) 0 1) (qsc D.q1) (D.ks t2.val 0)) (maskInf (blk (D.sc t2.val) 1 1)) (qsc D.q1) (D.ks t2.val 1))⌝) := by
  unfold diag1
  iintro ⟨H2, H5, H10⟩
  sl_exec
  sl_step
  have ekt : arg5.view.readAt (Elt F) (Rect.unit (s := S1x4096x128) (k0_off16 t2) S1x256x128.size (k0_off16_inb t2)).toLoadRect f5 = D.kt t2.val := by
    rw [hk]; exact read_kTile _ _ _ _ _ (trips_lt t2) (k0_off16_eq t2)
  have e00 : diag1_wp.sl.b00 c arg5 arg10 D t2 f5 = blk (D.sc t2.val) 0 0 := by
    unfold diag1_wp.sl.b00 diag1_wp.sl.H10_1
    rw [ekt]
    exact cov_blk _ _ _ _ _ _ _ (trips_lt t2) 0 0 (k0_off17_eq t2) (k0_off18_eq t2)
  have e01 : diag1_wp.sl.b01 c arg5 arg10 D t2 f5 = blk (D.sc t2.val) 0 1 := by
    unfold diag1_wp.sl.b01 diag1_wp.sl.H10_1
    rw [ekt]
    exact cov_blk _ _ _ _ _ _ _ (trips_lt t2) 0 1 (k0_off17_eq t2) (k0_off20_eq t2 0)
  have e11 : diag1_wp.sl.b11 c arg5 arg10 D t2 f5 = blk (D.sc t2.val) 1 1 := by
    unfold diag1_wp.sl.b11 diag1_wp.sl.H10_1
    rw [ekt]
    exact cov_blk _ _ _ _ _ _ _ (trips_lt t2) 1 1 (k0_off17_eq t2) (k0_off20_eq t2 1)
  have er : diag1_wp.sl.r c i arg2 t2 f2 = D.ks t2.val 0 := by
    unfold diag1_wp.sl.r
    rw [hs]
    exact read_word _ _ _ _ _ _ _ (off19_eq i t2 0)
  have er1 : diag1_wp.sl.r_1 c i arg2 t2 f2 = D.ks t2.val 1 := by
    unfold diag1_wp.sl.r_1
    rw [hs]
    exact read_word _ _ _ _ _ _ _ (off19_eq i t2 1)
  rw [e00, e01, e11, er, er1]
  isplitl [H2]; · iexact H2
  isplitl [H5]; · iexact H5
  isplitl [H10]
  · iexists _
    isplitl [H10]; · iexact H10
    ipureintro
    unfold diag1_wp.sl.H10_1
    rw [ekt]
    exact View.read_writes_cons_put (Val := Elt F) arg10.view f10 (k0_off17_inb t2) _ [] (k0_off17_eq t2)
  · ipureintro; rfl

/-- The diagonal tile of the second pass. -/
theorem diag2_wp (D : Rd F) (t2 : Fin k0_t2_loop.trips) (mb : FVec F S8x128 .f32 × FVec F S8x128 .f32) (acc : FVec F S8x128 .f32 × FVec F S8x128 .f32 × FVec F S128x256 .f32)
    (f2 : Buf (Elt F) (arg2.view.loc (c : Thread nD τ))) (f9 : Buf (Elt F) (arg9.view.loc (c : Thread nD τ))) (f10 : Buf (Elt F) (arg10.view.loc (c : Thread nD τ)))
    (hs : ∀ t j, D.ks t j = word (arg2.view.read (Elt F) f2) (by decide) (wk (i 0).val t j))
    (hv : Turned D.vt (arg9.view.read (Elt F) f9) 16) (hX : Kept D (arg10.view.read (Elt F) f10) (t2.val + 1)) :
    iprop((arg2.view.loc (c : Thread nD τ) ↦[arg2.view.set]{fullShare} f2) ∗ (arg9.view.loc (c : Thread nD τ) ↦[arg9.view.set]{fullShare} f9) ∗ (arg10.view.loc (c : Thread nD τ) ↦[arg10.view.set]{fullShare} f10) : sProp 𝕄)
      ⊢ wp Idealize.ShloMosaic.frame (wpE df 𝒱 (c : Thread nD τ) bd) E (diag2 i arg2 arg9 arg10 t2 (qsc D.q0) (qsc D.q1) mb.1 mb.2 acc) fun l =>
        iprop((arg2.view.loc (c : Thread nD τ) ↦[arg2.view.set]{fullShare} f2) ∗ (arg9.view.loc (c : Thread nD τ) ↦[arg9.view.set]{fullShare} f9)
          ∗ (arg10.view.loc (c : Thread nD τ) ↦[arg10.view.set]{fullShare} f10)
          ∗ ⌜l = (addf acc.1 (fold addf (probD (qsc D.q0) mb.1 (blk (D.sc t2.val) 0 0) (D.ks t2.val 0))),
              addf (addf acc.2.1 (fold addf (prob (qsc D.q1) mb.2 (blk (D.sc t2.val) 0 1) (D.ks t2.val 0)))) (fold addf (probD (qsc D.q1) mb.2 (blk (D.sc t2.val) 1 1) (D.ks t2.val 1))),
              pv acc.2.2 (D.vt t2.val) (cat0 (probD (qsc D.q0) mb.1 (blk (D.sc t2.val) 0 0) (D.ks t2.val 0)))
                (cat2 (prob (qsc D.q1) mb.2 (blk (D.sc t2.val) 0 1) (D.ks t2.val 0)) (probD (qsc D.q1) mb.2 (blk (D.sc t2.val) 1 1) (D.ks t2.val 1))))⌝) := by
  unfold diag2
  iintro ⟨H2, H9, H10⟩
  sl_exec
  sl_step
  have er : diag2_wp.sl.r c i arg2 t2 f2 = D.ks t2.val 0 := by
    unfold diag2_wp.sl.r
    rw [hs]
    exact read_word _ _ _ _ _ _ _ (off19_eq i t2 0)
  have er1 : diag2_wp.sl.r_1 c i arg2 t2 f2 = D.ks t2.val 1 := by
    unfold diag2_wp.sl.r_1
    rw [hs]
    exact read_word _ _ _ _ _ _ _ (off19_eq i t2 1)
  have ht : t2.val < t2.val + 1 := Nat.lt_succ_self _
  rw [er, er1, read_blk arg10.view f10 _ _ t2.val _ (trips_lt t2) 0 0 hX ht (k0_off18_eq t2),
    read_blk arg10.view f10 (k0_off20 t2 0#32) _ t2.val _ (trips_lt t2) 0 1 hX ht (k0_off20_eq t2 0), read_blk arg10.view f10 (k0_off20 t2 128#32) _ t2.val _ (trips_lt t2) 1 1 hX ht (k0_off20_eq t2 1),
    read_vTile arg9.view f9 _ _ t2.val (trips_lt t2) (k0_off29_eq t2), hv _ (trips_lt t2)]
  isplitl [H2]; · iexact H2
  isplitl [H9]; · iexact H9
  isplitl [H10]; · iexact H10
  ipureintro; rfl

end Cert.KernelIdeal.Attn
-- ==== Proof.Head.lean ====
module

public import proofs.«01_k».proof.Proof.Trip

@[expose] public section

set_option maxRecDepth 16384

noncomputable section

/-! One query tile of one head, run. -/
namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.VecWindow (window put)

variable {F : FTy → Type} [FloatOps F]

local notation "𝕄" => MT nD τ sig Unit (Elt F) ℕ (UR sig nD τ) ℕ

variable (df : Defs nD τ sig (Elt F) Λ₀) (𝒱 : Variants) (c : Dev nD) (bd : Option 𝒱.V) (E : Set ℕ)
variable (i : grid0.Coords) (arg1 : Memref sig .tc .smem S4608 .f32) (arg2 : Memref sig .tc .smem S1536 .f32) (arg4 : Memref sig .tc .vmem S1x4096x384 .fp8e4m3) (arg5 : Memref sig .tc .vmem S1x4096x128 .fp8e4m3) (arg7 : Memref sig .tc .vmem S1x4096x384 .bf16) (harg7 : arg7.IsWhole) (arg8 : Memref sig .tc .vmem S1x3x4096 .f32) (arg9 : Memref sig .tc .vmem S128x4096 .fp8e4m3) (arg10 : Memref sig .tc .vmem S4096x256 .f32)

/-- What a buffer holds. -/
abbrev holds {sp : Space} {s : Shape} {e : EltTy} (a : Memref sig .tc sp s e) (f : Buf (Elt F) (a.view.loc (c : Thread nD τ))) : sProp 𝕄 :=
  (a.view.loc (c : Thread nD τ) ↦[a.view.set]{fullShare} f)

/-- The first pass, before trip `k`. -/
def inv1 (D : Rd F) (f2 : Buf (Elt F) (arg2.view.loc (c : Thread nD τ))) (f5 : Buf (Elt F) (arg5.view.loc (c : Thread nD τ)))
    (k : ℕ) (acc : FVec F S8x128 .f32 × FVec F S8x128 .f32) : sProp 𝕄 :=
  iprop(holds c arg2 f2 ∗ holds c arg5 f5 ∗ (∃ f, holds c arg10 f ∗ ⌜Kept D (arg10.view.read (Elt F) f) k⌝) ∗ ⌜acc = D.max1 k⌝)

/-- The second pass, before trip `k`. -/
def inv2 (D : Rd F) (mb : FVec F S8x128 .f32 × FVec F S8x128 .f32) (f2 : Buf (Elt F) (arg2.view.loc (c : Thread nD τ))) (f9 : Buf (Elt F) (arg9.view.loc (c : Thread nD τ)))
    (f10 : Buf (Elt F) (arg10.view.loc (c : Thread nD τ)))
    (k : ℕ) (acc : FVec F S8x128 .f32 × FVec F S8x128 .f32 × FVec F S128x256 .f32) : sProp 𝕄 :=
  iprop(holds c arg2 f2 ∗ holds c arg9 f9 ∗ holds c arg10 f10 ∗ ⌜acc = D.sum2 mb k⌝)

theorem pass1_wp (D : Rd F) (t2 : Fin k0_t2_loop.trips)
    (f2 : Buf (Elt F) (arg2.view.loc (c : Thread nD τ))) (f5 : Buf (Elt F) (arg5.view.loc (c : Thread nD τ))) (f10 : Buf (Elt F) (arg10.view.loc (c : Thread nD τ)))
    (hs : ∀ t j, D.ks t j = word (arg2.view.read (Elt F) f2) (by decide) (wk (i 0).val t j))
    (hk : ∀ t, D.kt t = kTile (arg5.view.read (Elt F) f5) t) :
    iprop(holds c arg2 f2 ∗ holds c arg5 f5 ∗ holds c arg10 f10 : sProp 𝕄)
      ⊢ wp Idealize.ShloMosaic.frame (wpE df 𝒱 (c : Thread nD τ) bd) E
          (Scf.Loop.for (k0_t3_loop t2) (k0_t3_ok t2) (negInf (F := F), negInf (F := F)) (pass1Body i arg2 arg5 arg10 t2 D.q (qsc D.q0) (qsc D.q1)))
          (inv1 c arg2 arg5 arg10 D f2 f5 t2.val) := by
  have ht : Scf.trips (k0_t3_loop t2).lb (k0_t3_loop t2).ub (k0_t3_loop t2).st = t2.val := t3_trips t2
  have hbody : ∀ (k : Fin (Scf.trips (k0_t3_loop t2).lb (k0_t3_loop t2).ub (k0_t3_loop t2).st)) (acc : FVec F S8x128 .f32 × FVec F S8x128 .f32),
      (inv1 c arg2 arg5 arg10 D f2 f5) k.val acc ⊢ wp Idealize.ShloMosaic.frame (wpE df 𝒱 (c : Thread nD τ) bd) E (pass1Body i arg2 arg5 arg10 t2 D.q (qsc D.q0) (qsc D.q1) k acc) ((inv1 c arg2 arg5 arg10 D f2 f5) (k.val + 1)) := by
    intro k acc
    unfold inv1
    iintro ⟨H2, H5, ⟨%f, H10, %hf⟩, %ha⟩
    subst ha
    iapply (wp_wand_r Idealize.ShloMosaic.frame (wpE df 𝒱 (c : Thread nD τ) bd) E)
    isplitl [H2 H5 H10]
    · iapply (pass1_trip df 𝒱 c bd E i arg2 arg5 arg10 D t2 k (D.max1 k.val) f2 f5 f hs hk)
      isplitl [H2]; · iexact H2
      isplitl [H5]; · iexact H5
      iexact H10
    · iintro %acc' ⟨H2, H5, ⟨%f', H10, %hf'⟩, %ha'⟩
      isplitl [H2]; · iexact H2
      isplitl [H5]; · iexact H5
      isplitl [H10]
      · iexists f'
        isplitl [H10]; · iexact H10
        ipureintro
        rw [hf']
        exact hf.put
      · ipureintro; exact ha'
  iintro ⟨H2, H5, H10⟩
  iapply (Scf.wp_for Idealize.ShloMosaic.frame (wpE df 𝒱 (c : Thread nD τ) bd) E (k0_t3_loop t2).lb (k0_t3_loop t2).ub (k0_t3_loop t2).st (k0_t3_ok t2) _ _ (inv1 c arg2 arg5 arg10 D f2 f5) hbody)
  rw [ht]
  unfold inv1
  isplitl [H2 H5 H10]
  · isplitl [H2]; · iexact H2
    isplitl [H5]; · iexact H5
    isplitl [H10]
    · iexists f10
      isplitl [H10]; · iexact H10
      ipureintro
      exact fun t _ h => absurd h (Nat.not_lt_zero t)
    · ipureintro; rfl
  · iintro %acc HI
    iexact HI

theorem pass2_wp (D : Rd F) (t2 : Fin k0_t2_loop.trips) (mb : FVec F S8x128 .f32 × FVec F S8x128 .f32)
    (f2 : Buf (Elt F) (arg2.view.loc (c : Thread nD τ))) (f9 : Buf (Elt F) (arg9.view.loc (c : Thread nD τ))) (f10 : Buf (Elt F) (arg10.view.loc (c : Thread nD τ)))
    (hs : ∀ t j, D.ks t j = word (arg2.view.read (Elt F) f2) (by decide) (wk (i 0).val t j))
    (hv : Turned D.vt (arg9.view.read (Elt F) f9) 16) (hX : Kept D (arg10.view.read (Elt F) f10) t2.val) :
    iprop(holds c arg2 f2 ∗ holds c arg9 f9 ∗ holds c arg10 f10 : sProp 𝕄)
      ⊢ wp Idealize.ShloMosaic.frame (wpE df 𝒱 (c : Thread nD τ) bd) E
          (Scf.Loop.for (k0_t5_loop t2) (k0_t5_ok t2) (zero8 (F := F), zero8 (F := F), zeroPV (F := F)) (pass2Body i arg2 arg9 arg10 t2 (qsc D.q0) (qsc D.q1) mb.1 mb.2))
          (inv2 c arg2 arg9 arg10 D mb f2 f9 f10 t2.val) := by
  have ht : Scf.trips (k0_t5_loop t2).lb (k0_t5_loop t2).ub (k0_t5_loop t2).st = t2.val := t5_trips t2
  have hbody : ∀ (k : Fin (Scf.trips (k0_t5_loop t2).lb (k0_t5_loop t2).ub (k0_t5_loop t2).st)) (acc : FVec F S8x128 .f32 × FVec F S8x128 .f32 × FVec F S128x256 .f32),
      (inv2 c arg2 arg9 arg10 D mb f2 f9 f10) k.val acc ⊢ wp Idealize.ShloMosaic.frame (wpE df 𝒱 (c : Thread nD τ) bd) E (pass2Body i arg2 arg9 arg10 t2 (qsc D.q0) (qsc D.q1) mb.1 mb.2 k acc) ((inv2 c arg2 arg9 arg10 D mb f2 f9 f10) (k.val + 1)) := by
    intro k acc
    unfold inv2
    iintro ⟨H2, H9, H10, %ha⟩
    subst ha
    iapply (wp_wand_r Idealize.ShloMosaic.frame (wpE df 𝒱 (c : Thread nD τ) bd) E)
    isplitl [H2 H9 H10]
    · iapply (pass2_trip df 𝒱 c bd E i arg2 arg9 arg10 D t2 k mb (D.sum2 mb k.val) f2 f9 f10 hs hv hX)
      isplitl [H2]; · iexact H2
      isplitl [H9]; · iexact H9
      iexact H10
    · iintro %acc' ⟨H2, H9, H10, %ha'⟩
      isplitl [H2]; · iexact H2
      isplitl [H9]; · iexact H9
      isplitl [H10]; · iexact H10
      ipureintro; exact ha'
  iintro ⟨H2, H9, H10⟩
  iapply (Scf.wp_for Idealize.ShloMosaic.frame (wpE df 𝒱 (c : Thread nD τ) bd) E (k0_t5_loop t2).lb (k0_t5_loop t2).ub (k0_t5_loop t2).st (k0_t5_ok t2) _ _ (inv2 c arg2 arg9 arg10 D mb f2 f9 f10) hbody)
  rw [ht]
  unfold inv2
  isplitl [H2 H9 H10]
  · isplitl [H2]; · iexact H2
    isplitl [H9]; · iexact H9
    isplitl [H10]; · iexact H10
    ipureintro; rfl
  · iintro %acc HI
    iexact HI

/-- One query tile of one head: its output and its log-sum-exps are put in place. -/
theorem head_wp (D : Rd F) (t2 : Fin k0_t2_loop.trips) (v40 : F .f32) (g : ℕ) (hg : g < 3)
    (oq : Fin 3 → ℕ) (hoq : ∀ a, oq a + S1x256x128.size a ≤ S1x4096x384.size a)
    (hpk : (Rect.unit (s := S1x4096x384) oq S1x256x128.size hoq).PackedRows (EltTy.packing .bf16))
    (ol : Fin 3 → ℕ) (hol : ∀ a, ol a + S1x1x256.size a ≤ S1x3x4096.size a)
    (w0 : Fin 1 → ℕ) (hw0 : ∀ a, w0 a + S1.size a ≤ S4608.size a) (w1 : Fin 1 → ℕ) (hw1 : ∀ a, w1 a + S1.size a ≤ S4608.size a)
    (eoq : oq = ![0, 256 * t2.val, 128 * g]) (eol : ol = ![0, g, 256 * t2.val]) (ew0 : w0 = ![wq (i 0).val t2.val 0 g]) (ew1 : w1 = ![wq (i 0).val t2.val 1 g])
    (f1 : Buf (Elt F) (arg1.view.loc (c : Thread nD τ))) (f2 : Buf (Elt F) (arg2.view.loc (c : Thread nD τ))) (f4 : Buf (Elt F) (arg4.view.loc (c : Thread nD τ))) (f5 : Buf (Elt F) (arg5.view.loc (c : Thread nD τ)))
    (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ)))
    (hq : D.q = qTile (arg4.view.read (Elt F) f4) t2.val g)
    (hq0 : D.q0 = word (arg1.view.read (Elt F) f1) (by decide) (wq (i 0).val t2.val 0 g)) (hq1 : D.q1 = word (arg1.view.read (Elt F) f1) (by decide) (wq (i 0).val t2.val 1 g))
    (hs : ∀ t j, D.ks t j = word (arg2.view.read (Elt F) f2) (by decide) (wk (i 0).val t j))
    (hk : ∀ t, D.kt t = kTile (arg5.view.read (Elt F) f5) t) (hv : Turned D.vt (arg9.view.read (Elt F) f9) 16) :
    iprop(holds c arg1 f1 ∗ holds c arg2 f2 ∗ holds c arg4 f4 ∗ holds c arg5 f5 ∗ holds c arg7 f7 ∗ holds c arg8 f8 ∗ holds c arg9 f9 ∗ holds c arg10 f10 : sProp 𝕄)
      ⊢ wp Idealize.ShloMosaic.frame (wpE df 𝒱 (c : Thread nD τ) bd) E
          (headProg i arg1 arg2 arg4 arg5 arg7 harg7 arg8 arg9 arg10 t2 v40 oq hoq hpk ol hol w0 hw0 w1 hw1) fun _ =>
        iprop(holds c arg1 f1 ∗ holds c arg2 f2 ∗ holds c arg4 f4 ∗ holds c arg5 f5
          ∗ (∃ f, holds c arg7 f ∗ ⌜arg7.view.read (Elt F) f = put (arg7.view.read (Elt F) f7) ![0, 256 * t2.val, 128 * g] S1x256x128.size (D.out v40 t2.val)⌝)
          ∗ (∃ f, holds c arg8 f ∗ ⌜arg8.view.read (Elt F) f = put (arg8.view.read (Elt F) f8) ![0, g, 256 * t2.val] S1x1x256.size (D.lse t2.val)⌝)
          ∗ holds c arg9 f9 ∗ (∃ f, holds c arg10 f)) := by
  unfold headProg
  iintro ⟨H1, H2, H4, H5, H7, H8, H9, H10⟩
  sl_exec
  have eq : arg4.view.readAt (Elt F) (Rect.unit (s := S1x4096x384) oq S1x256x128.size hoq).toLoadRect f4 = D.q := by
    rw [hq]; exact read_qTile _ _ _ _ _ _ (trips_lt t2) hg eoq
  have er : head_wp.sl.r c arg1 w0 hw0 f1 = D.q0 := by
    unfold head_wp.sl.r
    rw [hq0]; exact read_word _ _ _ _ _ _ _ ew0
  have er1 : head_wp.sl.r_1 c arg1 w1 hw1 f1 = D.q1 := by
    unfold head_wp.sl.r_1
    rw [hq1]; exact read_word _ _ _ _ _ _ _ ew1
  rw [eq, er, er1, wp_bind]
  iapply (wp_wand_r Idealize.ShloMosaic.frame (wpE df 𝒱 (c : Thread nD τ) bd) E)
  isplitl [H2 H5 H10]
  · iapply (pass1_wp df 𝒱 c bd E i arg2 arg5 arg10 D t2 f2 f5 f10 hs hk)
    isplitl [H2]; · iexact H2
    isplitl [H5]; · iexact H5
    iexact H10
  unfold inv1
  iintro %a1 ⟨H2, H5, ⟨%fa, H10, %hfa⟩, %ha1⟩
  subst ha1
  rw [wp_bind]
  iapply (wp_wand_r Idealize.ShloMosaic.frame (wpE df 𝒱 (c : Thread nD τ) bd) E)
  isplitl [H2 H5 H10]
  · iapply (diag1_wp df 𝒱 c bd E i arg2 arg5 arg10 D t2 (D.max1 t2.val) f2 f5 fa hs hk)
    isplitl [H2]; · iexact H2
    isplitl [H5]; · iexact H5
    iexact H10
  iintro %m ⟨H2, H5, ⟨%fb, H10, %hfb⟩, %hm⟩
  have hm' : m = D.maxD t2.val := hm
  subst hm'
  have hkb : Kept D (arg10.view.read (Elt F) fb) (t2.val + 1) := by
    rw [hfb]; exact hfa.put
  have hkb' : Kept D (arg10.view.read (Elt F) fb) t2.val := fun t h ht => hkb t h (Nat.lt_succ_of_lt ht)
  rw [wp_bind]
  iapply (wp_wand_r Idealize.ShloMosaic.frame (wpE df 𝒱 (c : Thread nD τ) bd) E)
  isplitl [H2 H9 H10]
  · iapply (pass2_wp df 𝒱 c bd E i arg2 arg9 arg10 D t2 (D.mb t2.val) f2 f9 fb hs hv hkb')
    isplitl [H2]; · iexact H2
    isplitl [H9]; · iexact H9
    iexact H10
  unfold inv2
  iintro %a2 ⟨H2, H9, H10, %ha2⟩
  subst ha2
  rw [wp_bind]
  iapply (wp_wand_r Idealize.ShloMosaic.frame (wpE df 𝒱 (c : Thread nD τ) bd) E)
  isplitl [H2 H9 H10]
  · iapply (diag2_wp df 𝒱 c bd E i arg2 arg9 arg10 D t2 (D.mb t2.val) (D.sum2 (D.mb t2.val) t2.val) f2 f9 fb hs hv hkb)
    isplitl [H2]; · iexact H2
    isplitl [H9]; · iexact H9
    iexact H10
  iintro %l ⟨H2, H9, H10, %hl⟩
  have hl' : l = D.sumD t2.val := hl
  subst hl'
  sl_exec
  sl_step
  isplitl [H1]; · iexact H1
  isplitl [H2]; · iexact H2
  isplitl [H4]; · iexact H4
  isplitl [H5]; · iexact H5
  isplitl [H7]
  · iexists _
    isplitl [H7]; · iexact H7
    ipureintro
    exact View.read_writes_cons_put (Val := Elt F) arg7.view f7 hoq _ [] eoq
  isplitl [H8]
  · iexists _
    isplitl [H8]; · iexact H8
    ipureintro
    exact View.read_writes_cons_put (Val := Elt F) arg8.view f8 hol _ [] eol
  isplitl [H9]; · iexact H9
  iexists _; iexact H10

end Cert.KernelIdeal.Attn
-- ==== Proof.Body.lean ====
module

public import proofs.«01_k».proof.Proof.Head

@[expose] public section

set_option maxRecDepth 16384

noncomputable section

/-! The whole body of one grid point, run. -/
namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.VecWindow (window put)

variable {F : FTy → Type} [FloatOps F]

local notation "𝕄" => MT nD τ sig Unit (Elt F) ℕ (UR sig nD τ) ℕ

/-- What query tile `t` of head `g` reads at grid point `n`. -/
def rd (X1 : Vec F S4608 .f32) (X2 : Vec F S1536 .f32) (X4 : Vec F S1x4096x384 .fp8e4m3) (X5 X6 : Vec F S1x4096x128 .fp8e4m3) (n t g : ℕ) : Rd F where
  q := qTile X4 t g
  q0 := word X1 (by decide) (wq n t 0 g)
  q1 := word X1 (by decide) (wq n t 1 g)
  ks t j := word X2 (by decide) (wk n t j)
  kt := kTile X5
  vt := vTurned X6

/-- The outputs of a grid point: row `y 1` is in query tile `y 1 / 256`, column `y 2` in head `y 2 / 128`. -/
def outArr (X1 : Vec F S4608 .f32) (X2 : Vec F S1536 .f32) (X3 : Vec F S48 .f32) (X4 : Vec F S1x4096x384 .fp8e4m3) (X5 X6 : Vec F S1x4096x128 .fp8e4m3) (n : ℕ) : Vec F S1x4096x384 .bf16 :=
  fun y => (rd X1 X2 X4 X5 X6 n ((y 1).val / 256) ((y 2).val / 128)).out (word X3 (by decide) n) ((y 1).val / 256)
    (fun a => match a with
      | ⟨0, _⟩ => (0 : Fin 1)
      | ⟨1, _⟩ => (⟨(y 1).val % 256, Nat.mod_lt _ (by decide)⟩ : Fin 256)
      | ⟨2, _⟩ => (⟨(y 2).val % 128, Nat.mod_lt _ (by decide)⟩ : Fin 128))

/-- The log-sum-exps of a grid point. -/
def lseArr (X1 : Vec F S4608 .f32) (X2 : Vec F S1536 .f32) (X4 : Vec F S1x4096x384 .fp8e4m3) (X5 X6 : Vec F S1x4096x128 .fp8e4m3) (n : ℕ) : Vec F S1x3x4096 .f32 :=
  fun y => (rd X1 X2 X4 X5 X6 n ((y 2).val / 256) (y 1).val).lse ((y 2).val / 256)
    (fun a => match a with
      | ⟨0, _⟩ => (0 : Fin 1)
      | ⟨1, _⟩ => (0 : Fin 1)
      | ⟨2, _⟩ => (⟨(y 2).val % 256, Nat.mod_lt _ (by decide)⟩ : Fin 256))

theorem inb7 (t g : ℕ) (ht : t < 16) (hg : g < 3) : ∀ a, (![0, 256 * t, 128 * g] : Fin 3 → ℕ) a + S1x256x128.size a ≤ S1x4096x384.size a := fun a => by
  match a with
  | ⟨0, _⟩ => exact Nat.le_refl _
  | ⟨1, _⟩ => show 256 * t + 256 ≤ 4096; omega
  | ⟨2, _⟩ => show 128 * g + 128 ≤ 384; omega

theorem inb8 (t g : ℕ) (ht : t < 16) (hg : g < 3) : ∀ a, (![0, g, 256 * t] : Fin 3 → ℕ) a + S1x1x256.size a ≤ S1x3x4096.size a := fun a => by
  match a with
  | ⟨0, _⟩ => exact Nat.le_refl _
  | ⟨1, _⟩ => show g + 1 ≤ 3; omega
  | ⟨2, _⟩ => show 256 * t + 256 ≤ 4096; omega

/-- Before head `h` of query tile `k`, the tiles of the outputs written so far. -/
def Out7 (T : ℕ → ℕ → S1x256x128.Idx → F .bf16) (X : S1x4096x384.Idx → F .bf16) (k h : ℕ) : Prop :=
  ∀ (t g : ℕ) (ht : t < 16) (hg : g < 3), t < k ∨ (t = k ∧ g < h) → window X ![0, 256 * t, 128 * g] S1x256x128.size (inb7 t g ht hg) = T t g

def Out8 (T : ℕ → ℕ → S1x1x256.Idx → F .f32) (X : S1x3x4096.Idx → F .f32) (k h : ℕ) : Prop :=
  ∀ (t g : ℕ) (ht : t < 16) (hg : g < 3), t < k ∨ (t = k ∧ g < h) → window X ![0, g, 256 * t] S1x1x256.size (inb8 t g ht hg) = T t g

theorem Out7.put {T : ℕ → ℕ → S1x256x128.Idx → F .bf16} {X : S1x4096x384.Idx → F .bf16} {k h : ℕ} (hX : Out7 T X k h) :
    Out7 T (put X ![0, 256 * k, 128 * h] S1x256x128.size (T k h)) k (h + 1) := fun t g ht hg hc => by
  rcases hc with hc | ⟨rfl, hc⟩
  · refine (VecWindow.window_put_of_disjoint _ _ _ _ _ _ _ (1 : Fin 3) (.inl ?_)).trans (hX t g ht hg (.inl hc))
    show 256 * t + 256 ≤ 256 * k
    omega
  · rcases Nat.lt_succ_iff_lt_or_eq.mp hc with h' | rfl
    · refine (VecWindow.window_put_of_disjoint _ _ _ _ _ _ _ (2 : Fin 3) (.inl ?_)).trans (hX t g ht hg (.inr ⟨rfl, h'⟩))
      show 128 * g + 128 ≤ 128 * h
      omega
    · exact VecWindow.window_put_same _ _ _ (inb7 t g ht hg) _

theorem Out8.put {T : ℕ → ℕ → S1x1x256.Idx → F .f32} {X : S1x3x4096.Idx → F .f32} {k h : ℕ} (hX : Out8 T X k h) :
    Out8 T (put X ![0, h, 256 * k] S1x1x256.size (T k h)) k (h + 1) := fun t g ht hg hc => by
  rcases hc with hc | ⟨rfl, hc⟩
  · refine (VecWindow.window_put_of_disjoint _ _ _ _ _ _ _ (2 : Fin 3) (.inl ?_)).trans (hX t g ht hg (.inl hc))
    show 256 * t + 256 ≤ 256 * k
    omega
  · rcases Nat.lt_succ_iff_lt_or_eq.mp hc with h' | rfl
    · refine (VecWindow.window_put_of_disjoint _ _ _ _ _ _ _ (1 : Fin 3) (.inl ?_)).trans (hX t g ht hg (.inr ⟨rfl, h'⟩))
      show g + 1 ≤ h
      omega
    · exact VecWindow.window_put_same _ _ _ (inb8 t g ht hg) _

theorem Out7.next {T : ℕ → ℕ → S1x256x128.Idx → F .bf16} {X : S1x4096x384.Idx → F .bf16} {k : ℕ} (hX : Out7 T X k 3) : Out7 T X (k + 1) 0 :=
  fun t g ht hg hc => hX t g ht hg (by omega)
theorem Out8.next {T : ℕ → ℕ → S1x1x256.Idx → F .f32} {X : S1x3x4096.Idx → F .f32} {k : ℕ} (hX : Out8 T X k 3) : Out8 T X (k + 1) 0 :=
  fun t g ht hg hc => hX t g ht hg (by omega)
theorem Out7.nil (T : ℕ → ℕ → S1x256x128.Idx → F .bf16) (X : S1x4096x384.Idx → F .bf16) : Out7 T X 0 0 :=
  fun t g ht hg hc => by omega
theorem Out8.nil (T : ℕ → ℕ → S1x1x256.Idx → F .f32) (X : S1x3x4096.Idx → F .f32) : Out8 T X 0 0 :=
  fun t g ht hg hc => by omega

/-- All tiles written are the whole array. -/
theorem Out7.all {T : ℕ → ℕ → S1x256x128.Idx → F .bf16} {X : S1x4096x384.Idx → F .bf16} (hX : Out7 T X 16 0) (y : S1x4096x384.Idx) :
    X y = T ((y 1).val / 256) ((y 2).val / 128)
      (fun a => match a with
      | ⟨0, _⟩ => (0 : Fin 1)
      | ⟨1, _⟩ => (⟨(y 1).val % 256, Nat.mod_lt _ (by decide)⟩ : Fin 256)
      | ⟨2, _⟩ => (⟨(y 2).val % 128, Nat.mod_lt _ (by decide)⟩ : Fin 128)) := by
  have h1 : (y 1).val < 4096 := (y 1).isLt
  have h2 : (y 2).val < 384 := (y 2).isLt
  have h0 : (y 0).val < 1 := (y 0).isLt
  have ht : (y 1).val / 256 < 16 := by omega
  rw [← hX ((y 1).val / 256) ((y 2).val / 128) ht (by omega) (.inl ht)]
  refine congrArg X (funext fun a => Fin.ext ?_)
  match a with
  | ⟨0, _⟩ => show (y 0).val = 0 + 1 * 0; omega
  | ⟨1, _⟩ => show (y 1).val = 256 * ((y 1).val / 256) + 1 * ((y 1).val % 256); omega
  | ⟨2, _⟩ => show (y 2).val = 128 * ((y 2).val / 128) + 1 * ((y 2).val % 128); omega

theorem Out8.all {T : ℕ → ℕ → S1x1x256.Idx → F .f32} {X : S1x3x4096.Idx → F .f32} (hX : Out8 T X 16 0) (y : S1x3x4096.Idx) :
    X y = T ((y 2).val / 256) (y 1).val
      (fun a => match a with
      | ⟨0, _⟩ => (0 : Fin 1)
      | ⟨1, _⟩ => (0 : Fin 1)
      | ⟨2, _⟩ => (⟨(y 2).val % 256, Nat.mod_lt _ (by decide)⟩ : Fin 256)) := by
  have h1 : (y 1).val < 3 := (y 1).isLt
  have h2 : (y 2).val < 4096 := (y 2).isLt
  have h0 : (y 0).val < 1 := (y 0).isLt
  have ht : (y 2).val / 256 < 16 := by omega
  rw [← hX ((y 2).val / 256) (y 1).val ht (by omega) (.inl ht)]
  refine congrArg X (funext fun a => Fin.ext ?_)
  match a with
  | ⟨0, _⟩ => show (y 0).val = 0 + 1 * 0; omega
  | ⟨1, _⟩ => show (y 1).val = (y 1).val + 1 * 0; omega
  | ⟨2, _⟩ => show (y 2).val = 256 * ((y 2).val / 256) + 1 * ((y 2).val % 256); omega

theorem inb9 (t : ℕ) (ht : t < 16) : ∀ a, (![0, 256 * t] : Fin 2 → ℕ) a + S128x256.size a ≤ S128x4096.size a := fun a => by
  match a with
  | ⟨0, _⟩ => exact Nat.le_refl _
  | ⟨1, _⟩ => show 256 * t + 256 ≤ 4096; omega

theorem window_congr {s : Shape} {α : Type} (x : s.Idx → α) {off off' size : Fin s.rank → ℕ} (h : off = off') (inb : ∀ a, off a + size a ≤ s.size a) (inb' : ∀ a, off' a + size a ≤ s.size a) :
    window x off size inb = window x off' size inb' := by
  subst h
  rfl

theorem vTile_eq (X : S128x4096.Idx → F .fp8e4m3) (t : ℕ) (ht : t < 16) : vTile X t = window X ![0, 256 * t] S128x256.size (inb9 t ht) := by
  have e : min t 15 = t := by omega
  exact window_congr X (by rw [e]) _ _

theorem Turned.put {vt : ℕ → Vec F S128x256 .fp8e4m3} {X : S128x4096.Idx → F .fp8e4m3} {k : ℕ} (hk : k < 16) (hX : Turned vt X k) :
    Turned vt (VecWindow.put X ![0, 256 * k] S128x256.size (vt k)) (k + 1) := fun t ht => by
  have h16 : t < 16 := by omega
  rw [vTile_eq _ t h16]
  rcases Nat.lt_succ_iff_lt_or_eq.mp ht with h' | rfl
  · refine (VecWindow.window_put_of_disjoint _ _ _ _ _ _ _ (1 : Fin 2) (.inl ?_)).trans ((vTile_eq X t h16).symm.trans (hX t h'))
    show 256 * t + 256 ≤ 256 * k
    omega
  · exact VecWindow.window_put_same _ _ _ (inb9 t h16) _

variable (df : Defs nD τ sig (Elt F) Λ₀) (𝒱 : Variants) (c : Dev nD) (bd : Option 𝒱.V) (E : Set ℕ)
variable (i : grid0.Coords) (arg1 : Memref sig .tc .smem S4608 .f32) (harg1 : arg1.IsWhole) (arg2 : Memref sig .tc .smem S1536 .f32) (harg2 : arg2.IsWhole) (arg3 : Memref sig .tc .smem S48 .f32) (harg3 : arg3.IsWhole) (arg4 : Memref sig .tc .vmem S1x4096x384 .fp8e4m3) (harg4 : arg4.IsWhole) (arg5 : Memref sig .tc .vmem S1x4096x128 .fp8e4m3) (harg5 : arg5.IsWhole) (arg6 : Memref sig .tc .vmem S1x4096x128 .fp8e4m3) (harg6 : arg6.IsWhole) (arg7 : Memref sig .tc .vmem S1x4096x384 .bf16) (harg7 : arg7.IsWhole) (arg8 : Memref sig .tc .vmem S1x3x4096 .f32) (harg8 : arg8.IsWhole) (arg9 : Memref sig .tc .vmem S128x4096 .fp8e4m3) (harg9 : arg9.IsWhole) (arg10 : Memref sig .tc .vmem S4096x256 .f32) (harg10 : arg10.IsWhole)
variable (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ)))

/-- One trip of the loop that turns the values over. -/
theorem t1_trip (t1 : Fin k0_t1_loop.trips) (f9 : Buf (Elt F) (arg9.view.loc (c : Thread nD τ)))
    (hv : Turned (vTurned (arg6.view.read (Elt F) f6)) (arg9.view.read (Elt F) f9) t1.val) :
    iprop(holds c arg6 f6 ∗ holds c arg9 f9 : sProp 𝕄)
      ⊢ wp Idealize.ShloMosaic.frame (wpE df 𝒱 (c : Thread nD τ) bd) E (k0_t1_body (F := F) i arg1 harg1 arg2 harg2 arg3 harg3 arg4 harg4 arg5 harg5 arg6 harg6 arg7 harg7 arg8 harg8 arg9 harg9 arg10 harg10 t1 ()) fun _ =>
        iprop(holds c arg6 f6 ∗ (∃ f, holds c arg9 f ∗ ⌜Turned (vTurned (arg6.view.read (Elt F) f6)) (arg9.view.read (Elt F) f) (t1.val + 1)⌝)) := by
  have ht : t1.val < 16 := lt_of_lt_of_eq t1.isLt t1_trips
  unfold k0_t1_body
  iintro ⟨H6, H9⟩
  sl_exec
  sl_step
  isplitl [H6]; · iexact H6
  iexists _
  isplitl [H9]; · iexact H9
  ipureintro
  rw [read_kTile arg6.view f6 _ _ t1.val ht (k0_off1_eq t1), View.read_writes_cons_put (Val := Elt F) arg9.view f9 (k0_off2_inb t1) _ [] (k0_off2_eq t1)]
  exact hv.put ht

/-- One query tile: its three heads. -/
theorem t2_trip (v16 v26 : BitVec 32) (v40 : F .f32) (t2 : Fin k0_t2_loop.trips)
    (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ)))
    (D : ℕ → ℕ → Rd F) (hD : D = rd (arg1.view.read (Elt F) f1) (arg2.view.read (Elt F) f2) (arg4.view.read (Elt F) f4) (arg5.view.read (Elt F) f5) (arg6.view.read (Elt F) f6) (i 0).val)
    (hv : Turned (vTurned (arg6.view.read (Elt F) f6)) (arg9.view.read (Elt F) f9) 16)
    (h7 : Out7 (fun t g => (D t g).out v40 t) (arg7.view.read (Elt F) f7) t2.val 0) (h8 : Out8 (fun t g => (D t g).lse t) (arg8.view.read (Elt F) f8) t2.val 0) :
    iprop(holds c arg1 f1 ∗ holds c arg2 f2 ∗ holds c arg4 f4 ∗ holds c arg5 f5 ∗ holds c arg7 f7 ∗ holds c arg8 f8 ∗ holds c arg9 f9 ∗ holds c arg10 f10 : sProp 𝕄)
      ⊢ wp Idealize.ShloMosaic.frame (wpE df 𝒱 (c : Thread nD τ) bd) E
          (k0_t2_body (F := F) i arg1 harg1 arg2 harg2 arg3 harg3 arg4 harg4 arg5 harg5 arg6 harg6 arg7 harg7 arg8 harg8 arg9 harg9 arg10 harg10 v16 v26 k0_pay448 v40 t2 ()) fun _ =>
        iprop(holds c arg1 f1 ∗ holds c arg2 f2 ∗ holds c arg4 f4 ∗ holds c arg5 f5
          ∗ (∃ f, holds c arg7 f ∗ ⌜Out7 (fun t g => (D t g).out v40 t) (arg7.view.read (Elt F) f) (t2.val + 1) 0⌝)
          ∗ (∃ f, holds c arg8 f ∗ ⌜Out8 (fun t g => (D t g).lse t) (arg8.view.read (Elt F) f) (t2.val + 1) 0⌝)
          ∗ holds c arg9 f9 ∗ (∃ f, holds c arg10 f)) := by
  rw [t2_body_eq]
  have hq (g) : (D t2.val g).q = qTile (arg4.view.read (Elt F) f4) t2.val g := by rw [hD]; rfl
  have hq0 (g) : (D t2.val g).q0 = word (arg1.view.read (Elt F) f1) (by decide) (wq (i 0).val t2.val 0 g) := by rw [hD]; rfl
  have hq1 (g) : (D t2.val g).q1 = word (arg1.view.read (Elt F) f1) (by decide) (wq (i 0).val t2.val 1 g) := by rw [hD]; rfl
  have hs (g) : ∀ t j, (D t2.val g).ks t j = word (arg2.view.read (Elt F) f2) (by decide) (wk (i 0).val t j) := by rw [hD]; intro t j; rfl
  have hk (g) : ∀ t, (D t2.val g).kt t = kTile (arg5.view.read (Elt F) f5) t := by rw [hD]; intro t; rfl
  have hv' (g) : Turned (D t2.val g).vt (arg9.view.read (Elt F) f9) 16 := by rw [hD]; exact hv
  iintro ⟨H1, H2, H4, H5, H7, H8, H9, H10⟩
  rw [wp_bind]
  iapply (wp_wand_r Idealize.ShloMosaic.frame (wpE df 𝒱 (c : Thread nD τ) bd) E)
  isplitl [H1 H2 H4 H5 H7 H8 H9 H10]
  · iapply (head_wp df 𝒱 c bd E i arg1 arg2 arg4 arg5 arg7 harg7 arg8 arg9 arg10 (D t2.val 0) t2 v40 0 (by decide) _ _ _ _ _ _ _ _ _ (k0_off4_eq t2) (k0_off30_eq t2) (off5_eq i t2 0 0) (off5_eq i t2 1 0)
      f1 f2 f4 f5 f7 f8 f9 f10 (hq 0) (hq0 0) (hq1 0) (hs 0) (hk 0) (hv' 0))
    isplitl [H1]; · iexact H1
    isplitl [H2]; · iexact H2
    isplitl [H4]; · iexact H4
    isplitl [H5]; · iexact H5
    isplitl [H7]; · iexact H7
    isplitl [H8]; · iexact H8
    isplitl [H9]; · iexact H9
    iexact H10
  iintro %_ ⟨H1, H2, H4, H5, ⟨%g7, H7, %e7⟩, ⟨%g8, H8, %e8⟩, H9, ⟨%g10, H10⟩⟩
  rw [wp_bind]
  iapply (wp_wand_r Idealize.ShloMosaic.frame (wpE df 𝒱 (c : Thread nD τ) bd) E)
  isplitl [H1 H2 H4 H5 H7 H8 H9 H10]
  · iapply (head_wp df 𝒱 c bd E i arg1 arg2 arg4 arg5 arg7 harg7 arg8 arg9 arg10 (D t2.val 1) t2 v40 1 (by decide) _ _ _ _ _ _ _ _ _ (k0_off31_eq t2) (k0_off50_eq t2) (off5_eq i t2 0 1) (off5_eq i t2 1 1)
      f1 f2 f4 f5 g7 g8 f9 g10 (hq 1) (hq0 1) (hq1 1) (hs 1) (hk 1) (hv' 1))
    isplitl [H1]; · iexact H1
    isplitl [H2]; · iexact H2
    isplitl [H4]; · iexact H4
    isplitl [H5]; · iexact H5
    isplitl [H7]; · iexact H7
    isplitl [H8]; · iexact H8
    isplitl [H9]; · iexact H9
    iexact H10
  iintro %_ ⟨H1, H2, H4, H5, ⟨%p7, H7, %u7⟩, ⟨%p8, H8, %u8⟩, H9, ⟨%p10, H10⟩⟩
  iapply (wp_wand_r Idealize.ShloMosaic.frame (wpE df 𝒱 (c : Thread nD τ) bd) E)
  isplitl [H1 H2 H4 H5 H7 H8 H9 H10]
  · iapply (head_wp df 𝒱 c bd E i arg1 arg2 arg4 arg5 arg7 harg7 arg8 arg9 arg10 (D t2.val 2) t2 v40 2 (by decide) _ _ _ _ _ _ _ _ _ (k0_off51_eq t2) (k0_off70_eq t2) (off5_eq i t2 0 2) (off5_eq i t2 1 2)
      f1 f2 f4 f5 p7 p8 f9 p10 (hq 2) (hq0 2) (hq1 2) (hs 2) (hk 2) (hv' 2))
    isplitl [H1]; · iexact H1
    isplitl [H2]; · iexact H2
    isplitl [H4]; · iexact H4
    isplitl [H5]; · iexact H5
    isplitl [H7]; · iexact H7
    isplitl [H8]; · iexact H8
    isplitl [H9]; · iexact H9
    iexact H10
  iintro %_ ⟨H1, H2, H4, H5, ⟨%r7, H7, %w7⟩, ⟨%r8, H8, %w8⟩, H9, ⟨%r10, H10⟩⟩
  isplitl [H1]; · iexact H1
  isplitl [H2]; · iexact H2
  isplitl [H4]; · iexact H4
  isplitl [H5]; · iexact H5
  isplitl [H7]
  · iexists r7
    isplitl [H7]; · iexact H7
    ipureintro
    rw [w7, u7, e7]
    exact (((h7.put).put).put).next
  isplitl [H8]
  · iexists r8
    isplitl [H8]; · iexact H8
    ipureintro
    rw [w8, u8, e8]
    exact (((h8.put).put).put).next
  isplitl [H9]; · iexact H9
  iexists r10; iexact H10

/-- Before query tile `k`. -/
def invT2 (v40 : F .f32) (f9 : Buf (Elt F) (arg9.view.loc (c : Thread nD τ))) (D : ℕ → ℕ → Rd F) (k : ℕ) (_ : Unit) : sProp 𝕄 :=
  iprop(holds c arg1 f1 ∗ holds c arg2 f2 ∗ holds c arg4 f4 ∗ holds c arg5 f5
          ∗ (∃ f, holds c arg7 f ∗ ⌜Out7 (fun t g => (D t g).out v40 t) (arg7.view.read (Elt F) f) k 0⌝)
          ∗ (∃ f, holds c arg8 f ∗ ⌜Out8 (fun t g => (D t g).lse t) (arg8.view.read (Elt F) f) k 0⌝)
          ∗ holds c arg9 f9 ∗ (∃ f, holds c arg10 f))

/-- Before tile `k` of the values is turned over. -/
def invT1 (k : ℕ) (_ : Unit) : sProp 𝕄 :=
  iprop(holds c arg6 f6 ∗ (∃ f, holds c arg9 f ∗ ⌜Turned (vTurned (arg6.view.read (Elt F) f6)) (arg9.view.read (Elt F) f) k⌝))

/-- The body of a grid point: the outputs and the log-sum-exps as functions of the arrays read. -/
theorem body_wp (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) :
    iprop(holds c arg1 f1 ∗ holds c arg2 f2 ∗ holds c arg3 f3 ∗ holds c arg4 f4 ∗ holds c arg5 f5 ∗ holds c arg6 f6 ∗ holds c arg7 f7 ∗ holds c arg8 f8 ∗ holds c arg9 f9 ∗ holds c arg10 f10 : sProp 𝕄)
      ⊢ wp Idealize.ShloMosaic.frame (wpE df 𝒱 (c : Thread nD τ) bd) E
          (cc0_softermax_attn (F := F) i arg1 harg1 arg2 harg2 arg3 harg3 arg4 harg4 arg5 harg5 arg6 harg6 arg7 harg7 arg8 harg8 arg9 harg9 arg10 harg10) fun _ =>
        iprop(holds c arg1 f1 ∗ holds c arg2 f2 ∗ holds c arg3 f3 ∗ holds c arg4 f4 ∗ holds c arg5 f5 ∗ holds c arg6 f6
          ∗ (∃ f, holds c arg7 f ∗ ⌜arg7.view.read (Elt F) f = outArr (arg1.view.read (Elt F) f1) (arg2.view.read (Elt F) f2) (arg3.view.read (Elt F) f3) (arg4.view.read (Elt F) f4) (arg5.view.read (Elt F) f5) (arg6.view.read (Elt F) f6) (i 0).val⌝)
          ∗ (∃ f, holds c arg8 f ∗ ⌜arg8.view.read (Elt F) f = lseArr (arg1.view.read (Elt F) f1) (arg2.view.read (Elt F) f2) (arg4.view.read (Elt F) f4) (arg5.view.read (Elt F) f5) (arg6.view.read (Elt F) f6) (i 0).val⌝)
          ∗ (∃ f, holds c arg9 f) ∗ (∃ f, holds c arg10 f)) := by
  simp only [cc0_softermax_attn_eq_skeleton, cc0_softermax_attn_skel, k0_part70_eq_skeleton, k0_part70_skel, bind_assoc, pure_bind, Prog.bind_ret]
  have h1 : ∀ (k : Fin (Scf.trips k0_t1_loop.lb k0_t1_loop.ub k0_t1_loop.st)) (acc : Unit),
      invT1 c arg6 arg9 f6 k.val acc ⊢ wp Idealize.ShloMosaic.frame (wpE df 𝒱 (c : Thread nD τ) bd) E (k0_t1_body (F := F) i arg1 harg1 arg2 harg2 arg3 harg3 arg4 harg4 arg5 harg5 arg6 harg6 arg7 harg7 arg8 harg8 arg9 harg9 arg10 harg10 k acc) (invT1 c arg6 arg9 f6 (k.val + 1)) := by
    intro k acc
    unfold invT1
    iintro ⟨H6, ⟨%f, H9, %hf⟩⟩
    iapply (t1_trip df 𝒱 c bd E i arg1 harg1 arg2 harg2 arg3 harg3 arg4 harg4 arg5 harg5 arg6 harg6 arg7 harg7 arg8 harg8 arg9 harg9 arg10 harg10 f6 k f hf)
    isplitl [H6]; · iexact H6
    iexact H9
  iintro ⟨H1, H2, H3, H4, H5, H6, H7, H8, H9, H10⟩
  rw [wp_bind]
  iapply (Scf.wp_for Idealize.ShloMosaic.frame (wpE df 𝒱 (c : Thread nD τ) bd) E k0_t1_loop.lb k0_t1_loop.ub k0_t1_loop.st k0_t1_ok _ _ (invT1 c arg6 arg9 f6) h1)
  isplitl [H6 H9]
  · unfold invT1
    isplitl [H6]; · iexact H6
    iexists f9
    isplitl [H9]; · iexact H9
    ipureintro
    exact fun t h => absurd h (Nat.not_lt_zero t)
  have e1 : Scf.trips k0_t1_loop.lb k0_t1_loop.ub k0_t1_loop.st = 16 := t1_trips
  rw [e1]
  unfold invT1
  iintro %_ ⟨H6, ⟨%g9, H9, %hv⟩⟩
  sl_exec
  have er : body_wp.sl.r c i arg3 f3 = word (arg3.view.read (Elt F) f3) (by decide) (i 0).val := by
    unfold body_wp.sl.r
    exact read_word _ _ _ _ _ _ _ (off3_eq i)
  rw [er]
  generalize hD : rd (arg1.view.read (Elt F) f1) (arg2.view.read (Elt F) f2) (arg4.view.read (Elt F) f4) (arg5.view.read (Elt F) f5) (arg6.view.read (Elt F) f6) (i 0).val = D
  generalize hw : word (arg3.view.read (Elt F) f3) (by decide) (i 0).val = v40
  have h2 (v16 v26 : BitVec 32) : ∀ (k : Fin (Scf.trips k0_t2_loop.lb k0_t2_loop.ub k0_t2_loop.st)) (acc : Unit),
      invT2 c arg1 arg2 arg4 arg5 arg7 arg8 arg9 arg10 f1 f2 f4 f5 v40 g9 D k.val acc
        ⊢ wp Idealize.ShloMosaic.frame (wpE df 𝒱 (c : Thread nD τ) bd) E (k0_t2_body (F := F) i arg1 harg1 arg2 harg2 arg3 harg3 arg4 harg4 arg5 harg5 arg6 harg6 arg7 harg7 arg8 harg8 arg9 harg9 arg10 harg10 v16 v26 k0_pay448 v40 k acc)
          (invT2 c arg1 arg2 arg4 arg5 arg7 arg8 arg9 arg10 f1 f2 f4 f5 v40 g9 D (k.val + 1)) := by
    intro k acc
    unfold invT2
    iintro ⟨H1, H2, H4, H5, ⟨%p7, H7, %h7⟩, ⟨%p8, H8, %h8⟩, H9, ⟨%p10, H10⟩⟩
    iapply (t2_trip df 𝒱 c bd E i arg1 harg1 arg2 harg2 arg3 harg3 arg4 harg4 arg5 harg5 arg6 harg6 arg7 harg7 arg8 harg8 arg9 harg9 arg10 harg10 f1 f2 f4 f5 f6 v16 v26 v40 k p7 p8 g9 p10 D hD.symm hv h7 h8)
    isplitl [H1]; · iexact H1
    isplitl [H2]; · iexact H2
    isplitl [H4]; · iexact H4
    isplitl [H5]; · iexact H5
    isplitl [H7]; · iexact H7
    isplitl [H8]; · iexact H8
    isplitl [H9]; · iexact H9
    iexact H10
  rw [wp_bind]
  iapply (Scf.wp_for Idealize.ShloMosaic.frame (wpE df 𝒱 (c : Thread nD τ) bd) E k0_t2_loop.lb k0_t2_loop.ub k0_t2_loop.st k0_t2_ok _ _ (invT2 c arg1 arg2 arg4 arg5 arg7 arg8 arg9 arg10 f1 f2 f4 f5 v40 g9 D) (h2 _ _))
  isplitl [H1 H2 H4 H5 H7 H8 H9 H10]
  · unfold invT2
    isplitl [H1]; · iexact H1
    isplitl [H2]; · iexact H2
    isplitl [H4]; · iexact H4
    isplitl [H5]; · iexact H5
    isplitl [H7]
    · iexists f7
      isplitl [H7]; · iexact H7
      ipureintro; exact Out7.nil _ _
    isplitl [H8]
    · iexists f8
      isplitl [H8]; · iexact H8
      ipureintro; exact Out8.nil _ _
    isplitl [H9]; · iexact H9
    iexists f10; iexact H10
  have e2 : Scf.trips k0_t2_loop.lb k0_t2_loop.ub k0_t2_loop.st = 16 := t2_trips
  rw [e2]
  unfold invT2
  iintro %_ ⟨H1, H2, H4, H5, ⟨%p7, H7, %h7⟩, ⟨%p8, H8, %h8⟩, H9, ⟨%p10, H10⟩⟩
  sl_step
  isplitl [H1]; · iexact H1
  isplitl [H2]; · iexact H2
  isplitl [H3]; · iexact H3
  isplitl [H4]; · iexact H4
  isplitl [H5]; · iexact H5
  isplitl [H6]; · iexact H6
  isplitl [H7]
  · iexists p7
    isplitl [H7]; · iexact H7
    ipureintro
    subst hD hw
    exact funext fun y => h7.all y
  isplitl [H8]
  · iexists p8
    isplitl [H8]; · iexact H8
    ipureintro
    subst hD hw
    exact funext fun y => h8.all y
  isplitl [H9]; · iexists g9; iexact H9
  iexists p10; iexact H10

end Cert.KernelIdeal.Attn
-- ==== Proof.Run.lean ====
module

public import Idealize.ShloMosaic.Lib.Claim
public import proofs.«01_k».proof.Proof.Body
public import proofs.«01_k».proof.Proof.Gen.KernelIdeal.Frame

@[expose] public section

set_option maxRecDepth 16384

noncomputable section

/-! The run of the whole program: the argument arrays unchanged, every window's array at what its bodies leave. -/
namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A scratch buffer held whole. -/
theorem holds_whole (c : Dev nD) (b : Ref sig .tc) (f : Buf (Elt F) ((c : Thread nD τ).loc b)) :
    (holds c (Memref.whole b) f : sProp 𝕄) = (((c : Thread nD τ).loc b) ↦{fullShare} f) := by
  have h : (Memref.whole b : Memref sig .tc _ _ _).view.set = Finset.univ := View.set_whole b
  show (((c : Thread nD τ).loc b) ↦[(Memref.whole b : Memref sig .tc _ _ _).view.set]{fullShare} f) = _
  rw [h]

/-- What a grid point's body leaves in the outputs' buffer. -/
def out6 (c : Dev nD) (t : Fin cfg0.N) : Vec F S1x4096x384 .bf16 :=
  outArr (iblk m c 0 t) (iblk m c 1 t) (iblk m c 2 t) (iblk m c 3 t) (iblk m c 4 t) (iblk m c 5 t) (grid0.coords t 0).val
/-- What it leaves in the log-sum-exps' buffer. -/
def out7 (c : Dev nD) (t : Fin cfg0.N) : Vec F S1x3x4096 .f32 :=
  lseArr (iblk m c 0 t) (iblk m c 1 t) (iblk m c 3 t) (iblk m c 4 t) (iblk m c 5 t) (grid0.coords t 0).val

/-- The proof data: arrays as the region finds them, each input's buffer at its block, each output's at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
    | ⟨7, _⟩ => out7 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 m c t := by dsimp only [dats]
theorem after0_7 (c : Dev nD) (t : Fin cfg0.N) : (dats m 0 c).after 7 t = out7 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7,
    show (dats m 0 c).Φ t.castSucc = Pipeline.ΦA spec0 c from rfl]
  unfold Pipeline.ΦA owns
  rw [scopedRest0_eq]
  iintro ⟨⟨⟨⟨%f9, H9⟩, ⟨%f10, H10⟩⟩, Hr⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, -, H6⟩, ⟨%d7, %f7, -, H7⟩⟩
  ihave H9' := (Entails.of_eq (holds_whole (F := F) c cc0_scratch0 f9).symm) $$ H9
  ihave H10' := (Entails.of_eq (holds_whole (F := F) c cc0_scratch1 f10).symm) $$ H10
  iapply (wp_wand_r frame (wpE (defs₀ (F := F)) Variants.none (c : Thread nD τ) none) Set.univ)
  isplitl [H0 H1 H2 H3 H4 H5 H6 H7 H9' H10']
  · iapply (body_wp (defs₀ (F := F)) Variants.none c none Set.univ (grid0.coords t) _ _ _ _ _ _ _ _ _ _ _ _ _ _ _ _ (Memref.whole cc0_scratch0) _ (Memref.whole cc0_scratch1) _ f0 f1 f2 f3 f4 f5 f6 f7 f9 f10)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H9']; · iexact H9'
    iexact H10'
  iintro %_ ⟨H0, H1, H2, H3, H4, H5, ⟨%g6, H6, %e6⟩, ⟨%g7, H7, %e7⟩, ⟨%g9, H9⟩, ⟨%g10, H10⟩⟩
  ihave H9' := (Entails.of_eq (holds_whole (F := F) c cc0_scratch0 g9)) $$ H9
  ihave H10' := (Entails.of_eq (holds_whole (F := F) c cc0_scratch1 g10)) $$ H10
  isplitl [H9' H10' Hr]
  · isplitl [H9' H10']
    · isplitl [H9']; · iexists g9; iexact H9'
      iexists g10; iexact H10'
    · iexact Hr
  isplitl [Ho]; · iexact Ho
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists g6; isplitr
    · ipureintro
      rw [h0, h1, h2, h3, h4, h5] at e6
      exact e6
    iexact H6
  iexists g7; isplitr
  · ipureintro
    rw [h0, h1, h3, h4, h5] at e7
    exact e7
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Attn

end
-- ==== Proof.Same.lean ====
module
public import proofs.«01_k».proof.Defs
public import Idealize.ShloMosaic.Adequacy

/-! The program and its reading over the extended reals are one program: they were printed under two
names, with the same operations at every line. A run of one is a run of the other, whatever the
interpretation of the floats. -/

@[expose] public section

open Idealize.ShloMosaic Idealize.SL.Sem

namespace Cert.Same

variable {F : FTy → Type} [FloatOps F] [Cert.Kernel.Facts] [Cert.KernelIdeal.Facts]

theorem body_eq : @Cert.Kernel.cc0_softermax_attn F _ _ = @Cert.KernelIdeal.cc0_softermax_attn F _ _ := rfl

theorem main_eq : Cert.Kernel.main (F := F) = Cert.KernelIdeal.main (F := F) := rfl

theorem defs₀_eq : Cert.Kernel.defs₀ (F := F) = Cert.KernelIdeal.defs₀ (F := F) := by
  refine congrArg (Defs.onTc (nD := Cert.Kernel.nD) (τ := Cert.Kernel.τ) (sig := Cert.Kernel.sig) (Val := Elt F) (Λ := Cert.Kernel.Λ₀)) (funext fun ℓ => funext fun a => ?_)
  match ℓ, a with
  | 0, (t, s) => exact congrFun (congrFun (congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _) _) _

theorem defs_eq : Cert.Kernel.defs (F := F) = Cert.KernelIdeal.defs (F := F) :=
  congrArg (Pipeline.defs Cert.Kernel.pcfgs) defs₀_eq

/-- What every run of the one from a state ends in, every run of the other from that state ends in. -/
theorem run_of (σ : MemSt Cert.Kernel.nD Cert.Kernel.τ Cert.Kernel.sig (Elt F))
    (Q : PUnit × MemSt Cert.Kernel.nD Cert.Kernel.τ Cert.Kernel.sig (Elt F) → Prop)
    (h : θ_run (Cert.KernelIdeal.defs (F := F)) (onTc (τ := Cert.KernelIdeal.τ) (Cert.KernelIdeal.main (F := F))) σ Q) :
    θ_run (Cert.Kernel.defs (F := F)) (onTc (τ := Cert.Kernel.τ) (Cert.Kernel.main (F := F))) σ Q := by
  rw [defs_eq, main_eq]
  exact h

end Cert.Same
-- ==== Proof.Pow.lean ====
module

public import Idealize.ShloMosaic.PureOps.Ideal
public import Idealize.ShloMosaic.PureOps.Ideal.Laws

@[expose] public section

noncomputable section

/-! The power of two by a straight line between integers, computed in two ways: from the integer and
the fractional part, and by reading a scaled number as the bits of a float. -/
namespace Cert.Pow

open Idealize.ShloMosaic Idealize.ShloMosaic.Ideal

theorem coe_max (a b : ℝ) : ((max a b : ℝ) : EReal) = max (a : EReal) b := EReal.coe_strictMono.monotone.map_max

/-! ### Rounding to nearest, ties to even -/

theorem round_add_even (w : ℝ) (k : ℤ) (hk : Even k) : roundHalfEven (w + k) = roundHalfEven w + k := by
  unfold roundHalfEven
  have e : ⌊w + k⌋ = ⌊w⌋ + k := Int.floor_add_intCast w k
  have e' : w + k - ((⌊w⌋ + k : ℤ) : ℝ) = w - ⌊w⌋ := by push_cast; ring
  have ev : Even (⌊w⌋ + k) ↔ Even ⌊w⌋ := by rw [Int.even_add]; tauto
  simp only [e, e', ev]
  split_ifs <;> ring

theorem round_int (k : ℤ) : roundHalfEven (k : ℝ) = k := by
  unfold roundHalfEven
  simp

theorem round_nonneg (w : ℝ) (h : 0 ≤ w) : 0 ≤ roundHalfEven w := by
  have := Int.floor_nonneg.2 h
  unfold roundHalfEven
  dsimp only
  split_ifs <;> omega

theorem round_le (w : ℝ) (B : ℤ) (h : w < B) : roundHalfEven w ≤ B := by
  have : ⌊w⌋ < B := Int.floor_lt.2 h
  unfold roundHalfEven
  dsimp only
  split_ifs <;> omega

/-! ### The bits of a float -/

theorem ieee_ofNat (N : ℕ) (h : N < 255 * 8388608) :
    ieee 8 23 (BitVec.ofNat 32 N) =
      if N / 8388608 = 0 then (((N % 8388608 : ℕ) : ℝ) * (2 : ℝ) ^ (-149 : ℤ) : ℝ)
      else (((8388608 + N % 8388608 : ℕ) : ℝ) * (2 : ℝ) ^ (((N / 8388608 : ℕ) : ℤ) - 150) : ℝ) := by
  have hN : N < 2 ^ 32 := by omega
  have e1 : ((BitVec.ofNat 32 N).extractLsb' 31 1).toNat = 0 := by
    simp only [BitVec.extractLsb'_toNat, BitVec.toNat_ofNat, Nat.mod_eq_of_lt hN, Nat.shiftRight_eq_div_pow]; omega
  have e2 : ((BitVec.ofNat 32 N).extractLsb' 23 8).toNat = N / 8388608 := by
    simp only [BitVec.extractLsb'_toNat, BitVec.toNat_ofNat, Nat.mod_eq_of_lt hN, Nat.shiftRight_eq_div_pow]; omega
  have e3 : ((BitVec.ofNat 32 N).extractLsb' 0 23).toNat = N % 8388608 := by
    simp only [BitVec.extractLsb'_toNat, BitVec.toNat_ofNat, Nat.mod_eq_of_lt hN, Nat.shiftRight_eq_div_pow]; omega
  have e1' : ((BitVec.ofNat 32 N).extractLsb' (8 + 23) 1 == 1#1) = false := by
    have : (BitVec.ofNat 32 N).extractLsb' 31 1 = 0#1 := BitVec.eq_of_toNat_eq (by rw [e1]; rfl)
    rw [show 8 + 23 = 31 from rfl, this]; rfl
  unfold ieee
  simp only [e1', e2, e3]
  have h1 : ¬ N / 8388608 = 2 ^ 8 - 1 := by omega
  rw [if_neg h1]
  have z1 : ((1 : ℤ) - (2 ^ (8 - 1) - 1) - ((23 : ℕ) : ℤ)) = -149 := by norm_num
  have z2 : (((N / 8388608 : ℕ) : ℤ) - (2 ^ (8 - 1) - 1) - ((23 : ℕ) : ℤ)) = ((N / 8388608 : ℕ) : ℤ) - 150 := by norm_num; ring
  rw [z1, z2]
  simp only [Bool.false_eq_true, if_false, one_mul, show (2 : ℕ) ^ 23 = 8388608 from rfl]
  split_ifs <;> rfl

/-- A float's bits as an integer: what rounding to an integer and reading the integer as bits give. -/
def ofInt (y : EReal) : EReal := ieee 8 23 (Ideal.fptosi 32 (liftRound roundHalfEven (max y 0)))

/-- The same from the integer and the fractional part. -/
def lin (x : EReal) : EReal :=
  exp2 (max (max (liftRound Int.floor x) (-127 : ℝ)) (-126 : ℝ))
    * ((if ((-126 : ℝ) : EReal) ≤ max (liftRound Int.floor x) (-127 : ℝ) then 1 else 0)
      + liftRound roundHalfEven (max (x - max (liftRound Int.floor x) (-127 : ℝ)) 0 * (8388608 : ℝ)) * ((2 : ℝ) ^ (-23 : ℤ) : ℝ))

theorem ofInt_nat (N : ℕ) (y : ℝ) (hN : N < 255 * 8388608) (h : roundHalfEven (max y 0) = N) :
    ofInt y = ieee 8 23 (BitVec.ofNat 32 N) := by
  unfold ofInt
  have e : max (y : EReal) 0 = ((max y 0 : ℝ) : EReal) := by
    rw [← EReal.coe_zero, ← coe_max]
  rw [e]
  show ieee 8 23 (Ideal.fptosi 32 (((roundHalfEven (max y 0) : ℤ) : ℝ) : EReal)) = _
  rw [h]
  unfold Ideal.fptosi
  show ieee 8 23 (BitVec.ofInt 32 (max _ (min _ (if (0:ℝ) ≤ ((N : ℤ) : ℝ) then ⌊((N : ℤ) : ℝ)⌋ else ⌈((N : ℤ) : ℝ)⌉)))) = _
  rw [if_pos (by positivity), Int.floor_intCast]
  have : max (-((2 ^ (32 - 1) : ℕ) : ℤ)) (min (((2 ^ (32 - 1) : ℕ) : ℤ) - 1) (N : ℤ)) = (N : ℤ) := by
    norm_num; omega
  rw [this]
  rfl

theorem ofInt_bot : ofInt ⊥ = 0 := by
  have : ofInt ⊥ = ofInt ((0 : ℝ) : EReal) := by
    unfold ofInt; simp
  rw [this, ofInt_nat 0 0 (by norm_num) (by simpa using round_int 0), ieee_ofNat 0 (by norm_num)]
  simp

theorem ofInt_zero : ofInt 0 = 0 := by
  rw [← EReal.coe_zero, ofInt_nat 0 0 (by norm_num) (by simpa using round_int 0), ieee_ofNat 0 (by norm_num)]
  simp

theorem lin_bot : lin ⊥ = 0 := by
  have h : ¬ ((-126 : ℝ) : EReal) ≤ ((-127 : ℝ) : EReal) := by rw [EReal.coe_le_coe_iff]; norm_num
  have hm : max (liftRound Int.floor ⊥) ((-127 : ℝ) : EReal) = ((-127 : ℝ) : EReal) := max_eq_right bot_le
  unfold lin
  simp only [hm]
  rw [if_neg h, EReal.bot_sub, max_eq_right (bot_le : (⊥ : EReal) ≤ 0), zero_mul]
  show _ * (0 + ((roundHalfEven (0 : ℝ) : ℝ) : EReal) * _) = 0
  rw [show roundHalfEven (0 : ℝ) = 0 by simpa using round_int 0]
  simp

/-- The formula at a real number not above zero. -/
theorem lin_coe (x : ℝ) (n : ℤ) (hn : n = max ⌊x⌋ (-127)) :
    lin x = (((2 : ℝ) ^ (max n (-126)) * ((if -126 ≤ n then 1 else 0) + (roundHalfEven (max (x - n) 0 * 8388608) : ℝ) * (2 : ℝ) ^ (-23 : ℤ)) : ℝ) : EReal) := by
  have e1 : max (liftRound Int.floor (x : EReal)) ((-127 : ℝ) : EReal) = ((n : ℝ) : EReal) := by
    show max (((⌊x⌋ : ℝ)) : EReal) _ = _
    rw [← coe_max, hn]; push_cast; rfl
  have e2 : max (((n : ℝ)) : EReal) ((-126 : ℝ) : EReal) = (((max n (-126) : ℤ) : ℝ) : EReal) := by
    rw [← coe_max]; push_cast; rfl
  have e3 : (((-126 : ℝ) : EReal) ≤ ((n : ℝ) : EReal)) ↔ -126 ≤ n := by
    rw [EReal.coe_le_coe_iff]; exact_mod_cast Iff.rfl
  have e4 : max ((x : EReal) - ((n : ℝ) : EReal)) 0 * ((8388608 : ℝ) : EReal) = ((max (x - n) 0 * 8388608 : ℝ) : EReal) := by
    rw [← EReal.coe_sub, ← EReal.coe_zero, ← coe_max, ← EReal.coe_mul]
  unfold lin
  rw [e1, e2, e4]
  simp only [e3]
  show ((Real.rpow 2 _ : ℝ) : EReal) * ((if -126 ≤ n then (1 : EReal) else 0) + ((_ : ℝ) : EReal) * _) = _
  have e5 : Real.rpow 2 ((max n (-126) : ℤ) : ℝ) = (2 : ℝ) ^ (max n (-126)) := Real.rpow_intCast 2 _
  have e6 : (if -126 ≤ n then (1 : EReal) else 0) = (((if -126 ≤ n then 1 else 0 : ℝ)) : EReal) := by
    split_ifs <;> simp
  rw [e5, e6, ← EReal.coe_mul, ← EReal.coe_add, ← EReal.coe_mul]

theorem real_case (x : ℝ) (hx : x ≤ 0) : ofInt (((x + 127) * 8388608 : ℝ) : EReal) = lin x := by
  obtain ⟨n, hn⟩ : ∃ n : ℤ, n = max ⌊x⌋ (-127) := ⟨_, rfl⟩
  rw [lin_coe x n hn]
  have hfx : ⌊x⌋ ≤ 0 := by
    have : (⌊x⌋ : ℝ) ≤ 0 := (Int.floor_le x).trans hx
    exact_mod_cast this
  by_cases hlow : x < -127
  · have hf : ⌊x⌋ < -127 := Int.floor_lt.2 (by exact_mod_cast hlow)
    have hn' : n = -127 := by omega
    have hz : max ((x + 127) * 8388608) 0 = 0 := max_eq_right (by nlinarith)
    have hw : max (x - n) 0 = 0 := max_eq_right (by rw [hn']; push_cast; linarith)
    rw [ofInt_nat 0 _ (by norm_num) (by rw [hz]; simpa using round_int 0), ieee_ofNat 0 (by norm_num), hw, zero_mul,
      show roundHalfEven (0 : ℝ) = 0 by simpa using round_int 0, hn']
    simp
  · have hf : -127 ≤ ⌊x⌋ := Int.le_floor.2 (by push_cast; linarith)
    have hn' : n = ⌊x⌋ := by omega
    have f0 : 0 ≤ x - n := by rw [hn']; linarith [Int.floor_le x]
    have f1 : x - n < 1 := by rw [hn']; linarith [Int.lt_floor_add_one x]
    rw [max_eq_left f0]
    obtain ⟨K, hK⟩ : ∃ K : ℤ, K = roundHalfEven ((x - n) * 8388608) := ⟨_, rfl⟩
    have K0 : 0 ≤ K := hK ▸ round_nonneg _ (by positivity)
    have K1 : K ≤ 8388608 := hK ▸ round_le _ _ (by push_cast; nlinarith)
    have K2 : n = 0 → K = 0 := by
      intro h0
      have : x = 0 := le_antisymm hx (by rw [h0] at f0; simpa using f0)
      rw [hK, this, h0]; simpa using round_int 0
    have hN : roundHalfEven (max ((x + 127) * 8388608) 0) = K + (n + 127) * 8388608 := by
      rw [max_eq_left (by nlinarith), hK, ← round_add_even _ _ ⟨(n + 127) * 4194304, by ring⟩]
      congr 1; push_cast; ring
    obtain ⟨a, ha⟩ : ∃ a : ℕ, (a : ℤ) = n + 127 := ⟨(n + 127).toNat, by omega⟩
    obtain ⟨k, hk⟩ : ∃ k : ℕ, (k : ℤ) = K := ⟨K.toNat, by omega⟩
    have hlt : k + a * 8388608 < 255 * 8388608 := by omega
    rw [ofInt_nat (k + a * 8388608) _ hlt (by rw [hN]; push_cast; rw [hk, ha]), ieee_ofNat _ hlt, ← hK, ← hk]
    have hna : n = (a : ℤ) - 127 := by omega
    by_cases hc : k = 8388608
    · have d1 : (k + a * 8388608) / 8388608 = a + 1 := by omega
      have d2 : (k + a * 8388608) % 8388608 = 0 := by omega
      rw [d1, d2, if_neg (by omega), hc]
      congr 1
      rcases Nat.eq_zero_or_pos a with h0 | hpos
      · subst h0
        rw [hna]; norm_num
      · rw [if_pos (by omega), max_eq_left (by omega), show (((a + 1 : ℕ) : ℤ) - 150) = n + (-22) by push_cast; omega, zpow_add₀ (by norm_num)]
        norm_num; ring
    · have d1 : (k + a * 8388608) / 8388608 = a := by omega
      have d2 : (k + a * 8388608) % 8388608 = k := by omega
      rw [d1, d2]
      rcases Nat.eq_zero_or_pos a with h0 | hpos
      · subst h0
        rw [if_pos rfl, hna]
        congr 1; norm_num; ring
      · rw [if_neg (by omega), if_pos (by omega), max_eq_left (by omega), show ((a : ℤ) - 150) = n + (-23) by omega, zpow_add₀ (by norm_num)]
        congr 1
        push_cast
        have : (2 : ℝ) ^ (-23 : ℤ) * 8388608 = 1 := by norm_num
        linear_combination ((2 : ℝ) ^ n) * this

/-- The weight of a score `s` under an integer maximum: the bits and the formula agree. -/
theorem ofInt_eq_lin (s z : EReal) (h : s ≤ liftRound Int.ceil z) :
    ofInt (s * (8388608 : ℝ) - (liftRound Int.ceil z - (127 : ℝ)) * (8388608 : ℝ)) = lin (s - liftRound Int.ceil z) := by
  have top_mul : (⊤ : EReal) * ((8388608 : ℝ) : EReal) = ⊤ := EReal.top_mul_coe_of_pos (by norm_num)
  have bot_mul : (⊥ : EReal) * ((8388608 : ℝ) : EReal) = ⊥ := EReal.bot_mul_coe_of_pos (by norm_num)
  induction z with
  | bot =>
    have hs : s = ⊥ := le_bot_iff.1 h
    subst hs
    rw [bot_mul, EReal.bot_sub, EReal.bot_sub, ofInt_bot, lin_bot]
  | top =>
    show ofInt (_ - (⊤ - _) * _) = lin (_ - ⊤)
    rw [EReal.top_sub_coe, top_mul, EReal.sub_top, EReal.sub_top, ofInt_bot, lin_bot]
  | coe r =>
    have h' : s ≤ (((⌈r⌉ : ℝ)) : EReal) := h
    show ofInt (_ - ((((⌈r⌉ : ℝ)) : EReal) - _) * _) = lin (_ - (((⌈r⌉ : ℝ)) : EReal))
    induction s with
    | bot => rw [bot_mul, EReal.bot_sub, EReal.bot_sub, ofInt_bot, lin_bot]
    | top => exact absurd (top_le_iff.1 h') (EReal.coe_ne_top _)
    | coe s =>
      rw [EReal.coe_le_coe_iff] at h'
      rw [← EReal.coe_sub, ← EReal.coe_mul, ← EReal.coe_mul, ← EReal.coe_sub, ← EReal.coe_sub,
        ← real_case (s - ⌈r⌉) (by linarith)]
      congr 2; ring

theorem le_ceil (z : EReal) : z ≤ liftRound Int.ceil z := by
  induction z with
  | bot => exact bot_le
  | top => exact le_rfl
  | coe r => exact EReal.coe_le_coe_iff.2 (Int.le_ceil r)

end Cert.Pow
-- ==== Proof.Att.lean ====
module

public import proofs.«01_k».proof.Proof.Pow
public import Idealize.ShloMosaic.Lib.Pointwise

@[expose] public section

noncomputable section

/-! Attention over the keys before `n`, with the weights of `Pow.lean`: the mathematics both programs compute
for one query. -/
namespace Cert.Att

open Idealize.ShloMosaic Idealize.ShloMosaic.Ideal Cert.Pow

/-- The integer maximum of the scores. -/
def mxI (S : ℕ → EReal) (n : ℕ) : EReal := liftRound Int.ceil ((Finset.range n).sup S)
/-- The weight of key `j`. -/
def wt (S : ℕ → EReal) (n j : ℕ) : EReal := lin (S j - mxI S n)
/-- The normaliser. -/
def den (S : ℕ → EReal) (n : ℕ) : EReal := ∑ j ∈ Finset.range n, wt S n j
/-- The weighted sum of the values. -/
def num (S v : ℕ → EReal) (n : ℕ) : EReal := ∑ j ∈ Finset.range n, wt S n j * v j
/-- The output. -/
def outE (S v : ℕ → EReal) (vs : EReal) (n : ℕ) : EReal := num S v n * div vs (den S n)
/-- The log-sum-exp in base two, less that of the number of keys. -/
def lseE (S : ℕ → EReal) (n : ℕ) : EReal :=
  mxI S n + log (den S n) * Ideal.ofBits .f32 0x3FB8AA3B#32 - log (((n : ℕ) : ℝ) : EReal) * Ideal.ofBits .f32 0x3FB8AA3B#32

/-- The weight of a visible key, from the bits. -/
theorem ofInt_wt (S : ℕ → EReal) (n j : ℕ) (h : j < n) :
    ofInt (S j * (8388608 : ℝ) - (mxI S n - (127 : ℝ)) * (8388608 : ℝ)) = wt S n j :=
  ofInt_eq_lin _ _ ((Finset.le_sup (f := S) (Finset.mem_range.2 h)).trans (le_ceil _))

/-! ### Ranges, a block at a time -/

theorem sup_add (S : ℕ → EReal) (n m : ℕ) :
    (Finset.range (n + m)).sup S = max ((Finset.range n).sup S) ((Finset.univ : Finset (Fin m)).sup fun r => S (n + r)) := by
  refine eq_of_forall_ge_iff fun z => ?_
  simp only [max_le_iff, Finset.sup_le_iff, Finset.mem_range, Finset.mem_univ, true_implies]
  constructor
  · exact fun h => ⟨fun j hj => h j (by omega), fun r => h _ (by omega)⟩
  · rintro ⟨h1, h2⟩ j hj
    by_cases hjn : j < n
    · exact h1 j hjn
    · have := h2 ⟨j - n, by omega⟩
      rwa [show n + (j - n) = j by omega] at this

theorem sum_add (P : ℕ → EReal) (n m : ℕ) :
    ∑ j ∈ Finset.range (n + m), P j = ∑ j ∈ Finset.range n, P j + ∑ r : Fin m, P (n + r) := by
  rw [Finset.sum_range_add, Finset.sum_range (fun r => P (n + r))]

/-- A block of which the rows up to `b` count. -/
theorem sum_add_masked (P : ℕ → EReal) (n m b : ℕ) (h : b < m) :
    ∑ j ∈ Finset.range (n + b + 1), P j = ∑ j ∈ Finset.range n, P j + ∑ r : Fin m, if r.val ≤ b then P (n + r) else 0 := by
  rw [add_assoc, Finset.sum_range_add, Fin.sum_univ_eq_sum_range (fun r => if r ≤ b then P (n + r) else 0) m, ← Finset.sum_filter]
  congr 2
  ext r
  simp only [Finset.mem_range, Finset.mem_filter]
  omega

/-! ### Constants -/

theorem c_two23 : Ideal.ofBits .f32 0x4B000000#32 = ((8388608 : ℝ) : EReal) := by
  show ieee 8 23 (BitVec.ofNat 32 0x4B000000) = _
  rw [ieee_ofNat _ (by norm_num)]; norm_num
theorem c_127 : Ideal.ofBits .f32 0x42FE0000#32 = ((127 : ℝ) : EReal) := by
  show ieee 8 23 (BitVec.ofNat 32 0x42FE0000) = _
  rw [ieee_ofNat _ (by norm_num)]; norm_num
theorem c_inv23 : Ideal.ofBits .f32 0x34000000#32 = (((2 : ℝ) ^ (-23 : ℤ) : ℝ) : EReal) := by
  show ieee 8 23 (BitVec.ofNat 32 0x34000000) = _
  rw [ieee_ofNat _ (by norm_num)]; norm_num
theorem c_scale : 0 ≤ Ideal.ofBits .f32 0x3DB504F3#32 := by
  show 0 ≤ ieee 8 23 (BitVec.ofNat 32 0x3DB504F3)
  rw [ieee_ofNat _ (by norm_num), ← EReal.coe_zero, EReal.coe_le_coe_iff]; norm_num
theorem c_ninf : Ideal.ofBits .f32 0xFF800000#32 = ⊥ := by
  show ieee 8 23 (0xFF800000#32) = _
  unfold ieee
  rw [if_pos (by decide), if_pos (by decide), if_pos (by decide)]
theorem c_n127 : Ideal.ofBits .f32 0xC2FE0000#32 = ((-127 : ℝ) : EReal) := by
  show ieee 8 23 (0xC2FE0000#32) = _
  have e1 : (((0xC2FE0000#32).extractLsb' (8 + 23) 1 == 1#1)) = true := by decide
  have e2 : ((0xC2FE0000#32).extractLsb' 23 8).toNat = 133 := by decide
  have e3 : ((0xC2FE0000#32).extractLsb' 0 23).toNat = 0x7E0000 := by decide
  unfold ieee
  simp only [e1, e2, e3]
  norm_num
theorem c_n126 : Ideal.ofBits .f32 0xC2FC0000#32 = ((-126 : ℝ) : EReal) := by
  show ieee 8 23 (0xC2FC0000#32) = _
  have e1 : (((0xC2FC0000#32).extractLsb' (8 + 23) 1 == 1#1)) = true := by decide
  have e2 : ((0xC2FC0000#32).extractLsb' 23 8).toNat = 133 := by decide
  have e3 : ((0xC2FC0000#32).extractLsb' 0 23).toNat = 0x7C0000 := by decide
  unfold ieee
  simp only [e1, e2, e3]
  norm_num

/-- A select under a comparison of two small counts. -/
theorem select_sle {α : Type} (a b : ℕ) (ha : a < 2 ^ 31) (hb : b < 2 ^ 31) (x y : α) :
    Scalar.select (IntOp.cmpi CmpIPredicate.sle (BitVec.ofNat 32 a) (BitVec.ofNat 32 b)) x y = if a ≤ b then x else y := by
  have h : (BitVec.ofNat 32 a).sle (BitVec.ofNat 32 b) = decide (a ≤ b) := by
    have ea : (BitVec.ofNat 32 a).toInt = a := by
      rw [BitVec.toInt_eq_toNat_of_lt (by rw [BitVec.toNat_ofNat]; omega), BitVec.toNat_ofNat]; omega
    have eb : (BitVec.ofNat 32 b).toInt = b := by
      rw [BitVec.toInt_eq_toNat_of_lt (by rw [BitVec.toNat_ofNat]; omega), BitVec.toNat_ofNat]; omega
    rw [BitVec.sle_eq_decide, ea, eb]
    simp
  show Scalar.select (BitVec.ofBool ((BitVec.ofNat 32 a).sle (BitVec.ofNat 32 b))) x y = _
  rw [h]
  by_cases hab : a ≤ b
  · rw [if_pos hab, decide_eq_true hab]; rfl
  · rw [if_neg hab, decide_eq_false hab]; rfl

theorem sitofp_ofNat (n : ℕ) (hn : n < 2 ^ 31) : (FloatOps.sitofp (F := Ideal) .f32 (BitVec.ofNat 32 n)) = (((n : ℕ) : ℝ) : EReal) := by
  have e : (BitVec.ofNat 32 n).toInt = n := by
    rw [BitVec.toInt_eq_toNat_of_lt (by rw [BitVec.toNat_ofNat]; omega), BitVec.toNat_ofNat]; omega
  show ((((BitVec.ofNat 32 n).toInt : ℤ) : ℝ) : EReal) = _
  rw [e]; rfl

end Cert.Att
-- ==== Proof.Goal.lean ====
module

public import proofs.«01_k».proof.Proof.Att
public import Idealize.ShloMosaic.Lib.Pointwise

@[expose] public section

set_option maxRecDepth 16384

noncomputable section

/-! The two results, entry by entry, as functions of the six argument arrays. -/
namespace Cert.Att

open Idealize.ShloMosaic

/-- A function of the keys, on the natural numbers. -/
def onNat (f : Fin 4096 → EReal) (j : ℕ) : EReal := if h : j < 4096 then f ⟨j, h⟩ else 0

theorem mxI_congr {S S' : ℕ → EReal} {n : ℕ} (h : ∀ j < n, S j = S' j) : mxI S n = mxI S' n := by
  unfold mxI
  rw [Finset.sup_congr rfl fun j hj => h j (Finset.mem_range.1 hj)]

theorem wt_congr {S S' : ℕ → EReal} {n : ℕ} (h : ∀ j < n, S j = S' j) {j : ℕ} (hj : j < n) : wt S n j = wt S' n j := by
  unfold wt
  rw [mxI_congr h, h j hj]

theorem den_congr {S S' : ℕ → EReal} {n : ℕ} (h : ∀ j < n, S j = S' j) : den S n = den S' n :=
  Finset.sum_congr rfl fun _ hj => wt_congr h (Finset.mem_range.1 hj)

theorem outE_congr {S S' v v' : ℕ → EReal} {n : ℕ} (vs : EReal) (h : ∀ j < n, S j = S' j) (hv : ∀ j < n, v j = v' j) :
    outE S v vs n = outE S' v' vs n := by
  unfold outE num
  rw [den_congr h, Finset.sum_congr rfl fun j hj => by rw [wt_congr h (Finset.mem_range.1 hj), hv j (Finset.mem_range.1 hj)]]

theorem lseE_congr {S S' : ℕ → EReal} {n : ℕ} (h : ∀ j < n, S j = S' j) : lseE S n = lseE S' n := by
  unfold lseE
  rw [den_congr h, mxI_congr h]

variable (q : FVec Ideal ⟨4, ![6, 4096, 24, 128]⟩ .fp8e4m3) (qs : FVec Ideal ⟨3, ![6, 32, 24]⟩ .f32)
  (k : FVec Ideal ⟨4, ![6, 4096, 8, 128]⟩ .fp8e4m3) (ks : FVec Ideal ⟨3, ![6, 32, 8]⟩ .f32)
  (v : FVec Ideal ⟨4, ![6, 4096, 8, 128]⟩ .fp8e4m3) (vs : FVec Ideal ⟨2, ![6, 8]⟩ .f32)

/-- The head of keys and values that query head `h` reads. -/
def kv (h : Fin 24) : Fin 8 := ⟨h.val / 3, by omega⟩
/-- The block of 128 rows that row `s` is in. -/
def row (s : Fin 4096) : Fin 32 := ⟨s.val / 128, by omega⟩

/-- The score of query `s` against key `j`: batch `b`, head `h`. -/
def score (b : Fin 6) (h : Fin 24) (s j : Fin 4096) : EReal :=
  (∑ d : Fin 128, q (ix4 b s h d) * k (ix4 b j (kv h) d)) * qs (ix3 b (row s) h) * ks (ix3 b (row j) (kv h)) * Ideal.ofBits .f32 0x3DB504F3#32

/-- The attention's output. -/
def outAt (b : Fin 6) (s : Fin 4096) (h : Fin 24) (d : Fin 128) : EReal :=
  outE (onNat (score q qs k ks b h s)) (onNat fun j => v (ix4 b j (kv h) d)) (vs (ix2 b (kv h))) (s.val + 1)

/-- Its log-sum-exp. -/
def lseAt (b : Fin 6) (s : Fin 4096) (h : Fin 24) : EReal := lseE (onNat (score q qs k ks b h s)) (s.val + 1)

end Cert.Att
-- ==== Proof.Kgeo.lean ====
module

public import Idealize.ShloMosaic.Lib.Claim
public import Idealize.ShloMosaic.Lib.Pointwise
public import Idealize.ShloMosaic.Lib.Pipeline.ValueKit
public import proofs.«01_k».proof.Proof.Goal
public import proofs.«01_k».proof.Proof.Run

@[expose] public section

set_option maxRecDepth 16384

noncomputable section

/-! The kernel's arrays around its launch, entry by entry. -/
namespace Cert.KernelIdeal.Attn

open Idealize.ShloMosaic Idealize.ShloMosaic.TcCoe Idealize.SL.Sem Cert.KernelIdeal Cert.KernelIdeal.Gen
open Idealize.ShloMosaic.Pipeline (Dat)
open Cert.Att

variable (m : (ℓ : Loc nD τ sig) → Buf (Elt Ideal) ℓ)

/-! ### What the operations before the launch leave -/

theorem V_v0 (c : Dev nD) (b : Fin 6) (r : Fin 32) (h : Fin 24) :
    V m c main_v0 (ix1 ⟨(b.val * 32 + r.val) * 24 + h.val, by omega⟩) = m ((c : Thread nD τ).loc main_arg1) (ix3 b r h) := by
  simp only [V, V0, List.flatten_cons, List.flatten_nil, List.append_nil]
  entry_read
  pointwise
  blk_ext

theorem V_v0_any (c : Dev nD) (i : Fin 4608) :
    V m c main_v0 (ix1 i) = m ((c : Thread nD τ).loc main_arg1) (ix3 ⟨i.val / 768, by omega⟩ ⟨i.val / 24 % 32, by omega⟩ ⟨i.val % 24, by omega⟩) := by
  simp only [V, V0, List.flatten_cons, List.flatten_nil, List.append_nil]
  entry_read
  pointwise
  blk_ext

theorem V_v1 (c : Dev nD) (b : Fin 6) (r : Fin 32) (h : Fin 8) :
    V m c main_v1 (ix1 ⟨(b.val * 32 + r.val) * 8 + h.val, by omega⟩) = m ((c : Thread nD τ).loc main_arg3) (ix3 b r h) := by
  simp only [V, V0, List.flatten_cons, List.flatten_nil, List.append_nil]
  entry_read
  pointwise
  blk_ext

theorem V_v1_any (c : Dev nD) (i : Fin 1536) :
    V m c main_v1 (ix1 i) = m ((c : Thread nD τ).loc main_arg3) (ix3 ⟨i.val / 256, by omega⟩ ⟨i.val / 8 % 32, by omega⟩ ⟨i.val % 8, by omega⟩) := by
  simp only [V, V0, List.flatten_cons, List.flatten_nil, List.append_nil]
  entry_read
  pointwise
  blk_ext

theorem V_v2 (c : Dev nD) (b : Fin 6) (h : Fin 8) :
    V m c main_v2 (ix1 ⟨b.val * 8 + h.val, by omega⟩) = m ((c : Thread nD τ).loc main_arg5) (ix2 b h) := by
  simp only [V, V0, List.flatten_cons, List.flatten_nil, List.append_nil]
  entry_read
  pointwise
  blk_ext

theorem V_v3 (c : Dev nD) (b : Fin 6) (s : Fin 4096) (h : Fin 24) (d : Fin 128) :
    V m c main_v3 (ix3 b s ⟨h.val * 128 + d.val, by omega⟩) = m ((c : Thread nD τ).loc main_arg0) (ix4 b s h d) := by
  simp only [V, V0, List.flatten_cons, List.flatten_nil, List.append_nil]
  entry_read
  pointwise
  blk_ext

theorem V_v4 (c : Dev nD) (b : Fin 6) (s : Fin 4096) (h : Fin 8) (d : Fin 128) :
    V m c main_v4 (ix3 b s ⟨h.val * 128 + d.val, by omega⟩) = m ((c : Thread nD τ).loc main_arg2) (ix4 b s h d) := by
  simp only [V, V0, List.flatten_cons, List.flatten_nil, List.append_nil]
  entry_read
  pointwise
  blk_ext

theorem V_v5 (c : Dev nD) (b : Fin 6) (s : Fin 4096) (h : Fin 8) (d : Fin 128) :
    V m c main_v5 (ix3 b s ⟨h.val * 128 + d.val, by omega⟩) = m ((c : Thread nD τ).loc main_arg4) (ix4 b s h d) := by
  simp only [V, V0, List.flatten_cons, List.flatten_nil, List.append_nil]
  entry_read
  pointwise
  blk_ext

/-! ### What the operations after it leave -/

theorem W_v7 (c : Dev nD) (b : Fin 6) (s : Fin 4096) (h : Fin 24) (d : Fin 128) :
    Pipeline.afterTail₀ cfgs (dats m) 0 (V0 m) [hostOps1] c main_v7 (ix4 b s h d) = (dats m 0 c).arrAt 6 cfg0.N (ix3 b s ⟨h.val * 128 + d.val, by omega⟩) := by
  unfold Pipeline.afterTail₀
  simp only [List.flatten_cons, List.flatten_nil, List.append_nil]
  entry_read
  have e := Pipeline.withArrays_arr spec0 (by decide) c (V0 m c) (fun w => (dats m 0 c).arrAt w cfg0.N) 6
  generalize Pipeline.withArrays _ _ _ _ _ = A at e ⊢
  subst e
  generalize (dats m 0 c).arrAt 6 cfg0.N = A
  pointwise
  blk_ext

theorem W_v9 (c : Dev nD) (b : Fin 6) (s : Fin 4096) (h : Fin 24) :
    Pipeline.afterTail₀ cfgs (dats m) 0 (V0 m) [hostOps1] c main_v9 (ix3 b s h)
      = (dats m 0 c).arrAt 7 cfg0.N (ix3 ⟨b.val * 8 + h.val / 3, by omega⟩ ⟨h.val % 3, by omega⟩ s) := by
  unfold Pipeline.afterTail₀
  simp only [List.flatten_cons, List.flatten_nil, List.append_nil]
  entry_read
  have e := Pipeline.withArrays_arr spec0 (by decide) c (V0 m c) (fun w => (dats m 0 c).arrAt w cfg0.N) 7
  generalize Pipeline.withArrays _ _ _ _ _ = A at e ⊢
  subst e
  generalize (dats m 0 c).arrAt 7 cfg0.N = A
  pointwise
  blk_ext

/-! ### The windows' blocks -/

theorem idx : ∀ t : Fin cfg0.N, win0_0.index t = ![0] ∧ win0_1.index t = ![0] ∧ win0_2.index t = ![0]
    ∧ win0_3.index t = ![(grid0.coords t 0).val / 8, 0, (grid0.coords t 0).val % 8] ∧ win0_4.index t = ![(grid0.coords t 0).val / 8, 0, (grid0.coords t 0).val % 8]
    ∧ win0_5.index t = ![(grid0.coords t 0).val / 8, 0, (grid0.coords t 0).val % 8] ∧ win0_6.index t = ![(grid0.coords t 0).val / 8, 0, (grid0.coords t 0).val % 8]
    ∧ win0_7.index t = ![(grid0.coords t 0).val, 0, 0] :=
  (by decide +kernel : ∀ t : Fin grid0.N, _)

theorem iblk0 (c : Dev nD) (t : Fin cfg0.N) : iblk m c 0 t = V m c main_v0 := by blk_ext! [iblk, idx t]
theorem iblk1 (c : Dev nD) (t : Fin cfg0.N) : iblk m c 1 t = V m c main_v1 := by blk_ext! [iblk, idx t]
theorem iblk2 (c : Dev nD) (t : Fin cfg0.N) : iblk m c 2 t = V m c main_v2 := by blk_ext! [iblk, idx t]

theorem iblk3 (c : Dev nD) (t : Fin cfg0.N) (n : Fin 48) (hn : (grid0.coords t 0).val = n.val) (s : Fin 4096) (e : Fin 384) :
    iblk m c 3 t (ix3 0 s e) = V m c main_v3 (ix3 ⟨n.val / 8, by omega⟩ s ⟨n.val % 8 * 384 + e.val, by omega⟩) := by
  blk_ext [iblk, idx t, hn]
theorem iblk4 (c : Dev nD) (t : Fin cfg0.N) (n : Fin 48) (hn : (grid0.coords t 0).val = n.val) (s : Fin 4096) (e : Fin 128) :
    iblk m c 4 t (ix3 0 s e) = V m c main_v4 (ix3 ⟨n.val / 8, by omega⟩ s ⟨n.val % 8 * 128 + e.val, by omega⟩) := by
  blk_ext [iblk, idx t, hn]
theorem iblk5 (c : Dev nD) (t : Fin cfg0.N) (n : Fin 48) (hn : (grid0.coords t 0).val = n.val) (s : Fin 4096) (e : Fin 128) :
    iblk m c 5 t (ix3 0 s e) = V m c main_v5 (ix3 ⟨n.val / 8, by omega⟩ s ⟨n.val % 8 * 128 + e.val, by omega⟩) := by
  blk_ext [iblk, idx t, hn]

theorem final6 (c : Dev nD) (G : Vec Ideal S6x4096x3072 .bf16)
    (hG : ∀ (n : Fin 48) (s : Fin 4096) (e : Fin 384) (t : Fin cfg0.N), (grid0.coords t 0).val = n.val →
      out6 m c t (ix3 0 s e) = G (ix3 ⟨n.val / 8, by omega⟩ s ⟨n.val % 8 * 384 + e.val, by omega⟩)) :
    (dats m 0 c).arrAt 6 cfg0.N = G := by
  refine (dats m 0 c).arrAt_eq_of_covers 6 _ (by decide +kernel) fun t hf y => ?_
  blk_simp
  rw [after0_6]
  have ey : y = ix3 0 (y 1) (y 2) := by blk_ext
  refine (congrArg (out6 m c t) ey).trans ((hG (grid0.coords t 0) (y 1) (y 2) t rfl).trans (congrArg G ?_))
  blk_ext [idx t]

theorem final7 (c : Dev nD) (G : Vec Ideal S48x3x4096 .f32)
    (hG : ∀ (n : Fin 48) (g : Fin 3) (s : Fin 4096) (t : Fin cfg0.N), (grid0.coords t 0).val = n.val →
      out7 m c t (ix3 0 g s) = G (ix3 n g s)) :
    (dats m 0 c).arrAt 7 cfg0.N = G := by
  refine (dats m 0 c).arrAt_eq_of_covers 7 _ (by decide +kernel) fun t hf y => ?_
  blk_simp
  rw [after0_7]
  have ey : y = ix3 0 (y 1) (y 2) := by blk_ext
  refine (congrArg (out7 m c t) ey).trans ((hG (grid0.coords t 0) (y 1) (y 2) t rfl).trans (congrArg G ?_))
  blk_ext [idx t]

end Cert.KernelIdeal.Attn
-- ==== Proof.Kred.lean ====
module

public import proofs.«01_k».proof.Proof.Spec
public import proofs.«01_k».proof.Proof.Att

@[expose] public section

set_option maxRecDepth 16384

noncomputable section

/-! What one query tile of one head computes, read over the extended reals: the maxima, the normalisers
and the weighted values of `Att.lean`. -/
namespace Cert.KernelIdeal.Attn

open Idealize.ShloMosaic Cert.KernelIdeal.Gen
open Idealize.ShloMosaic.VecWindow (window put)
open Cert.Pow Cert.Att

/-! ### One block -/

/-- The maximum over the eight partial maxima of a query. -/
def red (v : FVec Ideal S8x128 .f32) (b : Fin 128) : EReal := (Finset.univ : Finset (Fin 8)).sup fun a => v (ix2 a b)
/-- The sum of the eight partial sums of a query. -/
def tot (v : FVec Ideal S8x128 .f32) (b : Fin 128) : EReal := ∑ a : Fin 8, v (ix2 a b)

theorem fold_max (x : FVec Ideal S128x128 .f32) (a : Fin 8) (b : Fin 128) :
    fold maximumf x (ix2 a b) = (Finset.univ : Finset (Fin 16)).sup fun u => x (ix2 ⟨8 * u.val + a.val, by omega⟩ b) := by
  pointwise [fold]
  refine eq_of_forall_ge_iff fun z => ?_
  simp only [max_le_iff, Finset.sup_le_iff, Finset.mem_univ, true_implies]
  constructor
  · rintro ⟨⟨⟨⟨h0, h1⟩, h2, h3⟩, ⟨h4, h5⟩, h6, h7⟩, ⟨⟨h8, h9⟩, h10, h11⟩, ⟨h12, h13⟩, h14, h15⟩ u
    fin_cases u
    · convert h0 using 4; simp
    all_goals assumption
  · intro h
    refine ⟨⟨⟨⟨?_, h 1⟩, h 2, h 3⟩, ⟨h 4, h 5⟩, h 6, h 7⟩, ⟨⟨h 8, h 9⟩, h 10, h 11⟩, ⟨h 12, h 13⟩, h 14, h 15⟩
    convert h 0 using 4; simp

theorem fold_add (x : FVec Ideal S128x128 .f32) (a : Fin 8) (b : Fin 128) :
    fold addf x (ix2 a b) = ∑ u : Fin 16, x (ix2 ⟨8 * u.val + a.val, by omega⟩ b) := by
  have e : ∀ f : ℕ → EReal, ∑ u : Fin 16, f u.val = ((f 0 + f 1 + (f 2 + f 3)) + (f 4 + f 5 + (f 6 + f 7))) + ((f 8 + f 9 + (f 10 + f 11)) + (f 12 + f 13 + (f 14 + f 15))) := fun f => by
    simp only [Fin.sum_univ_succ, Fin.sum_univ_zero, Fin.val_zero, Fin.val_succ, add_zero]
    abel
  have e' := e fun u => x (ix2 ⟨(8 * u + a.val) % 128, Nat.mod_lt _ (by decide)⟩ b)
  have ex : ∀ u : Fin 16, x (ix2 ⟨8 * u.val + a.val, by omega⟩ b) = x (ix2 ⟨(8 * u.val + a.val) % 128, Nat.mod_lt _ (by decide)⟩ b) := fun u => by
    congr 2; exact Fin.ext (Nat.mod_eq_of_lt (by show 8 * u.val + a.val < 128; omega)).symm
  rw [Finset.sum_congr rfl fun u _ => ex u, e']
  pointwise [fold]
  have ey : ∀ (k : ℕ) (hk : k + a.val < 128), x (ix2 ⟨k + a.val, hk⟩ b) = x (ix2 ⟨(k + a.val) % 128, Nat.mod_lt _ (by decide)⟩ b) := fun k hk => by
    congr 2; exact Fin.ext (Nat.mod_eq_of_lt hk).symm
  have e0 : x (ix2 ⟨a.val, by omega⟩ b) = x (ix2 ⟨a.val % 128, Nat.mod_lt _ (by decide)⟩ b) := by
    congr 2; exact Fin.ext (by show a.val = a.val % 128; omega)
  rw [e0, ey 8, ey 16, ey 24, ey 32, ey 40, ey 48, ey 56, ey 64, ey 72, ey 80, ey 88, ey 96, ey 104, ey 112, ey 120]

/-- A row of a block by its group and its place in the group. -/
def rowEquiv : Fin 8 × Fin 16 ≃ Fin 128 where
  toFun p := ⟨8 * p.2.val + p.1.val, by omega⟩
  invFun r := (⟨r.val % 8, by omega⟩, ⟨r.val / 8, by omega⟩)
  left_inv p := by ext <;> simp <;> omega
  right_inv r := by ext; simp; omega

theorem tot_fold (x : FVec Ideal S128x128 .f32) (b : Fin 128) : tot (fold addf x) b = ∑ r : Fin 128, x (ix2 r b) := by
  unfold tot
  rw [← Equiv.sum_comp rowEquiv, Fintype.sum_prod_type]
  exact Finset.sum_congr rfl fun a _ => fold_add x a b

theorem tot_add (u v : FVec Ideal S8x128 .f32) (b : Fin 128) : tot (addf u v) b = tot u b + tot v b := by
  unfold tot
  rw [← Finset.sum_add_distrib]
  exact Finset.sum_congr rfl fun a _ => by pointwise

/-- A factor not below zero goes under a maximum. -/
theorem sup_mul {ι : Type} (s : Finset ι) (hs : s.Nonempty) (f : ι → EReal) (c : EReal) (hc : 0 ≤ c) : s.sup f * c = s.sup fun i => f i * c := by
  rw [← Finset.sup'_eq_sup hs, ← Finset.sup'_eq_sup hs]
  exact Finset.comp_sup'_eq_sup'_comp hs (fun x => x * c) fun x y =>
    (Monotone.map_max (fun x y h => mul_le_mul_of_nonneg_right h hc) : max x y * c = max (x * c) (y * c))

theorem red_mx (acc : FVec Ideal S8x128 .f32) (x : FVec Ideal S128x128 .f32) (q s : EReal) (hc : 0 ≤ q * s) (b : Fin 128) :
    red (mx acc x q s) b = max (red acc b) ((Finset.univ : Finset (Fin 128)).sup fun r => x (ix2 r b) * (q * s)) := by
  have e : ∀ a : Fin 8, mx acc x q s (ix2 a b) = max (acc (ix2 a b)) ((Finset.univ : Finset (Fin 16)).sup fun u => x (ix2 ⟨8 * u.val + a.val, by omega⟩ b) * (q * s)) := fun a => by
    rw [← sup_mul _ Finset.univ_nonempty _ _ hc, ← fold_max]
    pointwise [mx]
  refine eq_of_forall_ge_iff fun z => ?_
  unfold red
  simp only [e, max_le_iff, Finset.sup_le_iff, Finset.mem_univ, true_implies]
  constructor
  · exact fun h => ⟨fun a => (h a).1, fun r => by
      have := (h ⟨r.val % 8, by omega⟩).2 ⟨r.val / 8, by omega⟩
      convert this using 5; show r.val = 8 * (r.val / 8) + r.val % 8; omega⟩
  · exact fun h a => ⟨h.1 a, fun u => h.2 ⟨8 * u.val + a.val, by omega⟩⟩

theorem red_step (S : ℕ → EReal) (n : ℕ) (acc : FVec Ideal S8x128 .f32) (x : FVec Ideal S128x128 .f32) (q s : EReal) (hc : 0 ≤ q * s) (b : Fin 128)
    (h : red acc b = (Finset.range n).sup S) (hx : ∀ r : Fin 128, x (ix2 r b) * (q * s) = S (n + r.val)) :
    red (mx acc x q s) b = (Finset.range (n + 128)).sup S := by
  rw [red_mx acc x q s hc, h, sup_add]
  simp only [hx]

/-- The diagonal block: what is masked is not above the block's first row. -/
theorem red_stepD (S : ℕ → EReal) (n : ℕ) (acc : FVec Ideal S8x128 .f32) (x : FVec Ideal S128x128 .f32) (q s : EReal) (hc : 0 ≤ q * s) (b : Fin 128)
    (h : red acc b = (Finset.range n).sup S) (hx : ∀ r : Fin 128, x (ix2 r b) * (q * s) = S (n + r.val)) :
    red (mx acc (maskInf x) q s) b = (Finset.range (n + b.val + 1)).sup S := by
  have e : ∀ r : Fin 128, maskInf x (ix2 r b) = if r.val ≤ b.val then x (ix2 r b) else ⊥ := fun r => by
    pointwise [maskInf, tri]
    rw [c_ninf, select_sle _ _ (by omega) (by omega)]
  rw [red_mx acc _ q s hc, h, add_assoc, sup_add]
  congr 1
  refine eq_of_forall_ge_iff fun z => ?_
  simp only [e, Finset.sup_le_iff, Finset.mem_univ, true_implies]
  constructor
  · intro hz r
    have := hz ⟨r.val, by omega⟩
    rwa [if_pos (show r.val ≤ b.val by omega), hx] at this
  · intro hz r
    by_cases hr : r.val ≤ b.val
    · rw [if_pos hr, hx]; exact hz ⟨r.val, by omega⟩
    · rw [if_neg hr]
      rcases hc.eq_or_lt with h0 | hpos
      · have h1 := hz ⟨0, by omega⟩
        have h2 := hx ⟨0, by omega⟩
        rw [← h0, mul_zero] at h2
        rw [← h0, mul_zero, h2]; exact h1
      · rw [EReal.bot_mul_of_pos hpos]; exact bot_le

theorem tot_step (P : ℕ → EReal) (n : ℕ) (acc : FVec Ideal S8x128 .f32) (p : FVec Ideal S128x128 .f32) (b : Fin 128)
    (h : tot acc b = ∑ j ∈ Finset.range n, P j) (hp : ∀ r : Fin 128, p (ix2 r b) = P (n + r.val)) :
    tot (addf acc (fold addf p)) b = ∑ j ∈ Finset.range (n + 128), P j := by
  rw [tot_add, tot_fold, h, sum_add]
  exact congrArg _ (Finset.sum_congr rfl fun r _ => hp r)

theorem tot_stepD (P : ℕ → EReal) (n : ℕ) (acc : FVec Ideal S8x128 .f32) (p : FVec Ideal S128x128 .f32) (b : Fin 128)
    (h : tot acc b = ∑ j ∈ Finset.range n, P j) (hp : ∀ r : Fin 128, p (ix2 r b) = if r.val ≤ b.val then P (n + r.val) else 0) :
    tot (addf acc (fold addf p)) b = ∑ j ∈ Finset.range (n + b.val + 1), P j := by
  rw [tot_add, tot_fold, h, sum_add_masked P n 128 b.val b.isLt]
  exact congrArg _ (Finset.sum_congr rfl fun r _ => hp r)

theorem ceilMax_apply (v : FVec Ideal S8x128 .f32) (b : Fin 128) : ceilMax v (ix2 0 b) = Ideal.liftRound Int.ceil (red v b) := by
  pointwise [ceilMax]
  rw [c_ninf]
  rfl

theorem bias_apply (v : FVec Ideal S8x128 .f32) (a : Fin 8) (b : Fin 128) :
    bias v (ix2 a b) = (Ideal.liftRound Int.ceil (red v b) - (127 : ℝ)) * (8388608 : ℝ) := by
  pointwise [bias]
  rw [ceilMax_apply, c_127, c_two23]

theorem prob_apply (q s : EReal) (mb : FVec Ideal S8x128 .f32) (x : FVec Ideal S128x128 .f32) (r b : Fin 128) :
    prob q mb x s (ix2 r b) = ofInt (x (ix2 r b) * (q * s) * (8388608 : ℝ) - mb (ix2 ⟨r.val % 8, by omega⟩ b)) := by
  pointwise [prob, toProb, shifted]
  rw [c_two23, mul_assoc (x _)]
  rfl

theorem probD_apply (q s : EReal) (mb : FVec Ideal S8x128 .f32) (x : FVec Ideal S128x128 .f32) (r b : Fin 128) :
    probD q mb x s (ix2 r b) = if r.val ≤ b.val then prob q mb x s (ix2 r b) else 0 := by
  have e : probD q mb x s (ix2 r b) = ofInt (if r.val ≤ b.val then x (ix2 r b) * (q * s) * (8388608 : ℝ) - mb (ix2 ⟨r.val % 8, by omega⟩ b) else 0) := by
    pointwise [probD, toProb, tri, shifted]
    rw [c_two23, select_sle _ _ (by omega) (by omega), mul_assoc (x _)]
    rfl
  rw [e]
  split_ifs
  · rw [prob_apply]
  · exact ofInt_zero

theorem pv_apply (acc : FVec Ideal S128x256 .f32) (vt : Vec Ideal S128x256 .fp8e4m3) (x y z w : FVec Ideal S128x128 .f32) (d : Fin 128) (a : Fin 256) :
    pv acc vt (cat2 x y) (cat2 z w) (ix2 d a) = acc (ix2 d a)
      + ((∑ r : Fin 128, vt (ix2 d ⟨r.val, by omega⟩) * if h : a.val < 128 then x (ix2 r ⟨a.val, h⟩) else z (ix2 r ⟨a.val - 128, by omega⟩))
        + ∑ r : Fin 128, vt (ix2 d ⟨128 + r.val, by omega⟩) * if h : a.val < 128 then y (ix2 r ⟨a.val, h⟩) else w (ix2 r ⟨a.val - 128, by omega⟩)) := by
  pointwise [pv, cat2]

theorem cat0_eq (x : FVec Ideal S128x128 .f32) : cat0 x = cat2 x (broadcast S128x128 (Scalar.ofBits .f32 0x00000000#32)) := by
  funext j
  idx_vars j
  pointwise [cat0, cat2]
  split
  · rfl
  · show Ideal.e4m3fn 0#8 = 0
    simp [Ideal.e4m3fn]

theorem outTile_apply (v40 : EReal) (acc : FVec Ideal S128x256 .f32) (l0 l1 : FVec Ideal S8x128 .f32) (a : Fin 256) (d : Fin 128) :
    outTile (F := Ideal) v40 acc l0 l1 (ix3 0 a d) = acc (ix2 d a) * Ideal.div v40 (if h : a.val < 128 then tot l0 ⟨a.val, h⟩ else tot l1 ⟨a.val - 128, by omega⟩) := by
  pointwise [outTile, lrow]
  rfl

theorem lseTile_apply (q0 : BitVec 32) (m0 m1 l0 l1 : FVec Ideal S8x128 .f32) (a : Fin 256) :
    lseTile (F := Ideal) q0 m0 m1 l0 l1 (ix3 0 0 a) =
      (if h : a.val < 128 then Ideal.liftRound Int.ceil (red m0 ⟨a.val, h⟩) else Ideal.liftRound Int.ceil (red m1 ⟨a.val - 128, by omega⟩))
        + Ideal.log (if h : a.val < 128 then tot l0 ⟨a.val, h⟩ else tot l1 ⟨a.val - 128, by omega⟩) * Ideal.ofBits .f32 0x3FB8AA3B#32
        - Ideal.log (FloatOps.sitofp (F := Ideal) .f32 (IntOp.addi (Scalar.addi q0 1#32) (BitVec.ofNat 32 a.val))) * Ideal.ofBits .f32 0x3FB8AA3B#32 := by
  pointwise [lseTile, lrow]
  simp only [ceilMax_apply]
  rfl

theorem scores_apply (q k : Vec Ideal S1x256x128 .fp8e4m3) (r a : Fin 256) :
    scores q k (ix2 r a) = ∑ d : Fin 128, k (ix3 0 r d) * q (ix3 0 a d) := by
  pointwise [scores]

theorem turn_apply (v : Vec Ideal S1x256x128 .fp8e4m3) (d : Fin 128) (r : Fin 256) : turn v (ix2 d r) = v (ix3 0 r d) := by
  pointwise [turn]
  have e : ∀ x : Fin 128, FloatOps.sitofp (F := Ideal) .f32 (BitVec.setWidth 32 (IntOp.cmpi CmpIPredicate.eq (BitVec.ofNat 32 d.val) (BitVec.ofNat 32 x.val))) = if d = x then (1 : EReal) else 0 := fun x => by
    by_cases h : d = x
    · subst h
      rw [if_pos rfl]
      show ((((BitVec.setWidth 32 (BitVec.ofBool (BitVec.ofNat 32 d.val == BitVec.ofNat 32 d.val))).toInt : ℤ) : ℝ) : EReal) = 1
      rw [beq_self_eq_true, show (BitVec.setWidth 32 (BitVec.ofBool true)).toInt = 1 by decide]
      norm_num
    · have hne : (BitVec.ofNat 32 d.val == BitVec.ofNat 32 x.val) = false := by
        rw [beq_eq_false_iff_ne]
        intro he
        apply h
        have := congrArg BitVec.toNat he
        simp only [BitVec.toNat_ofNat] at this
        exact Fin.ext (by omega)
      rw [if_neg h]
      show ((((BitVec.setWidth 32 (BitVec.ofBool (BitVec.ofNat 32 d.val == BitVec.ofNat 32 x.val))).toInt : ℤ) : ℝ) : EReal) = 0
      rw [hne]
      norm_num
  simp only [e, ite_mul, one_mul, zero_mul, Finset.sum_ite_eq, Finset.mem_univ, if_true]

end Cert.KernelIdeal.Attn
-- ==== Proof.Ktile.lean ====
module

public import proofs.«01_k».proof.Proof.Kred

@[expose] public section

set_option maxRecDepth 16384

noncomputable section

/-! One query of a tile: what the kernel computes of it is `Att.lean`'s attention over the keys up to its own. -/
namespace Cert.KernelIdeal.Attn

open Idealize.ShloMosaic Cert.KernelIdeal.Gen
open Idealize.ShloMosaic.VecWindow (window put)
open Cert.Pow Cert.Att

variable (D : Rd Ideal)

/-- The scale of query `a` of the tile. -/
def Rd.qa (a : ℕ) : EReal := if a < 128 then qsc D.q0 else qsc D.q1
/-- The score of query `a` of the tile against key `j`, scaled. -/
def Rd.S (a : Fin 256) (j : ℕ) : EReal :=
  D.sc (j / 256) (ix2 ⟨j % 256, Nat.mod_lt _ (by decide)⟩ a) * (D.qa a.val * D.ks (j / 256) (j % 256 / 128))
/-- Lane `d` of value `j`. -/
def Rd.V (d : Fin 128) (j : ℕ) : EReal := D.vt (j / 256) (ix2 d ⟨j % 256, Nat.mod_lt _ (by decide)⟩)

/-- The scales of the queries and keys, multiplied, are not negative. -/
def Rd.Nonneg : Prop := ∀ t j, 0 ≤ qsc D.q0 * D.ks t j ∧ 0 ≤ qsc D.q1 * D.ks t j

/-- Query `b` of the half `c` of the tile. -/
def qi (c : Fin 2) (b : Fin 128) : Fin 256 := ⟨128 * c.val + b.val, by omega⟩

theorem blk_apply (x : FVec Ideal S256x256 .f32) (r c : Fin 2) (k b : Fin 128) :
    blk x r c (ix2 k b) = x (ix2 ⟨128 * r.val + k.val, by omega⟩ (qi c b)) := by
  refine congrArg x (funext fun a => ?_)
  match a with
  | ⟨0, _⟩ => exact Fin.ext ((Rect.emb_apply _ _ _).trans (by show 128 * r.val + 1 * k.val = 128 * r.val + k.val; omega))
  | ⟨1, _⟩ => exact Fin.ext ((Rect.emb_apply _ _ _).trans (by show 128 * c.val + 1 * b.val = 128 * c.val + b.val; omega))

variable {D}

theorem S_blk (t : ℕ) (r c : Fin 2) (k b : Fin 128) :
    blk (D.sc t) r c (ix2 k b) * (D.qa (128 * c.val + b.val) * D.ks t r.val) = D.S (qi c b) (256 * t + 128 * r.val + k.val) := by
  have e1 : (256 * t + 128 * r.val + k.val) / 256 = t := by omega
  have e2 : (256 * t + 128 * r.val + k.val) % 256 = 128 * r.val + k.val := by omega
  have e3 : (128 * r.val + k.val) / 128 = r.val := by omega
  rw [blk_apply]
  unfold Rd.S
  simp only [e1, e2, e3]
  rfl

theorem qa0 (b : Fin 128) : D.qa (128 * (0 : Fin 2).val + b.val) = qsc D.q0 := if_pos (by show 128 * 0 + b.val < 128; omega)
theorem qa1 (b : Fin 128) : D.qa (128 * (1 : Fin 2).val + b.val) = qsc D.q1 := if_neg (by show ¬ 128 * 1 + b.val < 128; omega)

theorem S_blk0 (t : ℕ) (r : Fin 2) (k b : Fin 128) :
    blk (D.sc t) r 0 (ix2 k b) * (qsc D.q0 * D.ks t r.val) = D.S (qi 0 b) (256 * t + 128 * r.val + k.val) := by
  rw [← qa0 (D := D) b]; exact S_blk t r 0 k b
theorem S_blk1 (t : ℕ) (r : Fin 2) (k b : Fin 128) :
    blk (D.sc t) r 1 (ix2 k b) * (qsc D.q1 * D.ks t r.val) = D.S (qi 1 b) (256 * t + 128 * r.val + k.val) := by
  rw [← qa1 (D := D) b]; exact S_blk t r 1 k b

/-! ### The maxima -/

theorem red_negInf (b : Fin 128) : red negInf b = ⊥ := by
  unfold red
  have : ∀ a : Fin 8, negInf (F := Ideal) (ix2 a b) = ⊥ := fun a => by
    show Ideal.ofBits .f32 0xFF800000#32 = ⊥
    exact c_ninf
  simp [this]

theorem max1_eq (h : D.Nonneg) (b : Fin 128) (t : ℕ) :
    red (D.max1 t).1 b = (Finset.range (256 * t)).sup (D.S (qi 0 b)) ∧ red (D.max1 t).2 b = (Finset.range (256 * t)).sup (D.S (qi 1 b)) := by
  induction t with
  | zero => exact ⟨red_negInf b, red_negInf b⟩
  | succ t ih =>
    rw [show 256 * (t + 1) = 256 * t + 128 + 128 by ring]
    exact ⟨red_step _ _ _ _ _ _ (h t 1).1 b (red_step _ _ _ _ _ _ (h t 0).1 b ih.1 fun r => S_blk0 t 0 r b) fun r => S_blk0 t 1 r b,
      red_step _ _ _ _ _ _ (h t 1).2 b (red_step _ _ _ _ _ _ (h t 0).2 b ih.2 fun r => S_blk1 t 0 r b) fun r => S_blk1 t 1 r b⟩

theorem maxD_eq0 (h : D.Nonneg) (b : Fin 128) (t : ℕ) :
    red (D.maxD t).1 b = (Finset.range (256 * t + b.val + 1)).sup (D.S (qi 0 b)) :=
  red_stepD _ _ _ _ _ _ (h t 0).1 b (max1_eq h b t).1 fun r => S_blk0 t 0 r b

theorem maxD_eq1 (h : D.Nonneg) (b : Fin 128) (t : ℕ) :
    red (D.maxD t).2 b = (Finset.range (256 * t + 128 + b.val + 1)).sup (D.S (qi 1 b)) :=
  red_stepD _ _ _ _ _ _ (h t 1).2 b (red_step _ _ _ _ _ _ (h t 0).2 b (max1_eq h b t).2 fun r => S_blk1 t 0 r b) fun r => S_blk1 t 1 r b

/-! ### The weights -/

theorem prob_wt (q s : EReal) (m : FVec Ideal S8x128 .f32) (x : FVec Ideal S128x128 .f32) (S : ℕ → EReal) (n j : ℕ) (r b : Fin 128)
    (hm : red m b = (Finset.range n).sup S) (hj : j < n) (hx : x (ix2 r b) * (q * s) = S j) :
    prob q (bias m) x s (ix2 r b) = wt S n j := by
  rw [prob_apply, hx, bias_apply, hm]
  exact ofInt_wt S n j hj

/-- The number of keys query `b` of the half `c` of tile `t` sees. -/
abbrev nv (t : ℕ) (c : Fin 2) (b : Fin 128) : ℕ := 256 * t + 128 * c.val + b.val + 1

theorem p0 (h : D.Nonneg) (T t : ℕ) (ht : t < T) (r : Fin 2) (k b : Fin 128) :
    prob (qsc D.q0) (D.mb T).1 (blk (D.sc t) r 0) (D.ks t r.val) (ix2 k b) = wt (D.S (qi 0 b)) (nv T 0 b) (256 * t + 128 * r.val + k.val) :=
  prob_wt _ _ _ _ _ _ _ _ _ (maxD_eq0 h b T) (by show _ < 256 * T + 128 * 0 + b.val + 1; omega) (S_blk0 t r k b)

theorem p1 (h : D.Nonneg) (T t : ℕ) (r : Fin 2) (ht : t < T ∨ (t = T ∧ r = 0)) (k b : Fin 128) :
    prob (qsc D.q1) (D.mb T).2 (blk (D.sc t) r 1) (D.ks t r.val) (ix2 k b) = wt (D.S (qi 1 b)) (nv T 1 b) (256 * t + 128 * r.val + k.val) := by
  refine prob_wt _ _ _ _ _ _ _ _ _ (maxD_eq1 h b T) ?_ (S_blk1 t r k b)
  show _ < 256 * T + 128 * 1 + b.val + 1
  rcases ht with ht | ⟨rfl, rfl⟩
  · omega
  · show 256 * t + 128 * 0 + k.val < _; omega

theorem pD0 (h : D.Nonneg) (T : ℕ) (k b : Fin 128) :
    probD (qsc D.q0) (D.mb T).1 (blk (D.sc T) 0 0) (D.ks T 0) (ix2 k b) = if k.val ≤ b.val then wt (D.S (qi 0 b)) (nv T 0 b) (256 * T + k.val) else 0 := by
  rw [probD_apply]
  split_ifs with hk
  · exact prob_wt _ _ _ _ _ _ _ _ _ (maxD_eq0 h b T) (by show _ < 256 * T + 128 * 0 + b.val + 1; omega) (S_blk0 T 0 k b)
  · rfl

theorem pD1 (h : D.Nonneg) (T : ℕ) (k b : Fin 128) :
    probD (qsc D.q1) (D.mb T).2 (blk (D.sc T) 1 1) (D.ks T 1) (ix2 k b) = if k.val ≤ b.val then wt (D.S (qi 1 b)) (nv T 1 b) (256 * T + 128 + k.val) else 0 := by
  rw [probD_apply]
  split_ifs with hk
  · exact prob_wt _ _ _ _ _ _ _ _ _ (maxD_eq1 h b T) (by show _ < 256 * T + 128 * 1 + b.val + 1; omega) (S_blk1 T 1 k b)
  · rfl

/-! ### The sums -/

theorem tot_zero8 (b : Fin 128) : tot zero8 b = 0 := by
  unfold tot
  have : ∀ a : Fin 8, zero8 (F := Ideal) (ix2 a b) = 0 := fun a => by pointwise [zero8]
  simp [this]

theorem sum2_tot (h : D.Nonneg) (T : ℕ) (b : Fin 128) (t : ℕ) (ht : t ≤ T) :
    tot (D.sum2 (D.mb T) t).1 b = ∑ j ∈ Finset.range (256 * t), wt (D.S (qi 0 b)) (nv T 0 b) j
      ∧ tot (D.sum2 (D.mb T) t).2.1 b = ∑ j ∈ Finset.range (256 * t), wt (D.S (qi 1 b)) (nv T 1 b) j := by
  induction t with
  | zero => exact ⟨tot_zero8 b, tot_zero8 b⟩
  | succ t ih =>
    have ih := ih (by omega)
    rw [show 256 * (t + 1) = 256 * t + 128 + 128 by ring]
    exact ⟨tot_step _ _ _ _ b (tot_step _ _ _ _ b ih.1 fun r => p0 h T t ht 0 r b) fun r => p0 h T t ht 1 r b,
      tot_step _ _ _ _ b (tot_step _ _ _ _ b ih.2 fun r => p1 h T t 0 (.inl ht) r b) fun r => p1 h T t 1 (.inl ht) r b⟩

theorem sumD_tot0 (h : D.Nonneg) (T : ℕ) (b : Fin 128) : tot (D.sumD T).1 b = den (D.S (qi 0 b)) (nv T 0 b) :=
  tot_stepD _ _ _ _ b (sum2_tot h T b T le_rfl).1 fun r => pD0 h T r b

theorem sumD_tot1 (h : D.Nonneg) (T : ℕ) (b : Fin 128) : tot (D.sumD T).2.1 b = den (D.S (qi 1 b)) (nv T 1 b) :=
  tot_stepD _ _ _ _ b (tot_step _ _ _ _ b (sum2_tot h T b T le_rfl).2 fun r => p1 h T T 0 (.inr ⟨rfl, rfl⟩) r b) fun r => pD1 h T r b

theorem V_lo (t : ℕ) (d k : Fin 128) : D.vt t (ix2 d ⟨k.val, by omega⟩) = D.V d (256 * t + k.val) := by
  have e1 : (256 * t + k.val) / 256 = t := by omega
  have e2 : (256 * t + k.val) % 256 = k.val := by omega
  unfold Rd.V
  simp only [e1, e2]

theorem V_hi (t : ℕ) (d k : Fin 128) : D.vt t (ix2 d ⟨128 + k.val, by omega⟩) = D.V d (256 * t + 128 + k.val) := by
  have e1 : (256 * t + 128 + k.val) / 256 = t := by omega
  have e2 : (256 * t + 128 + k.val) % 256 = 128 + k.val := by omega
  unfold Rd.V
  simp only [e1, e2]

/-- One tile of weighted values added: keys `256 t` and on, with the weights of the query's column. -/
theorem pv_step (t : ℕ) (acc : FVec Ideal S128x256 .f32) (x y z w : FVec Ideal S128x128 .f32) (d : Fin 128) (a : Fin 256)
    (plo phi : Fin 128 → EReal)
    (hlo : ∀ r : Fin 128, (if h : a.val < 128 then x (ix2 r ⟨a.val, h⟩) else z (ix2 r ⟨a.val - 128, by omega⟩)) = plo r)
    (hhi : ∀ r : Fin 128, (if h : a.val < 128 then y (ix2 r ⟨a.val, h⟩) else w (ix2 r ⟨a.val - 128, by omega⟩)) = phi r) :
    pv acc (D.vt t) (cat2 x y) (cat2 z w) (ix2 d a)
      = acc (ix2 d a) + ((∑ r : Fin 128, plo r * D.V d (256 * t + r.val)) + ∑ r : Fin 128, phi r * D.V d (256 * t + 128 + r.val)) := by
  rw [pv_apply]
  congr 2
  · exact Finset.sum_congr rfl fun r _ => by rw [hlo, V_lo, mul_comm]
  · exact Finset.sum_congr rfl fun r _ => by rw [hhi, V_hi, mul_comm]

/-- A column of the tile, as the query of a half. -/
theorem col_cases (a : Fin 256) : (∃ b : Fin 128, a = qi 0 b) ∨ ∃ b : Fin 128, a = qi 1 b := by
  by_cases h : a.val < 128
  · exact .inl ⟨⟨a.val, h⟩, Fin.ext (by show a.val = 128 * 0 + a.val; omega)⟩
  · exact .inr ⟨⟨a.val - 128, by omega⟩, Fin.ext (by show a.val = 128 * 1 + (a.val - 128); omega)⟩

theorem pick0 {α : Type} (b : Fin 128) (u v : Fin 128 → α) :
    (if h : (qi 0 b).val < 128 then u ⟨(qi 0 b).val, h⟩ else v ⟨(qi 0 b).val - 128, by omega⟩) = u b := by
  have h : (qi 0 b).val = b.val := by show 128 * 0 + b.val = b.val; omega
  rw [dif_pos (by omega)]
  exact congrArg u (Fin.ext h)

theorem pick1 {α : Type} (b : Fin 128) (u v : Fin 128 → α) :
    (if h : (qi 1 b).val < 128 then u ⟨(qi 1 b).val, h⟩ else v ⟨(qi 1 b).val - 128, by omega⟩) = v b := by
  have h : (qi 1 b).val = 128 + b.val := by show 128 * 1 + b.val = 128 + b.val; omega
  rw [dif_neg (by omega)]
  exact congrArg v (Fin.ext (by show (qi 1 b).val - 128 = b.val; omega))

/-- `pv_step` for a query of the first half. -/
theorem pv_step0 (t : ℕ) (acc : FVec Ideal S128x256 .f32) (x y z w : FVec Ideal S128x128 .f32) (d b : Fin 128)
    (plo phi : Fin 128 → EReal) (hlo : ∀ r, x (ix2 r b) = plo r) (hhi : ∀ r, y (ix2 r b) = phi r) :
    pv acc (D.vt t) (cat2 x y) (cat2 z w) (ix2 d (qi 0 b))
      = acc (ix2 d (qi 0 b)) + ((∑ r : Fin 128, plo r * D.V d (256 * t + r.val)) + ∑ r : Fin 128, phi r * D.V d (256 * t + 128 + r.val)) :=
  pv_step t acc x y z w d _ plo phi (fun r => (pick0 b (fun b => x (ix2 r b)) fun b => z (ix2 r b)).trans (hlo r))
    fun r => (pick0 b (fun b => y (ix2 r b)) fun b => w (ix2 r b)).trans (hhi r)

/-- `pv_step` for a query of the second half. -/
theorem pv_step1 (t : ℕ) (acc : FVec Ideal S128x256 .f32) (x y z w : FVec Ideal S128x128 .f32) (d b : Fin 128)
    (plo phi : Fin 128 → EReal) (hlo : ∀ r, z (ix2 r b) = plo r) (hhi : ∀ r, w (ix2 r b) = phi r) :
    pv acc (D.vt t) (cat2 x y) (cat2 z w) (ix2 d (qi 1 b))
      = acc (ix2 d (qi 1 b)) + ((∑ r : Fin 128, plo r * D.V d (256 * t + r.val)) + ∑ r : Fin 128, phi r * D.V d (256 * t + 128 + r.val)) :=
  pv_step t acc x y z w d _ plo phi (fun r => (pick1 b (fun b => x (ix2 r b)) fun b => z (ix2 r b)).trans (hlo r))
    fun r => (pick1 b (fun b => y (ix2 r b)) fun b => w (ix2 r b)).trans (hhi r)

theorem zeroPV_apply (d : Fin 128) (a : Fin 256) : zeroPV (F := Ideal) (ix2 d a) = 0 := by pointwise [zeroPV]

theorem sum2_pv0 (h : D.Nonneg) (T : ℕ) (d b : Fin 128) (t : ℕ) (ht : t ≤ T) :
    (D.sum2 (D.mb T) t).2.2 (ix2 d (qi 0 b)) = ∑ j ∈ Finset.range (256 * t), wt (D.S (qi 0 b)) (nv T 0 b) j * D.V d j := by
  induction t with
  | zero => exact zeroPV_apply d (qi 0 b)
  | succ t ih =>
    rw [show 256 * (t + 1) = 256 * t + 128 + 128 by ring, sum_add, sum_add, add_assoc, ← ih (by omega)]
    exact pv_step0 t _ _ _ _ _ d b _ _ (fun r => p0 h T t ht 0 r b) fun r => p0 h T t ht 1 r b

theorem sum2_pv1 (h : D.Nonneg) (T : ℕ) (d b : Fin 128) (t : ℕ) (ht : t ≤ T) :
    (D.sum2 (D.mb T) t).2.2 (ix2 d (qi 1 b)) = ∑ j ∈ Finset.range (256 * t), wt (D.S (qi 1 b)) (nv T 1 b) j * D.V d j := by
  induction t with
  | zero => exact zeroPV_apply d (qi 1 b)
  | succ t ih =>
    rw [show 256 * (t + 1) = 256 * t + 128 + 128 by ring, sum_add, sum_add, add_assoc, ← ih (by omega)]
    exact pv_step1 t _ _ _ _ _ d b _ _ (fun r => p1 h T t 0 (.inl ht) r b) fun r => p1 h T t 1 (.inl ht) r b

theorem sumD_pv0 (h : D.Nonneg) (T : ℕ) (d b : Fin 128) :
    (D.sumD T).2.2 (ix2 d (qi 0 b)) = num (D.S (qi 0 b)) (D.V d) (nv T 0 b) := by
  unfold Rd.sumD
  dsimp only
  rw [cat0_eq, pv_step0 T _ _ _ _ _ d b _ _ (fun r => pD0 h T r b) (fun r => show _ = (0 : EReal) from Ideal.ofBits_zero_f32),
    sum2_pv0 h T d b T le_rfl]
  show _ = ∑ j ∈ Finset.range (256 * T + b.val + 1), _
  rw [sum_add_masked _ _ 128 b.val b.isLt]
  simp only [ite_mul, zero_mul, Finset.sum_const_zero, add_zero]

theorem sumD_pv1 (h : D.Nonneg) (T : ℕ) (d b : Fin 128) :
    (D.sumD T).2.2 (ix2 d (qi 1 b)) = num (D.S (qi 1 b)) (D.V d) (nv T 1 b) := by
  unfold Rd.sumD
  dsimp only
  rw [cat0_eq]
  refine (pv_step1 T _ _ _ _ _ d b _ _ (fun r => p1 h T T 0 (.inr ⟨rfl, rfl⟩) r b) (fun r => pD1 h T r b)).trans ?_
  rw [sum2_pv1 h T d b T le_rfl]
  show _ = ∑ j ∈ Finset.range (256 * T + 128 + b.val + 1), _
  rw [sum_add_masked _ _ 128 b.val b.isLt, sum_add, add_assoc]
  congr 2
  exact Finset.sum_congr rfl fun r _ => by rw [ite_mul, zero_mul]

theorem nv_eq (T : ℕ) (c : Fin 2) (b : Fin 128) : 256 * T + (qi c b).val + 1 = nv T c b := by
  show 256 * T + (128 * c.val + b.val) + 1 = 256 * T + 128 * c.val + b.val + 1
  omega

/-! ### The results -/

/-- The output of query `a` of tile `T`. -/
theorem out_eq (h : D.Nonneg) (v40 : EReal) (T : ℕ) (a : Fin 256) (d : Fin 128) :
    D.out v40 T (ix3 0 a d) = outE (D.S a) (D.V d) v40 (256 * T + a.val + 1) := by
  unfold Rd.out
  rw [outTile_apply]
  rcases col_cases a with ⟨b, rfl⟩ | ⟨b, rfl⟩
  · rw [pick0 b (tot _) (tot _), sumD_pv0 h, sumD_tot0 h, nv_eq]
    rfl
  · rw [pick1 b (tot _) (tot _), sumD_pv1 h, sumD_tot1 h, nv_eq]
    rfl

/-- The log-sum-exp of query `a` of tile `T`. -/
theorem lse_eq (h : D.Nonneg) (T : ℕ) (hT : T < 16) (a : Fin 256) :
    D.lse T (ix3 0 0 a) = lseE (D.S a) (256 * T + a.val + 1) := by
  have en : IntOp.addi (Scalar.addi (Scalar.muli (Scf.iv 0#32 1#32 T) 256#32) 1#32) (BitVec.ofNat 32 a.val) = BitVec.ofNat 32 (256 * T + a.val + 1) := by
    interval_cases T <;> (apply BitVec.eq_of_toNat_eq; simp [IntOp.addi, Scalar.addi, Scalar.muli, IntOp.muli, Scf.iv]; omega)
  unfold Rd.lse
  rw [lseTile_apply, en, sitofp_ofNat _ (by omega)]
  rcases col_cases a with ⟨b, rfl⟩ | ⟨b, rfl⟩
  · rw [pick0 b (tot _) (tot _), pick0 b (fun b => Ideal.liftRound Int.ceil (red _ b)) (fun b => Ideal.liftRound Int.ceil (red _ b)), sumD_tot0 h, maxD_eq0 h, nv_eq]
    rfl
  · rw [pick1 b (tot _) (tot _), pick1 b (fun b => Ideal.liftRound Int.ceil (red _ b)) (fun b => Ideal.liftRound Int.ceil (red _ b)), sumD_tot1 h, maxD_eq1 h, nv_eq]
    rfl

end Cert.KernelIdeal.Attn
-- ==== Proof.Kval.lean ====
module

public import proofs.«01_k».proof.Proof.Ktile
public import proofs.«01_k».proof.Proof.Goal
public import proofs.«01_k».proof.Proof.Body

@[expose] public section

set_option maxRecDepth 16384

noncomputable section

/-! What one grid point computes of a query, over the blocks it reads. -/
namespace Cert.KernelIdeal.Attn

open Idealize.ShloMosaic Cert.KernelIdeal.Gen
open Idealize.ShloMosaic.VecWindow (window put)
open Cert.Pow Cert.Att

variable (X1 : Vec Ideal S4608 .f32) (X2 : Vec Ideal S1536 .f32) (X3 : Vec Ideal S48 .f32) (X4 : Vec Ideal S1x4096x384 .fp8e4m3)
  (X5 X6 : Vec Ideal S1x4096x128 .fp8e4m3)

theorem word_apply {N : ℕ} (X : (⟨1, ![N]⟩ : Shape).Idx → EReal) (hN : 0 < N) (n : ℕ) (h : n < N) : word X hN n = X (ix1 ⟨n, h⟩) := by
  refine congrArg X (funext fun a => ?_)
  match a with
  | ⟨0, _⟩ => exact Fin.ext (by show min n (N - 1) = n; omega)

theorem word_nonneg {N : ℕ} (X : (⟨1, ![N]⟩ : Shape).Idx → EReal) (hN : 0 < N) (n : ℕ) (h : ∀ y, 0 ≤ X y) : 0 ≤ word X hN n := h _

theorem kTile_apply (X : Vec Ideal S1x4096x128 .fp8e4m3) (t : ℕ) (ht : t < 16) (r : Fin 256) (d : Fin 128) :
    kTile X t (ix3 0 r d) = X (ix3 0 ⟨256 * t + r.val, by omega⟩ d) := by
  refine congrArg X (funext fun a => ?_)
  match a with
  | ⟨0, _⟩ => exact Fin.ext ((Rect.emb_apply _ _ _).trans (by show 0 + 1 * 0 = 0; omega))
  | ⟨1, _⟩ => exact Fin.ext ((Rect.emb_apply _ _ _).trans (by show 256 * min t 15 + 1 * r.val = 256 * t + r.val; omega))
  | ⟨2, _⟩ => exact Fin.ext ((Rect.emb_apply _ _ _).trans (by show 0 + 1 * d.val = d.val; omega))

theorem qTile_apply (t : ℕ) (ht : t < 16) (g : Fin 3) (r : Fin 256) (d : Fin 128) :
    qTile X4 t g.val (ix3 0 r d) = X4 (ix3 0 ⟨256 * t + r.val, by omega⟩ ⟨g.val * 128 + d.val, by omega⟩) := by
  refine congrArg X4 (funext fun a => ?_)
  match a with
  | ⟨0, _⟩ => exact Fin.ext ((Rect.emb_apply _ _ _).trans (by show 0 + 1 * 0 = 0; omega))
  | ⟨1, _⟩ => exact Fin.ext ((Rect.emb_apply _ _ _).trans (by show 256 * min t 15 + 1 * r.val = 256 * t + r.val; omega))
  | ⟨2, _⟩ => exact Fin.ext ((Rect.emb_apply _ _ _).trans (by show 128 * min g.val 2 + 1 * d.val = g.val * 128 + d.val; omega))

theorem wq_lt (n : Fin 48) (t j : ℕ) (ht : t < 16) (hj : j < 2) (g : Fin 3) : wq n.val t j g.val < 4608 := by unfold wq; omega
theorem wk_lt (n : Fin 48) (t j : ℕ) (ht : t < 16) (hj : j < 2) : wk n.val t j < 1536 := by unfold wk; omega

theorem nonneg_rd (h1 : ∀ y, 0 ≤ X1 y) (h2 : ∀ y, 0 ≤ X2 y) (n t g : ℕ) : (rd X1 X2 X4 X5 X6 n t g).Nonneg := fun _ _ =>
  ⟨EReal.mul_nonneg (EReal.mul_nonneg (word_nonneg X1 (by decide) _ h1) c_scale) (word_nonneg X2 (by decide) _ h2),
    EReal.mul_nonneg (EReal.mul_nonneg (word_nonneg X1 (by decide) _ h1) c_scale) (word_nonneg X2 (by decide) _ h2)⟩

/-- The score of query `s` of head `g` against key `j`, over a grid point's blocks. -/
def scB (n : Fin 48) (g : Fin 3) (s j : Fin 4096) : EReal :=
  (∑ d : Fin 128, X4 (ix3 0 s ⟨g.val * 128 + d.val, by omega⟩) * X5 (ix3 0 j d))
    * X1 (ix1 ⟨(n.val / 8 * 32 + s.val / 128) * 24 + (n.val % 8 * 3 + g.val), by omega⟩)
    * X2 (ix1 ⟨(n.val / 8 * 32 + j.val / 128) * 8 + n.val % 8, by omega⟩) * Ideal.ofBits .f32 0x3DB504F3#32

theorem mul_scales (a b c d : EReal) : a * (b * d * c) = a * b * c * d := by
  rw [mul_assoc a b c, mul_assoc a (b * c) d, mul_right_comm b d c]

theorem S_rd (n : Fin 48) (g : Fin 3) (s j : Fin 4096) :
    (rd X1 X2 X4 X5 X6 n.val (s.val / 256) g.val).S ⟨s.val % 256, Nat.mod_lt _ (by decide)⟩ j.val = scB X1 X2 X4 X5 n g s j := by
  have hs := s.isLt
  have hj := j.isLt
  have e1 : (rd X1 X2 X4 X5 X6 n.val (s.val / 256) g.val).qa (s.val % 256)
      = X1 (ix1 ⟨(n.val / 8 * 32 + s.val / 128) * 24 + (n.val % 8 * 3 + g.val), by omega⟩) * Ideal.ofBits .f32 0x3DB504F3#32 := by
    unfold Rd.qa
    by_cases h : s.val % 256 < 128
    · rw [if_pos h]
      refine congrArg (· * Ideal.ofBits .f32 0x3DB504F3#32) ((word_apply X1 (by decide) _ (wq_lt n _ 0 (by omega) (by omega) g)).trans (congrArg X1 (congrArg ix1 (Fin.ext ?_))))
      show wq n.val (s.val / 256) 0 g.val = _
      unfold wq
      show _ = (n.val / 8 * 32 + s.val / 128) * 24 + (n.val % 8 * 3 + g.val)
      omega
    · rw [if_neg h]
      refine congrArg (· * Ideal.ofBits .f32 0x3DB504F3#32) ((word_apply X1 (by decide) _ (wq_lt n _ 1 (by omega) (by omega) g)).trans (congrArg X1 (congrArg ix1 (Fin.ext ?_))))
      show wq n.val (s.val / 256) 1 g.val = _
      unfold wq
      show _ = (n.val / 8 * 32 + s.val / 128) * 24 + (n.val % 8 * 3 + g.val)
      omega
  have e2 : (rd X1 X2 X4 X5 X6 n.val (s.val / 256) g.val).ks (j.val / 256) (j.val % 256 / 128)
      = X2 (ix1 ⟨(n.val / 8 * 32 + j.val / 128) * 8 + n.val % 8, by omega⟩) := by
    refine (word_apply X2 (by decide) _ (wk_lt n _ _ (by omega) (by omega))).trans (congrArg X2 (congrArg ix1 (Fin.ext ?_)))
    show wk n.val (j.val / 256) (j.val % 256 / 128) = (n.val / 8 * 32 + j.val / 128) * 8 + n.val % 8
    unfold wk
    omega
  have e3 : (rd X1 X2 X4 X5 X6 n.val (s.val / 256) g.val).sc (j.val / 256) (ix2 ⟨j.val % 256, Nat.mod_lt _ (by decide)⟩ ⟨s.val % 256, Nat.mod_lt _ (by decide)⟩)
      = ∑ d : Fin 128, X4 (ix3 0 s ⟨g.val * 128 + d.val, by omega⟩) * X5 (ix3 0 j d) := by
    refine (scores_apply _ _ _ _).trans (Finset.sum_congr rfl fun d _ => ?_)
    refine (mul_comm _ _).trans (congrArg₂ (· * ·) ((qTile_apply X4 _ (by omega) g _ d).trans (congrArg X4 ?_)) ((kTile_apply X5 _ (by omega) _ d).trans (congrArg X5 ?_)))
    · exact congrArg (fun i => ix3 0 i _) (Fin.ext (by show 256 * (s.val / 256) + s.val % 256 = s.val; omega))
    · exact congrArg (fun i => ix3 0 i _) (Fin.ext (by show 256 * (j.val / 256) + j.val % 256 = j.val; omega))
  unfold Rd.S scB
  simp only [e1, e2, e3]
  exact mul_scales _ _ _ _

theorem V_rd (n t g : ℕ) (d : Fin 128) (j : Fin 4096) : (rd X1 X2 X4 X5 X6 n t g).V d j.val = X6 (ix3 0 j d) := by
  have hj := j.isLt
  refine (turn_apply _ _ _).trans ((kTile_apply X6 _ (by omega) _ d).trans (congrArg X6 ?_))
  exact congrArg (fun i => ix3 0 i _) (Fin.ext (by show 256 * (j.val / 256) + j.val % 256 = j.val; omega))

variable (h1 : ∀ y, 0 ≤ X1 y) (h2 : ∀ y, 0 ≤ X2 y)
include h1 h2

theorem outArr_apply (n : Fin 48) (s : Fin 4096) (g : Fin 3) (d : Fin 128) :
    outArr X1 X2 X3 X4 X5 X6 n.val (ix3 0 s ⟨g.val * 128 + d.val, by omega⟩)
      = outE (onNat (scB X1 X2 X4 X5 n g s)) (onNat fun j => X6 (ix3 0 j d)) (X3 (ix1 n)) (s.val + 1) := by
  have hs := s.isLt
  have eg : (g.val * 128 + d.val) / 128 = g.val := by omega
  have ed : (⟨(g.val * 128 + d.val) % 128, Nat.mod_lt _ (by decide)⟩ : Fin 128) = d := Fin.ext (by show (g.val * 128 + d.val) % 128 = d.val; omega)
  have en : 256 * (s.val / 256) + s.val % 256 + 1 = s.val + 1 := by omega
  have e := out_eq (nonneg_rd X1 X2 X4 X5 X6 h1 h2 n.val (s.val / 256) g.val) (word X3 (by decide) n.val) (s.val / 256)
    ⟨s.val % 256, Nat.mod_lt _ (by decide)⟩ d
  have e' : outArr X1 X2 X3 X4 X5 X6 n.val (ix3 0 s ⟨g.val * 128 + d.val, by omega⟩)
      = (rd X1 X2 X4 X5 X6 n.val (s.val / 256) g.val).out (word X3 (by decide) n.val) (s.val / 256) (ix3 0 ⟨s.val % 256, Nat.mod_lt _ (by decide)⟩ d) := by
    show (rd X1 X2 X4 X5 X6 n.val (s.val / 256) ((g.val * 128 + d.val) / 128)).out (word X3 (by decide) n.val) (s.val / 256) _ = _
    rw [eg]
    refine congrArg _ (funext fun a => ?_)
    match a with
    | ⟨0, _⟩ => rfl
    | ⟨1, _⟩ => rfl
    | ⟨2, _⟩ => exact ed
  rw [e', e, word_apply X3 (by decide) _ n.isLt]
  show outE _ _ _ (256 * (s.val / 256) + s.val % 256 + 1) = _
  rw [en]
  refine outE_congr _ (fun j hj => ?_) (fun j hj => ?_)
  · rw [onNat, dif_pos (by omega)]
    exact S_rd X1 X2 X4 X5 X6 n g s ⟨j, by omega⟩
  · rw [onNat, dif_pos (by omega)]
    exact V_rd X1 X2 X4 X5 X6 _ _ _ d ⟨j, by omega⟩

theorem lseArr_apply (n : Fin 48) (s : Fin 4096) (g : Fin 3) :
    lseArr X1 X2 X4 X5 X6 n.val (ix3 0 g s) = lseE (onNat (scB X1 X2 X4 X5 n g s)) (s.val + 1) := by
  have hs := s.isLt
  have en : 256 * (s.val / 256) + s.val % 256 + 1 = s.val + 1 := by omega
  have e := lse_eq (nonneg_rd X1 X2 X4 X5 X6 h1 h2 n.val (s.val / 256) g.val) (s.val / 256) (by omega)
    ⟨s.val % 256, Nat.mod_lt _ (by decide)⟩
  have e' : lseArr X1 X2 X4 X5 X6 n.val (ix3 0 g s)
      = (rd X1 X2 X4 X5 X6 n.val (s.val / 256) g.val).lse (s.val / 256) (ix3 0 0 ⟨s.val % 256, Nat.mod_lt _ (by decide)⟩) := by
    show (rd X1 X2 X4 X5 X6 n.val (s.val / 256) g.val).lse (s.val / 256) _ = _
    refine congrArg ((rd X1 X2 X4 X5 X6 n.val (s.val / 256) g.val).lse (s.val / 256)) (funext fun a => ?_)
    match a with
    | ⟨0, _⟩ => rfl
    | ⟨1, _⟩ => rfl
    | ⟨2, _⟩ => rfl
  rw [e', e]
  show lseE _ (256 * (s.val / 256) + s.val % 256 + 1) = _
  rw [en]
  refine lseE_congr (fun j hj => ?_)
  rw [onNat, dif_pos (by omega)]
  exact S_rd X1 X2 X4 X5 X6 n g s ⟨j, by omega⟩

end Cert.KernelIdeal.Attn
-- ==== Proof.Kres.lean ====
module

public import proofs.«01_k».proof.Proof.Kgeo
public import proofs.«01_k».proof.Proof.Kval

@[expose] public section

set_option maxRecDepth 16384

noncomputable section

/-! The kernel's two results, entry by entry. -/
namespace Cert.KernelIdeal.Attn

open Idealize.ShloMosaic Idealize.ShloMosaic.TcCoe Idealize.SL.Sem Cert.KernelIdeal Cert.KernelIdeal.Gen
open Idealize.ShloMosaic.Pipeline (Dat)
open Cert.Att

variable (m : (ℓ : Loc nD τ sig) → Buf (Elt Ideal) ℓ) (c : Dev nD)

/-- The argument arrays. -/
abbrev aQ : FVec Ideal S6x4096x24x128 .fp8e4m3 := m ((c : Thread nD τ).loc main_arg0)
abbrev aQs : FVec Ideal S6x32x24 .f32 := m ((c : Thread nD τ).loc main_arg1)
abbrev aK : FVec Ideal S6x4096x8x128 .fp8e4m3 := m ((c : Thread nD τ).loc main_arg2)
abbrev aKs : FVec Ideal S6x32x8 .f32 := m ((c : Thread nD τ).loc main_arg3)
abbrev aV : FVec Ideal S6x4096x8x128 .fp8e4m3 := m ((c : Thread nD τ).loc main_arg4)
abbrev aVs : FVec Ideal S6x8 .f32 := m ((c : Thread nD τ).loc main_arg5)

/-- The batch of a grid point. -/
def bt (n : Fin 48) : Fin 6 := ⟨n.val / 8, by omega⟩
/-- Its head of keys and values. -/
def kh (n : Fin 48) : Fin 8 := ⟨n.val % 8, by omega⟩
/-- Its `g`-th head of queries. -/
def qh (n : Fin 48) (g : Fin 3) : Fin 24 := ⟨n.val % 8 * 3 + g.val, by omega⟩

theorem kv_qh (n : Fin 48) (g : Fin 3) : kv (qh n g) = kh n := Fin.ext (by show (n.val % 8 * 3 + g.val) / 3 = n.val % 8; omega)

theorem rd0 (n : Fin 48) (g : Fin 3) (s : Fin 4096) (t : Fin cfg0.N) :
    iblk m c 0 t (ix1 ⟨(n.val / 8 * 32 + s.val / 128) * 24 + (n.val % 8 * 3 + g.val), by omega⟩) = aQs m c (ix3 (bt n) (row s) (qh n g)) :=
  (congrFun (iblk0 m c t) _).trans (V_v0 m c (bt n) (row s) (qh n g))

theorem rd1 (n : Fin 48) (s : Fin 4096) (t : Fin cfg0.N) :
    iblk m c 1 t (ix1 ⟨(n.val / 8 * 32 + s.val / 128) * 8 + n.val % 8, by omega⟩) = aKs m c (ix3 (bt n) (row s) (kh n)) :=
  (congrFun (iblk1 m c t) _).trans (V_v1 m c (bt n) (row s) (kh n))

theorem rd2 (n : Fin 48) (t : Fin cfg0.N) : iblk m c 2 t (ix1 n) = aVs m c (ix2 (bt n) (kh n)) := by
  refine (congrFun (iblk2 m c t) _).trans (Eq.trans (congrArg (V m c main_v2) (congrArg ix1 (Fin.ext ?_))) (V_v2 m c (bt n) (kh n)))
  show n.val = n.val / 8 * 8 + n.val % 8
  omega

theorem rd3 (n : Fin 48) (g : Fin 3) (s : Fin 4096) (d : Fin 128) (t : Fin cfg0.N) (hn : (grid0.coords t 0).val = n.val) :
    iblk m c 3 t (ix3 0 s ⟨g.val * 128 + d.val, by omega⟩) = aQ m c (ix4 (bt n) s (qh n g) d) := by
  refine (iblk3 m c t n hn s _).trans (Eq.trans (congrArg (V m c main_v3) (congrArg (ix3 (bt n) s) (Fin.ext ?_))) (V_v3 m c (bt n) s (qh n g) d))
  show n.val % 8 * 384 + (g.val * 128 + d.val) = (n.val % 8 * 3 + g.val) * 128 + d.val
  omega

theorem rd4 (n : Fin 48) (s : Fin 4096) (d : Fin 128) (t : Fin cfg0.N) (hn : (grid0.coords t 0).val = n.val) :
    iblk m c 4 t (ix3 0 s d) = aK m c (ix4 (bt n) s (kh n) d) :=
  (iblk4 m c t n hn s d).trans (V_v4 m c (bt n) s (kh n) d)

theorem rd5 (n : Fin 48) (s : Fin 4096) (d : Fin 128) (t : Fin cfg0.N) (hn : (grid0.coords t 0).val = n.val) :
    iblk m c 5 t (ix3 0 s d) = aV m c (ix4 (bt n) s (kh n) d) :=
  (iblk5 m c t n hn s d).trans (V_v5 m c (bt n) s (kh n) d)

/-- The scores over a grid point's blocks are the scores over the arguments. -/
theorem scB_eq (n : Fin 48) (g : Fin 3) (s j : Fin 4096) (t : Fin cfg0.N) (hn : (grid0.coords t 0).val = n.val) :
    scB (iblk m c 0 t) (iblk m c 1 t) (iblk m c 3 t) (iblk m c 4 t) n g s j = score (aQ m c) (aQs m c) (aK m c) (aKs m c) (bt n) (qh n g) s j := by
  unfold scB score
  rw [kv_qh]
  exact congrArg (· * Ideal.ofBits .f32 0x3DB504F3#32) (congrArg₂ (· * ·) (congrArg₂ (· * ·)
    (Finset.sum_congr rfl fun d _ => congrArg₂ (· * ·) (rd3 m c n g s d t hn) (rd4 m c n j d t hn)) (rd0 m c n g s t)) (rd1 m c n j t))

variable (hq : ∀ y, 0 ≤ aQs m c y) (hk : ∀ y, 0 ≤ aKs m c y)
include hq hk

theorem pos0 (t : Fin cfg0.N) (y : S4608.Idx) : @LE.le EReal _ 0 (iblk m c 0 t y) := by
  have ey : y = ix1 (y 0) := by blk_ext
  have e := (congrFun (iblk0 m c t) y).trans ((congrArg (V m c main_v0) ey).trans (V_v0_any m c (y 0)))
  exact e ▸ hq _

theorem pos1 (t : Fin cfg0.N) (y : S1536.Idx) : @LE.le EReal _ 0 (iblk m c 1 t y) := by
  have ey : y = ix1 (y 0) := by blk_ext
  have e := (congrFun (iblk1 m c t) y).trans ((congrArg (V m c main_v1) ey).trans (V_v1_any m c (y 0)))
  exact e ▸ hk _

theorem point6 (n : Fin 48) (g : Fin 3) (s : Fin 4096) (d : Fin 128) (t : Fin cfg0.N) (hn : (grid0.coords t 0).val = n.val) :
    out6 m c t (ix3 0 s ⟨g.val * 128 + d.val, by omega⟩) = outAt (aQ m c) (aQs m c) (aK m c) (aKs m c) (aV m c) (aVs m c) (bt n) s (qh n g) d := by
  unfold out6
  rw [hn]
  refine (outArr_apply _ _ _ _ _ _ (pos0 m c hq hk t) (pos1 m c hq hk t) n s g d).trans ?_
  unfold outAt
  rw [kv_qh]
  exact (congrArg₂ (fun S v => outE S v (iblk m c 2 t (ix1 n)) (s.val + 1)) (congrArg onNat (funext fun j => scB_eq m c n g s j t hn))
    (congrArg onNat (funext fun j => rd5 m c n j d t hn))).trans (congrArg (fun w => outE _ _ w (s.val + 1)) (rd2 m c n t))

theorem point7 (n : Fin 48) (g : Fin 3) (s : Fin 4096) (t : Fin cfg0.N) (hn : (grid0.coords t 0).val = n.val) :
    out7 m c t (ix3 0 g s) = lseAt (aQ m c) (aQs m c) (aK m c) (aKs m c) (bt n) s (qh n g) := by
  unfold out7
  rw [hn]
  refine (lseArr_apply _ _ _ _ _ (pos0 m c hq hk t) (pos1 m c hq hk t) n s g).trans ?_
  exact congrArg (fun S => lseE S (s.val + 1)) (congrArg onNat (funext fun j => scB_eq m c n g s j t hn))

theorem out_res (b : Fin 6) (s : Fin 4096) (h : Fin 24) (d : Fin 128) :
    Pipeline.afterTail₀ cfgs (dats m) 0 (V0 m) [hostOps1] c main_v7 (ix4 b s h d)
      = outAt (aQ m c) (aQs m c) (aK m c) (aKs m c) (aV m c) (aVs m c) b s h d := by
  refine (W_v7 m c b s h d).trans ((congrFun (final6 m c (fun y => outAt (aQ m c) (aQs m c) (aK m c) (aKs m c) (aV m c) (aVs m c) (y 0) (y 1)
    (⟨(y 2).val / 128, by have : (y 2).val < 3072 := (y 2).isLt; omega⟩ : Fin 24) (⟨(y 2).val % 128, Nat.mod_lt _ (by decide)⟩ : Fin 128))
    fun n s e t hn => ?_) _).trans ?_)
  · have he := e.isLt
    have e1 : e = ⟨(⟨e.val / 128, by omega⟩ : Fin 3).val * 128 + (⟨e.val % 128, Nat.mod_lt _ (by decide)⟩ : Fin 128).val, by show e.val / 128 * 128 + e.val % 128 < 384; omega⟩ :=
      Fin.ext (by show e.val = e.val / 128 * 128 + e.val % 128; omega)
    refine (congrArg (fun e => out6 m c t (ix3 0 s e)) e1).trans ((point6 m c hq hk n _ s _ t hn).trans ?_)
    exact congrArg₂ (outAt (aQ m c) (aQs m c) (aK m c) (aKs m c) (aV m c) (aVs m c) (bt n) s)
      (Fin.ext (by show n.val % 8 * 3 + e.val / 128 = (n.val % 8 * 384 + e.val) / 128; omega))
      (Fin.ext (by show e.val % 128 = (n.val % 8 * 384 + e.val) % 128; omega))
  · exact congrArg₂ (outAt (aQ m c) (aQs m c) (aK m c) (aKs m c) (aV m c) (aVs m c) b s)
      (Fin.ext (by show (h.val * 128 + d.val) / 128 = h.val; omega)) (Fin.ext (by show (h.val * 128 + d.val) % 128 = d.val; omega))

theorem lse_res (b : Fin 6) (s : Fin 4096) (h : Fin 24) :
    Pipeline.afterTail₀ cfgs (dats m) 0 (V0 m) [hostOps1] c main_v9 (ix3 b s h) = lseAt (aQ m c) (aQs m c) (aK m c) (aKs m c) b s h := by
  refine (W_v9 m c b s h).trans ((congrFun (final7 m c (fun y => lseAt (aQ m c) (aQs m c) (aK m c) (aKs m c) (bt (y 0)) (y 2) (qh (y 0) (y 1)))
    fun n g s t hn => point7 m c hq hk n g s t hn) _).trans ?_)
  exact congrArg₂ (fun b h => lseAt (aQ m c) (aQs m c) (aK m c) (aKs m c) b s h)
    (Fin.ext (by show (b.val * 8 + h.val / 3) / 8 = b.val; omega)) (Fin.ext (by show (b.val * 8 + h.val / 3) % 8 * 3 + h.val % 3 = h.val; omega))

end Cert.KernelIdeal.Attn
-- ==== Proof.Rval.lean ====
module

public import proofs.«01_k».proof.Proof.Goal
public import proofs.«01_k».proof.Proof.Gen.ReferenceIdeal.Frame
public import Idealize.ShloMosaic.Lib.Pipeline.ValueKit

@[expose] public section

set_option maxRecDepth 16384

noncomputable section

/-! What the reference computes of one query of one head: `Att.lean`'s attention over the keys up to its own. -/
namespace Cert.ReferenceIdeal.Attn

open Idealize.ShloMosaic Cert.ReferenceIdeal Cert.ReferenceIdeal.Gen
open Cert.Pow Cert.Att

variable (x0 : Vec Ideal S144x4096x128 .fp8e4m3) (x1 : Vec Ideal S144x4096x1 .f32) (x2 : Vec Ideal S144x4096x128 .fp8e4m3)
  (x3 : Vec Ideal S144x1x4096 .f32) (x4 : Vec Ideal S144x4096x128 .fp8e4m3) (x5 : Vec Ideal S144x1x1 .f32)

/-- The score of query `i` against key `j` of head `h`, scaled. -/
def sE (h : Fin 144) (i j : Fin 4096) : EReal :=
  (∑ d : Fin 128, x0 (ix3 h i d) * x2 (ix3 h j d)) * x1 (ix3 h i 0) * x3 (ix3 h 0 j) * Ideal.ofBits .f32 0x3DB504F3#32

theorem pay2_apply (h : Fin 144) (i j : Fin 4096) : k0_pay2 x0 x2 x1 x3 (ix3 h i j) = sE x0 x1 x2 x3 h i j := by
  unfold sE
  pointwise [k0_pay2]

theorem sup_range (f : Fin 4096 → EReal) (n : Fin 4096) :
    ((Finset.univ : Finset (Fin 4096)).sup fun j => if j.val ≤ n.val then f j else ⊥) = (Finset.range (n.val + 1)).sup (onNat f) := by
  refine eq_of_forall_ge_iff fun z => ?_
  simp only [Finset.sup_le_iff, Finset.mem_range, Finset.mem_univ, true_implies]
  constructor
  · intro H j hj
    have := H ⟨j, by omega⟩
    rw [if_pos (by show j ≤ n.val; omega)] at this
    rwa [onNat, dif_pos (by omega)]
  · intro H j
    split_ifs with hj
    · have := H j.val (by omega)
      rwa [onNat, dif_pos j.isLt] at this
    · exact bot_le

theorem sum_range_le (f : Fin 4096 → EReal) (n : Fin 4096) :
    (∑ j : Fin 4096, if j.val ≤ n.val then f j else 0) = ∑ j ∈ Finset.range (n.val + 1), onNat f j := by
  have e : ∀ j : Fin 4096, (if j.val ≤ n.val then f j else 0) = (fun j : ℕ => if j ≤ n.val then onNat f j else 0) j.val := fun j => by
    show _ = if j.val ≤ n.val then onNat f j.val else 0
    rw [onNat, dif_pos j.isLt]
  rw [Finset.sum_congr rfl fun j _ => e j, Fin.sum_univ_eq_sum_range (fun j : ℕ => if j ≤ n.val then onNat f j else 0) 4096, ← Finset.sum_filter]
  refine Finset.sum_congr ?_ fun _ _ => rfl
  ext j
  simp only [Finset.mem_range, Finset.mem_filter]
  omega

/-- The scores of a query, on the natural numbers. -/
abbrev sN (h : Fin 144) (i : Fin 4096) : ℕ → EReal := onNat fun j => sE x0 x1 x2 x3 h i j

/-- The maximum along the last of three axes. -/
theorem redmax_last {A B C : ℕ} (w : FVec Ideal ⟨3, ![A, B, C]⟩ .f32) (h : (⟨3, ![A, B, C]⟩ : Shape).Reduces [2] ⟨2, ![A, B]⟩)
    (hφ : FKind.Formats .f32) (hacc : 0xFF800000#32 = FKind.maximumf.neutral .f32 hφ) (a : Fin A) (b : Fin B) :
    multiReduction .maximumf [2] ⟨2, ![A, B]⟩ w 0xFF800000#32 h hφ hacc (ix2 a b) = (Finset.univ : Finset (Fin C)).sup fun j => w (ix3 a b j) := by
  rw [Ideal.multiReduction_maximumf_single]
  show (Finset.univ : Finset (Fin C)).fold max (Ideal.ofBits .f32 0xFF800000#32) (fun j => w (h.lift (ix2 a b) j)) = _
  rw [c_ninf]
  show (Finset.univ : Finset (Fin C)).sup (fun j => w (h.lift (ix2 a b) j)) = _
  refine Finset.sup_congr rfl fun j _ => congrArg w (funext fun c => ?_)
  match c with
  | ⟨0, _⟩ => exact Fin.ext rfl
  | ⟨1, _⟩ => exact Fin.ext rfl
  | ⟨2, _⟩ => exact Fin.ext rfl

/-- The masked scores. -/
def masked : FVec Ideal S144x4096x4096 .f32 :=
  select k0_pay3 (k0_pay2 x0 x2 x1 x3) (broadcast S144x4096x4096 (Scalar.ofBits .f32 0xFF800000#32))

theorem masked_apply (h : Fin 144) (i j : Fin 4096) :
    masked x0 x1 x2 x3 (ix3 h i j) = if j.val ≤ i.val then sE x0 x1 x2 x3 h i j else ⊥ := by
  have e : masked x0 x1 x2 x3 (ix3 h i j) = Scalar.select (IntOp.cmpi CmpIPredicate.sle (BitVec.ofNat 32 j.val) (BitVec.ofNat 32 i.val))
      (k0_pay2 x0 x2 x1 x3 (ix3 h i j)) (Ideal.ofBits .f32 0xFF800000#32) := by
    pointwise [masked, k0_pay3]
  rw [e, select_sle _ _ (by omega) (by omega), pay2_apply, c_ninf]

theorem ceil_col (w : FVec Ideal S144x4096 .f32) (h : Fin 144) (i : Fin 4096) :
    ceil (shapeCast S144x4096x1 w shapeCasts_S144x4096_S144x4096x1) (ix3 h i 0) = Ideal.liftRound Int.ceil (w (ix2 h i)) := by
  pointwise []

theorem pay4_apply (h : Fin 144) (i : Fin 4096) : k0_pay4 x0 x2 x1 x3 (ix3 h i 0) = mxI (sN x0 x1 x2 x3 h i) (i.val + 1) := by
  refine (ceil_col _ h i).trans ?_
  unfold mxI
  rw [← sup_range]
  refine congrArg _ ((redmax_last (masked x0 x1 x2 x3) _ _ _ h i).trans ?_)
  exact Finset.sup_congr rfl fun j _ => masked_apply x0 x1 x2 x3 h i j

/-- The power of two by a straight line, as the reference writes it. -/
theorem lin_eq (x : EReal) :
    FloatOps.exp2 (F := Ideal) (φ := .f32) (max (max (Ideal.liftRound Int.floor x) (Ideal.ofBits .f32 0xC2FE0000#32)) (Ideal.ofBits .f32 0xC2FC0000#32))
      * ((if Ideal.ofBits .f32 0xC2FC0000#32 ≤ max (Ideal.liftRound Int.floor x) (Ideal.ofBits .f32 0xC2FE0000#32) then 1 else 0)
        + Ideal.liftRound Ideal.roundHalfEven
            (max (x - max (Ideal.liftRound Int.floor x) (Ideal.ofBits .f32 0xC2FE0000#32)) 0 * Ideal.ofBits .f32 0x4B000000#32)
          * Ideal.ofBits .f32 0x34000000#32) = lin x := by
  simp only [c_n127, c_n126, c_two23, c_inv23]
  rfl

/-- The weights, masked. -/
theorem pay8_apply (h : Fin 144) (i j : Fin 4096) :
    k0_pay8 (F := Ideal) k0_pay3 (k0_pay6 x0 x2 x1 x3) (k0_pay7 x0 x2 x1 x3) (ix3 h i j)
      = if j.val ≤ i.val then wt (sN x0 x1 x2 x3 h i) (i.val + 1) j.val else 0 := by
  pointwise [k0_pay8, k0_pay3, k0_pay7, k0_pay6, k0_pay5]
  simp only [pay2_apply, pay4_apply, select_sle j.val i.val (by omega) (by omega)]
  by_cases hj : j.val ≤ i.val
  · simp only [if_pos hj]
    rw [lin_eq]
    unfold wt
    rw [show sN x0 x1 x2 x3 h i j.val = sE x0 x1 x2 x3 h i j from dif_pos j.isLt]
  · simp only [if_neg hj]

theorem pay9_eq (w u : Vec Ideal S144x4096x4096 .f32) (p : IVec S144x4096x4096 1) (h : Fin 144) (i : Fin 4096) :
    k0_pay9 (F := Ideal) p w u (ix3 h i 0) = ∑ j : Fin 4096, k0_pay8 (F := Ideal) p w u (ix3 h i j) := by
  pointwise [k0_pay9]

theorem pay10_eq (w u : Vec Ideal S144x4096x4096 .f32) (p : IVec S144x4096x4096 1) (h : Fin 144) (i : Fin 4096) (d : Fin 128) :
    k0_pay10 (F := Ideal) (k0_pay1 x4) p w u x5 (ix3 h i d)
      = (∑ j : Fin 4096, k0_pay8 (F := Ideal) p w u (ix3 h i j) * x4 (ix3 h j d)) * Ideal.div (x5 (ix3 h 0 0)) (k0_pay9 (F := Ideal) p w u (ix3 h i 0)) := by
  pointwise [k0_pay10, k0_pay1]

theorem pay11_eq (w u : Vec Ideal S144x4096x4096 .f32) (v : Vec Ideal S144x4096x1 .f32) (p : IVec S144x4096x4096 1) (h : Fin 144) (i : Fin 4096) :
    k0_pay11 (F := Ideal) p v w u (ix3 h i 0)
      = v (ix3 h i 0) + Ideal.log (k0_pay9 (F := Ideal) p w u (ix3 h i 0)) * Ideal.ofBits .f32 0x3FB8AA3B#32
        - Ideal.log (FloatOps.sitofp (F := Ideal) .f32 (IntOp.addi (BitVec.ofNat 32 i.val) 1#32)) * Ideal.ofBits .f32 0x3FB8AA3B#32 := by
  pointwise [k0_pay11]

theorem pay9_apply (h : Fin 144) (i : Fin 4096) :
    k0_pay9 (F := Ideal) k0_pay3 (k0_pay6 x0 x2 x1 x3) (k0_pay7 x0 x2 x1 x3) (ix3 h i 0) = den (sN x0 x1 x2 x3 h i) (i.val + 1) := by
  rw [pay9_eq, Finset.sum_congr rfl fun j _ => pay8_apply x0 x1 x2 x3 h i j,
    sum_range_le (fun j => wt (sN x0 x1 x2 x3 h i) (i.val + 1) j.val) i]
  exact Finset.sum_congr rfl fun j hj => dif_pos (by have := Finset.mem_range.1 hj; omega)

theorem pay10_apply (h : Fin 144) (i : Fin 4096) (d : Fin 128) :
    k0_pay10 (F := Ideal) (k0_pay1 x4) k0_pay3 (k0_pay6 x0 x2 x1 x3) (k0_pay7 x0 x2 x1 x3) x5 (ix3 h i d)
      = outE (sN x0 x1 x2 x3 h i) (onNat fun j => x4 (ix3 h j d)) (x5 (ix3 h 0 0)) (i.val + 1) := by
  rw [pay10_eq, pay9_apply]
  unfold outE num
  refine congrArg (· * _) ?_
  rw [Finset.sum_congr rfl fun j _ => by rw [pay8_apply x0 x1 x2 x3 h i j, ite_mul, zero_mul],
    sum_range_le (fun j => wt (sN x0 x1 x2 x3 h i) (i.val + 1) j.val * x4 (ix3 h j d)) i]
  refine Finset.sum_congr rfl fun j hj => ?_
  have hj : j < 4096 := by have := Finset.mem_range.1 hj; omega
  unfold onNat
  rw [dif_pos hj, dif_pos hj]

theorem pay11_apply (h : Fin 144) (i : Fin 4096) :
    k0_pay11 (F := Ideal) k0_pay3 (k0_pay4 x0 x2 x1 x3) (k0_pay6 x0 x2 x1 x3) (k0_pay7 x0 x2 x1 x3) (ix3 h i 0)
      = lseE (sN x0 x1 x2 x3 h i) (i.val + 1) := by
  have en : IntOp.addi (BitVec.ofNat 32 i.val) 1#32 = BitVec.ofNat 32 (i.val + 1) := by
    show BitVec.ofNat 32 i.val + BitVec.ofNat 32 1 = _
    rw [BitVec.ofNat_add]
  rw [pay11_eq, pay9_apply, pay4_apply, en, sitofp_ofNat _ (by omega)]
  rfl

theorem zero3 : (![0, 0, 0] : Fin 3 → ℕ) = fun _ => 0 := by decide

theorem pay12_eq : k0_pay12 x0 x1 x2 x3 x4 x5 = k0_pay3 := rfl

theorem pay13_eq : k0_pay13 x0 x1 x2 x3 x4 x5 = k0_pay6 x0 x2 x1 x3 := by
  unfold k0_pay13
  rw [View.ld_unit_zero zero3, View.ld_unit_zero zero3, View.ld_unit_zero zero3, View.ld_unit_zero zero3]

theorem pay14_eq : k0_pay14 x0 x1 x2 x3 x4 x5 = k0_pay7 x0 x2 x1 x3 := by
  unfold k0_pay14
  rw [View.ld_unit_zero zero3, View.ld_unit_zero zero3, View.ld_unit_zero zero3, View.ld_unit_zero zero3]

/-- The block of outputs. -/
theorem out6_apply (h : Fin 144) (i : Fin 4096) (d : Fin 128) :
    out0_6 x0 x1 x2 x3 x4 x5 (ix3 h i d) = outE (sN x0 x1 x2 x3 h i) (onNat fun j => x4 (ix3 h j d)) (x5 (ix3 h 0 0)) (i.val + 1) := by
  rw [← pay10_apply]
  frame_out
  rw [pay12_eq, pay13_eq, pay14_eq]

/-- The block of log-sum-exps. -/
theorem out7_apply (h : Fin 144) (i : Fin 4096) :
    out0_7 x0 x1 x2 x3 x4 x5 (ix3 h i 0) = lseE (sN x0 x1 x2 x3 h i) (i.val + 1) := by
  rw [← pay11_apply]
  frame_out
  rw [pay12_eq, pay13_eq, pay14_eq]

end Cert.ReferenceIdeal.Attn
-- ==== Proof.Rgeo.lean ====
module

public import Idealize.ShloMosaic.Lib.Claim
public import Idealize.ShloMosaic.Lib.Pointwise
public import Idealize.ShloMosaic.Lib.Pipeline.ValueKit
public import proofs.«01_k».proof.Proof.Rval

@[expose] public section

set_option maxRecDepth 16384

noncomputable section

/-! The reference's two results, entry by entry. -/
namespace Cert.ReferenceIdeal.Attn

open Idealize.ShloMosaic Idealize.ShloMosaic.TcCoe Idealize.SL.Sem Cert.ReferenceIdeal Cert.ReferenceIdeal.Gen
open Idealize.ShloMosaic.Pipeline (Dat)
open Cert.Att

variable (m : (ℓ : Loc nD τ sig) → Buf (Elt Ideal) ℓ)

/-- Head `h` of batch `b`, among all the heads. -/
def hd (b : Fin 6) (h : Fin 24) : Fin 144 := ⟨b.val * 24 + h.val, by omega⟩

/-! ### What the operations before the launch leave -/

theorem V_v1 (c : Dev nD) (b : Fin 6) (h : Fin 24) (i : Fin 4096) (d : Fin 128) :
    V m c main_v1 (ix3 (hd b h) i d) = m ((c : Thread nD τ).loc main_arg0) (ix4 b i h d) := by
  unfold hd
  simp only [V, V0, List.flatten_cons, List.flatten_nil, List.append_nil]
  entry_read
  pointwise

theorem V_v6 (c : Dev nD) (b : Fin 6) (h : Fin 24) (i : Fin 4096) :
    V m c main_v6 (ix3 (hd b h) i 0) = m ((c : Thread nD τ).loc main_arg1) (ix3 b (row i) h) := by
  unfold hd row
  simp only [V, V0, List.flatten_cons, List.flatten_nil, List.append_nil]
  entry_read
  pointwise
  blk_ext

theorem V_v10 (c : Dev nD) (b : Fin 6) (h : Fin 24) (i : Fin 4096) (d : Fin 128) :
    V m c main_v10 (ix3 (hd b h) i d) = m ((c : Thread nD τ).loc main_arg2) (ix4 b i (kv h) d) := by
  unfold hd kv
  simp only [V, V0, List.flatten_cons, List.flatten_nil, List.append_nil]
  entry_read
  pointwise
  blk_ext

theorem V_v17 (c : Dev nD) (b : Fin 6) (h : Fin 24) (i : Fin 4096) :
    V m c main_v17 (ix3 (hd b h) 0 i) = m ((c : Thread nD τ).loc main_arg3) (ix3 b (row i) (kv h)) := by
  unfold hd kv row
  simp only [V, V0, List.flatten_cons, List.flatten_nil, List.append_nil]
  entry_read
  pointwise
  blk_ext

theorem V_v21 (c : Dev nD) (b : Fin 6) (h : Fin 24) (i : Fin 4096) (d : Fin 128) :
    V m c main_v21 (ix3 (hd b h) i d) = m ((c : Thread nD τ).loc main_arg4) (ix4 b i (kv h) d) := by
  unfold hd kv
  simp only [V, V0, List.flatten_cons, List.flatten_nil, List.append_nil]
  entry_read
  pointwise
  blk_ext

theorem V_v25 (c : Dev nD) (b : Fin 6) (h : Fin 24) :
    V m c main_v25 (ix3 (hd b h) 0 0) = m ((c : Thread nD τ).loc main_arg5) (ix2 b (kv h)) := by
  unfold hd kv
  simp only [V, V0, List.flatten_cons, List.flatten_nil, List.append_nil]
  entry_read
  pointwise
  blk_ext

/-! ### What the operations after it leave -/

theorem W_v28 (c : Dev nD) (b : Fin 6) (i : Fin 4096) (h : Fin 24) (d : Fin 128) :
    Pipeline.afterTail₀ cfgs (dats m) 0 (V0 m) [hostOps1] c main_v28 (ix4 b i h d) = (dats m 0 c).arrAt 6 cfg0.N (ix3 (hd b h) i d) := by
  unfold hd Pipeline.afterTail₀
  simp only [List.flatten_cons, List.flatten_nil, List.append_nil]
  entry_read
  have e := Pipeline.withArrays_arr spec0 (by decide) c (V0 m c) (fun w => (dats m 0 c).arrAt w cfg0.N) 6
  generalize Pipeline.withArrays _ _ _ _ _ = A at e ⊢
  subst e
  generalize (dats m 0 c).arrAt 6 cfg0.N = A
  pointwise

theorem W_v30 (c : Dev nD) (b : Fin 6) (i : Fin 4096) (h : Fin 24) :
    Pipeline.afterTail₀ cfgs (dats m) 0 (V0 m) [hostOps1] c main_v30 (ix3 b i h) = (dats m 0 c).arrAt 7 cfg0.N (ix3 (hd b h) i 0) := by
  unfold hd Pipeline.afterTail₀
  simp only [List.flatten_cons, List.flatten_nil, List.append_nil]
  entry_read
  have e := Pipeline.withArrays_arr spec0 (by decide) c (V0 m c) (fun w => (dats m 0 c).arrAt w cfg0.N) 7
  generalize Pipeline.withArrays _ _ _ _ _ = A at e ⊢
  subst e
  generalize (dats m 0 c).arrAt 7 cfg0.N = A
  pointwise

/-! ### The launch: one point, every block its whole array -/

theorem idx : ∀ t : Fin cfg0.N, win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] ∧ win0_7.index t = ![0, 0, 0] :=
  (by decide +kernel : ∀ t : Fin grid0.N, _)

theorem iblk0 (c : Dev nD) (t : Fin cfg0.N) : iblk m c 0 t = V m c main_v1 := by blk_ext! [iblk, idx t]
theorem iblk1 (c : Dev nD) (t : Fin cfg0.N) : iblk m c 1 t = V m c main_v6 := by blk_ext! [iblk, idx t]
theorem iblk2 (c : Dev nD) (t : Fin cfg0.N) : iblk m c 2 t = V m c main_v10 := by blk_ext! [iblk, idx t]
theorem iblk3 (c : Dev nD) (t : Fin cfg0.N) : iblk m c 3 t = V m c main_v17 := by blk_ext! [iblk, idx t]
theorem iblk4 (c : Dev nD) (t : Fin cfg0.N) : iblk m c 4 t = V m c main_v21 := by blk_ext! [iblk, idx t]
theorem iblk5 (c : Dev nD) (t : Fin cfg0.N) : iblk m c 5 t = V m c main_v25 := by blk_ext! [iblk, idx t]

theorem final6 (c : Dev nD) : (dats m 0 c).arrAt 6 cfg0.N
    = out0_6 (V m c main_v1) (V m c main_v6) (V m c main_v10) (V m c main_v17) (V m c main_v21) (V m c main_v25) := by
  refine (dats m 0 c).arrAt_eq_of_after_last 6 t0_0 (by decide +kernel) _ fun j => ?_
  blk_simp
  rw [after0_6, iblk0, iblk1, iblk2, iblk3, iblk4, iblk5]

theorem final7 (c : Dev nD) : (dats m 0 c).arrAt 7 cfg0.N
    = out0_7 (V m c main_v1) (V m c main_v6) (V m c main_v10) (V m c main_v17) (V m c main_v21) (V m c main_v25) := by
  refine (dats m 0 c).arrAt_eq_of_after_last 7 t0_0 (by decide +kernel) _ fun j => ?_
  blk_simp
  rw [after0_7, iblk0, iblk1, iblk2, iblk3, iblk4, iblk5]

/-! ### The results -/

theorem sN_eq (c : Dev nD) (b : Fin 6) (h : Fin 24) (s : Fin 4096) :
    sN (V m c main_v1) (V m c main_v6) (V m c main_v10) (V m c main_v17) (hd b h) s
      = onNat (score (m ((c : Thread nD τ).loc main_arg0)) (m ((c : Thread nD τ).loc main_arg1)) (m ((c : Thread nD τ).loc main_arg2)) (m ((c : Thread nD τ).loc main_arg3)) b h s) := by
  refine congrArg onNat (funext fun j => ?_)
  unfold sE score
  rw [V_v6, V_v17]
  refine congrArg (· * _ * _ * _) (Finset.sum_congr rfl fun d _ => ?_)
  rw [V_v1, V_v10]

theorem out_eq (c : Dev nD) (b : Fin 6) (s : Fin 4096) (h : Fin 24) (d : Fin 128) :
    Pipeline.afterTail₀ cfgs (dats m) 0 (V0 m) [hostOps1] c main_v28 (ix4 b s h d)
      = outAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b s h d := by
  refine (W_v28 m c b s h d).trans ((congrFun (final6 m c) _).trans ((out6_apply _ _ _ _ _ _ (hd b h) s d).trans ?_))
  unfold outAt
  rw [sN_eq, V_v25]
  exact congrArg (outE _ · _ _) (congrArg onNat (funext fun j => V_v21 m c b h j d))

theorem lse_eq (c : Dev nD) (b : Fin 6) (s : Fin 4096) (h : Fin 24) :
    Pipeline.afterTail₀ cfgs (dats m) 0 (V0 m) [hostOps1] c main_v30 (ix3 b s h)
      = lseAt (m ((c : Thread nD τ).loc main_arg0)) (m ((c : Thread nD τ).loc main_arg1)) (m ((c : Thread nD τ).loc main_arg2))
          (m ((c : Thread nD τ).loc main_arg3)) b s h := by
  refine (W_v30 m c b s h).trans ((congrFun (final7 m c) _).trans ((out7_apply _ _ _ _ _ _ (hd b h) s).trans ?_))
  unfold lseAt
  rw [sN_eq]

end Cert.ReferenceIdeal.Attn
-- ==== Proof.lean ====
module

public import Idealize.ShloMosaic.Lib.Claim
public import Idealize.ShloMosaic.Lib.Pointwise
public import Idealize.ShloMosaic.Lib.Pipeline.ValueKit
public import proofs.«01_k».proof.Defs
public import proofs.«01_k».proof.Proof.Run
public import proofs.«01_k».proof.Proof.Same
public import proofs.«01_k».proof.Proof.Kres
public import proofs.«01_k».proof.Proof.Rgeo
public import proofs.«01_k».proof.Proof.Gen.Kernel
public import proofs.«01_k».proof.Proof.Gen.ReferenceIdeal.Frame
public import proofs.«01_k».proof.Proof.Gen.Pre_scales_nonneg

/-! The certificate: the frames of the three programs, and that the idealized kernel and reference end with equal results. -/

@[expose] public section

set_option maxRecDepth 16384

namespace Cert.Proof

open Idealize.ShloMosaic Idealize.ShloMosaic.TcCoe Idealize.SL.Sem

/-- The program's run at the machine's own floats is its idealization's run there. -/
theorem frame_kernel : @Cert.quiescent_Kernel Cert.Kernel.Gen.facts := fun m ρ _ =>
  @Cert.Same.run_of Bits _ Cert.Kernel.Gen.facts Cert.KernelIdeal.Gen.facts ⟨m, fun _ => 0, ρ⟩ _
    (Cert.KernelIdeal.Attn.frame (F := Bits) m ρ)

attribute [local instance] Cert.Pre_scales_nonneg.Gen.facts

/-- A comparison with zero that holds everywhere, read at one place. -/
theorem nonneg_of_oge {s : Shape} (x z : FVec Ideal s .f32) (hz : ∀ y, z y = (0 : EReal)) (h : cmpf .oge x z = fun _ => 1#1) (y : s.Idx) :
    @LE.le EReal _ 0 (x y) := by
  have e : Ideal.cmp .oge (x y) (z y) = 1#1 := congrFun h y
  rw [hz y] at e
  by_contra hn
  simp [Ideal.cmp, hn] at e

/-- The precondition, read: no scale of a query or key is negative. -/
theorem scales (m : (ℓ : Loc Cert.KernelIdeal.nD Cert.KernelIdeal.τ Cert.KernelIdeal.sig) → Buf (Elt Ideal) ℓ)
    (h : Cert.Pre_KernelIdeal_scales_nonneg m) (c : Dev Cert.KernelIdeal.nD) :
    (∀ y, 0 ≤ Cert.KernelIdeal.Attn.aQs m c y) ∧ ∀ y, 0 ≤ Cert.KernelIdeal.Attn.aKs m c y :=
  ⟨nonneg_of_oge _ _ (fun _ => Ideal.ofBits_zero_f32) (h c).1, nonneg_of_oge _ _ (fun _ => Ideal.ofBits_zero_f32) (h c).2⟩

/-- The two programs end with equal results, from equal arguments whose scales are not negative. -/
theorem algebraic : @Cert.algebraic_KernelIdeal_ReferenceIdeal_pre_scales_nonneg Cert.KernelIdeal.Gen.facts Cert.ReferenceIdeal.Gen.facts
    Cert.Pre_scales_nonneg.Gen.facts := by
  intro m g m' g' hpre hagree
  refine ⟨fun c => Pipeline.afterTail₀ Cert.KernelIdeal.cfgs (Cert.KernelIdeal.Attn.dats m) 0 (Cert.KernelIdeal.Gen.V0 m) [Cert.KernelIdeal.Gen.hostOps1] c Cert.KernelIdeal.main_v7,
    fun c => Pipeline.afterTail₀ Cert.KernelIdeal.cfgs (Cert.KernelIdeal.Attn.dats m) 0 (Cert.KernelIdeal.Gen.V0 m) [Cert.KernelIdeal.Gen.hostOps1] c Cert.KernelIdeal.main_v9, ?_, ?_⟩
  · refine θ_run_mono (θ_run_and (Cert.KernelIdeal.Attn.run_main m g) (Cert.KernelIdeal.Attn.unchanged m g)) fun r hr c => ?_
    exact ⟨hr.1.rest_eq c Cert.KernelIdeal.main_v7 (by decide), hr.1.rest_eq c Cert.KernelIdeal.main_v9 (by decide), hr.2 c⟩
  · refine θ_run_mono (θ_run_and (Cert.ReferenceIdeal.Gen.run_main m' g') (Cert.ReferenceIdeal.Gen.unchanged m' g')) fun r hr c => ?_
    obtain ⟨hq, hk⟩ := scales m hpre c
    obtain ⟨a0, a1, a2, a3, a4, a5⟩ := hagree c
    refine ⟨(hr.1.rest_eq c Cert.ReferenceIdeal.main_v28 (by decide)).trans ?_, (hr.1.rest_eq c Cert.ReferenceIdeal.main_v30 (by decide)).trans ?_, hr.2 c⟩
    · funext j
      idx_vars j
      refine (Cert.ReferenceIdeal.Attn.out_eq m' c _ _ _ _).trans (Eq.trans ?_ (Cert.KernelIdeal.Attn.out_res m c hq hk _ _ _ _).symm)
      rw [a0, a1, a2, a3, a4, a5]
    · funext j
      idx_vars j
      refine (Cert.ReferenceIdeal.Attn.lse_eq m' c _ _ _).trans (Eq.trans ?_ (Cert.KernelIdeal.Attn.lse_res m c hq hk _ _ _).symm)
      rw [a0, a1, a2, a3]

theorem claim : Cert.Claim :=
  ⟨Cert.Kernel.Gen.facts, Cert.KernelIdeal.Gen.facts, Cert.ReferenceIdeal.Gen.facts, Cert.Pre_scales_nonneg.Gen.facts,
    frame_kernel, fun m ρ _ => Cert.KernelIdeal.Attn.frame m ρ, fun m ρ _ => Cert.KernelIdeal.Attn.frame m ρ,
    fun m ρ _ => Cert.ReferenceIdeal.Gen.frame m ρ, fun m ρ _ => Cert.ReferenceIdeal.Gen.frame m ρ, trivial, algebraic⟩

end Cert.Proof
